-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v21_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel7_Kernel7Ideal : Prop :=
  True

def preserves_Kernel9_Kernel9Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hKernel9 : Cert.Kernel9.Facts) (hKernel9Ideal : Cert.Kernel9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel7 (hKernel7 := hKernel7)
    ∧ quiescent_Kernel7Ideal (hKernel7Ideal := hKernel7Ideal)
    ∧ quiescent_Kernel9 (hKernel9 := hKernel9)
    ∧ quiescent_Kernel9Ideal (hKernel9Ideal := hKernel9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel7_Kernel7Ideal
    ∧ preserves_Kernel9_Kernel9Ideal
-- ==== Kernel.lean ====
abbrev S2x256x2048 : Shape := ⟨3, ![2, 256, 2048]⟩
abbrev S2x8x6144 : Shape := ⟨3, ![2, 8, 6144]⟩
abbrev S2x2048x13408 : Shape := ⟨3, ![2, 2048, 13408]⟩
abbrev S2x13408x2048 : Shape := ⟨3, ![2, 13408, 2048]⟩
abbrev S1x32x2048 : Shape := ⟨3, ![1, 32, 2048]⟩
abbrev S32x2048 : Shape := ⟨2, ![32, 2048]⟩
abbrev S_ : Shape := ⟨0, ![]⟩
abbrev S96x2048 : Shape := ⟨2, ![96, 2048]⟩
abbrev S128x2048 : Shape := ⟨2, ![128, 2048]⟩
abbrev S1x64x2048 : Shape := ⟨3, ![1, 64, 2048]⟩
abbrev S64x2048 : Shape := ⟨2, ![64, 2048]⟩
abbrev S2048x64 : Shape := ⟨2, ![2048, 64]⟩
abbrev S2048x2x16x2 : Shape := ⟨4, ![2048, 2, 16, 2]⟩
abbrev S2048x2x2x16 : Shape := ⟨4, ![2048, 2, 2, 16]⟩
abbrev S1x8x2048 : Shape := ⟨3, ![1, 8, 2048]⟩
abbrev S8x2048 : Shape := ⟨2, ![8, 2048]⟩
abbrev S8x1x2048 : Shape := ⟨3, ![8, 1, 2048]⟩
abbrev S256x2048 : Shape := ⟨2, ![256, 2048]⟩
abbrev S512x2048 : Shape := ⟨2, ![512, 2048]⟩
abbrev S512x13312 : Shape := ⟨2, ![512, 13312]⟩
abbrev S512x256 : Shape := ⟨2, ![512, 256]⟩
abbrev S13312x2048 : Shape := ⟨2, ![13312, 2048]⟩
abbrev S1x1x2048 : Shape := ⟨3, ![1, 1, 2048]⟩
abbrev S1x1024x2048 : Shape := ⟨3, ![1, 1024, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S1x2048 : Shape := ⟨2, ![1, 2048]⟩

abbrev nBuf : Space → Nat
  | .hbm => 34
  | .vmem => 12
  | .smem => 0
  | _ => 0

abbrev bufTy : (tb : Table) → Fin (tcTables nBuf tb) → BufTy
  | .hbm, ⟨0, _⟩ => ⟨S2x256x2048, .f32⟩
  | .hbm, ⟨1, _⟩ => ⟨S2x8x6144, .f32⟩
  | .hbm, ⟨2, _⟩ => ⟨S2x2048x13408, .f32⟩
  | .hbm, ⟨3, _⟩ => ⟨S2x13408x2048, .f32⟩
  | .hbm, ⟨4, _⟩ => ⟨S1x32x2048, .f32⟩
  | .hbm, ⟨5, _⟩ => ⟨S32x2048, .f32⟩
  | .hbm, ⟨6, _⟩ => ⟨S_, .f32⟩
  | .hbm, ⟨7, _⟩ => ⟨S96x2048, .f32⟩
  | .hbm, ⟨8, _⟩ => ⟨S128x2048, .f32⟩
  | .hbm, ⟨9, _⟩ => ⟨S1x64x2048, .f32⟩
  | .hbm, ⟨10, _⟩ => ⟨S64x2048, .f32⟩
  | .hbm, ⟨11, _⟩ => ⟨S2048x64, .f32⟩
  | .hbm, ⟨12, _⟩ => ⟨S2048x2x16x2, .f32⟩
  | .hbm, ⟨13, _⟩ => ⟨S2048x2x2x16, .f32⟩
  | .hbm, ⟨14, _⟩ => ⟨S2048x64, .f32⟩
  | .hbm, ⟨15, _⟩ => ⟨S64x2048, .f32⟩
  | .hbm, ⟨16, _⟩ => ⟨S_, .f32⟩
  | .hbm, ⟨17, _⟩ => ⟨S64x2048, .f32⟩
  | .hbm, ⟨18, _⟩ => ⟨S128x2048, .f32⟩
  | .hbm, ⟨19, _⟩ => ⟨S1x8x2048, .f32⟩
  | .hbm, ⟨20, _⟩ => ⟨S8x2048, .f32⟩
  | .hbm, ⟨21, _⟩ => ⟨S8x1x2048, .f32⟩
  | .hbm, ⟨22, _⟩ => ⟨S1x8x2048, .f32⟩
  | .hbm, ⟨23, _⟩ => ⟨S8x2048, .f32⟩
  | .hbm, ⟨24, _⟩ => ⟨S8x1x2048, .f32⟩
  | .hbm, ⟨25, _⟩ => ⟨S1x8x2048, .f32⟩
  | .hbm, ⟨26, _⟩ => ⟨S8x2048, .f32⟩
  | .hbm, ⟨27, _⟩ => ⟨S8x1x2048, .f32⟩
  | .hbm, ⟨28, _⟩ => ⟨S256x2048, .f32⟩
  | .hbm, ⟨29, _⟩ => ⟨S512x2048, .f32⟩
  | .hbm, ⟨30, _⟩ => ⟨S512x13312, .bf16⟩
  | .hbm, ⟨31, _⟩ => ⟨S512x256, .f32⟩
  | .hbm, ⟨32, _⟩ => ⟨S512x2048, .bf16⟩
  | .hbm, ⟨33, _⟩ => ⟨S13312x2048, .bf16⟩
  | .local _ .vmem, ⟨0, _⟩ => ⟨S512x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S256x2048, .f32⟩
  | .local _ .vmem, ⟨6, _⟩ => ⟨S512x1024, .bf16⟩
  | .local _ .vmem, ⟨7, _⟩ => ⟨S512x1024, .bf16⟩
  | .local _ .vmem, ⟨8, _⟩ => ⟨S512x256, .f32⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![1, 13], ![false, false]⟩

def k0_mult1 (i : grid0.Coords) : BitVec 32 :=
  let arg1 : BitVec 32 := BitVec.ofNat 32 (i 1).val
  let c12_i32 : BitVec 32 := 12#32
  let v22 : BitVec 1 := Scalar.cmpi .sge arg1 c12_i32
  let c12384_i32 : BitVec 32 := 12384#32
  let c11_i32 : BitVec 32 := 11#32
  let v20 : BitVec 1 := Scalar.cmpi .sge arg1 c11_i32
  let c11360_i32 : BitVec 32 := 11360#32
  let c10_i32 : BitVec 32 := 10#32
  let v18 : BitVec 1 := Scalar.cmpi .sge arg1 c10_i32
  let c10272_i32 : BitVec 32 := 10272#32
  let c9_i32 : BitVec 32 := 9#32
  let v16 : BitVec 1 := Scalar.cmpi .sge arg1 c9_i32
  let c9248_i32 : BitVec 32 := 9248#32
  let c8_i32 : BitVec 32 := 8#32
  let v14 : BitVec 1 := Scalar.cmpi .sge arg1 c8_i32
  let c8224_i32 : BitVec 32 := 8224#32
  let c7_i32 : BitVec 32 := 7#32
  let v12 : BitVec 1 := Scalar.cmpi .sge arg1 c7_i32
  let c7168_i32 : BitVec 32 := 7168#32
  let c6_i32 : BitVec 32 := 6#32
  let v10 : BitVec 1 := Scalar.cmpi .sge arg1 c6_i32
  let c6144_i32 : BitVec 32 := 6144#32
  let c5_i32 : BitVec 32 := 5#32
  let v8 : BitVec 1 := Scalar.cmpi .sge arg1 c5_i32
  let c5120_i32 : BitVec 32 := 5120#32
  let c4_i32 : BitVec 32 := 4#32
  let v6 : BitVec 1 := Scalar.cmpi .sge arg1 c4_i32
  let c4096_i32 : BitVec 32 := 4096#32
  let c3_i32 : BitVec 32 := 3#32
  let v4 : BitVec 1 := Scalar.cmpi .sge arg1 c3_i32
  let c3072_i32 : BitVec 32 := 3072#32
  let c2_i32 : BitVec 32 := 2#32
  let v2 : BitVec 1 := Scalar.cmpi .sge arg1 c2_i32
  let c2048_i32 : BitVec 32 := 2048#32
  let c1_i32 : BitVec 32 := 1#32
  let v0 : BitVec 1 := Scalar.cmpi .sge arg1 c1_i32
  let c1024_i32 : BitVec 32 := 1024#32
  let c0_i32 : BitVec 32 := 0#32
  let v1 : BitVec 32 := Scalar.select v0 c1024_i32 c0_i32
  let v3 : BitVec 32 := Scalar.select v2 c2048_i32 v1
  let v5 : BitVec 32 := Scalar.select v4 c3072_i32 v3
  let v7 : BitVec 32 := Scalar.select v6 c4096_i32 v5
  let v9 : BitVec 32 := Scalar.select v8 c5120_i32 v7
  let v11 : BitVec 32 := Scalar.select v10 c6144_i32 v9
  let v13 : BitVec 32 := Scalar.select v12 c7168_i32 v11
  let v15 : BitVec 32 := Scalar.select v14 c8224_i32 v13
  let v17 : BitVec 32 := Scalar.select v16 c9248_i32 v15
  let v19 : BitVec 32 := Scalar.select v18 c10272_i32 v17
  let v21 : BitVec 32 := Scalar.select v20 c11360_i32 v19
  let v23 : BitVec 32 := Scalar.select v22 c12384_i32 v21
  v23
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1024_i32 : BitVec 32 := 1024#32
  let c0_i32 : BitVec 32 := 0#32
  let v1 : BitVec 32 := Scalar.select v0 c1024_i32 c0_i32
  let c2_i32 : BitVec 32 := 2#32
  let v2 : BitVec 1 := Scalar.cmpi .sge arg1 c2_i32
  let c2048_i32 : BitVec 32 := 2048#32
  let v3 : BitVec 32 := Scalar.select v2 c2048_i32 v1
  let c3_i32 : BitVec 32 := 3#32
  let v4 : BitVec 1 := Scalar.cmpi .sge arg1 c3_i32
  let c3072_i32 : BitVec 32 := 3072#32
  let v5 : BitVec 32 := Scalar.select v4 c3072_i32 v3
  let c4_i32 : BitVec 32 := 4#32
  let v6 : BitVec 1 := Scalar.cmpi .sge arg1 c4_i32
  let c4096_i32 : BitVec 32 := 4096#32
  let v7 : BitVec 32 := Scalar.select v6 c4096_i32 v5
  let c5_i32 : BitVec 32 := 5#32
  let v8 : BitVec 1 := Scalar.cmpi .sge arg1 c5_i32
  let c5120_i32 : BitVec 32 := 5120#32
  let v9 : BitVec 32 := Scalar.select v8 c5120_i32 v7
  let c6_i32 : BitVec 32 := 6#32
  let v10 : BitVec 1 := Scalar.cmpi .sge arg1 c6_i32
  let c6144_i32 : BitVec 32 := 6144#32
  let v11 : BitVec 32 := Scalar.select v10 c6144_i32 v9
  let c7_i32 : BitVec 32 := 7#32
  let v12 : BitVec 1 := Scalar.cmpi .sge arg1 c7_i32
  let c7168_i32 : BitVec 32 := 7168#32
  let v13 : BitVec 32 := Scalar.select v12 c7168_i32 v11
  let c8_i32 : BitVec 32 := 8#32
  let v14 : BitVec 1 := Scalar.cmpi .sge arg1 c8_i32
  let c8224_i32 : BitVec 32 := 8224#32
  let v15 : BitVec 32 := Scalar.select v14 c8224_i32 v13
  let c9_i32 : BitVec 32 := 9#32
  let v16 : BitVec 1 := Scalar.cmpi .sge arg1 c9_i32
  let c9248_i32 : BitVec 32 := 9248#32
  let v17 : BitVec 32 := Scalar.select v16 c9248_i32 v15
  let c10_i32 : BitVec 32 := 10#32
  let v18 : BitVec 1 := Scalar.cmpi .sge arg1 c10_i32
  let c10272_i32 : BitVec 32 := 10272#32
  let v19 : BitVec 32 := Scalar.select v18 c10272_i32 v17
  let c11_i32 : BitVec 32 := 11#32
  let v20 : BitVec 1 := Scalar.cmpi .sge arg1 c11_i32
  let c11360_i32 : BitVec 32 := 11360#32
  let v21 : BitVec 32 := Scalar.select v20 c11360_i32 v19
  let c12_i32 : BitVec 32 := 12#32
  let v22 : BitVec 1 := Scalar.cmpi .sge arg1 c12_i32
  let c12384_i32 : BitVec 32 := 12384#32
  let v23 : BitVec 32 := Scalar.select v22 c12384_i32 v21
  let v24 : BitVec 32 := v23
  let c1_i32_0 : BitVec 32 := 1#32
  let c0_i32_1 : BitVec 32 := 0#32
  let c0_i32_2 : BitVec 32 := 0#32
  ![c1_i32_0.toNat, v24.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== ReferenceIdeal.lean ====
abbrev S2x256x2048 : Shape := ⟨3, ![2, 256, 2048]⟩
abbrev S2x8x6144 : Shape := ⟨3, ![2, 8, 6144]⟩
abbrev S2x2048x13408 : Shape := ⟨3, ![2, 2048, 13408]⟩
abbrev S1x1x6144 : Shape := ⟨3, ![1, 1, 6144]⟩
abbrev S6144 : Shape := ⟨1, ![6144]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x13408 : Shape := ⟨3, ![1, 2048, 13408]⟩
abbrev S2048x13408 : Shape := ⟨2, ![2048, 13408]⟩
abbrev S2x256x13408 : Shape := ⟨3, ![2, 256, 13408]⟩
abbrev S512x13408 : Shape := ⟨2, ![512, 13408]⟩
abbrev S512x1024 : Shape := ⟨2, ![512, 1024]⟩
abbrev S512x2048 : Shape := ⟨2, ![512, 2048]⟩
abbrev S512x32 : Shape := ⟨2, ![512, 32]⟩
abbrev S512x3072 : Shape := ⟨2, ![512, 3072]⟩
abbrev S512x64 : Shape := ⟨2, ![512, 64]⟩
abbrev S512x13312 : Shape := ⟨2, ![512, 13312]⟩
abbrev S512x96 : Shape := ⟨2, ![512, 96]⟩
abbrev S512x16 : Shape := ⟨2, ![512, 16]⟩
abbrev S512x256 : Shape := ⟨2, ![512, 256]⟩
abbrev S2048x1024 : Shape := ⟨2, ![2048, 1024]⟩
abbrev S2048x2048 : Shape := ⟨2, ![2048, 2048]⟩
abbrev S2048x32 : Shape := ⟨2, ![2048, 32]⟩
abbrev S2048x3072 : Shape := ⟨2, ![2048, 3072]⟩
abbrev S2048x64 : Shape := ⟨2, ![2048, 64]⟩
abbrev S2048x13312 : Shape := ⟨2, ![2048, 13312]⟩
abbrev S13312x2048 : Shape := ⟨2, ![13312, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x8x6144, .f32⟩
  | .hbm, ⟨2, _⟩ => ⟨S2x2048x13408, .f32⟩
  | .hbm, ⟨3, _⟩ => ⟨S1x1x6144, .f32⟩
  | .hbm, ⟨4, _⟩ => ⟨S6144, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256, .f32⟩
  | .hbm, ⟨19, _⟩ => ⟨S2x256x1, .f32⟩
  | .hbm, ⟨20, _⟩ => ⟨S_, .f32⟩
  | .hbm, ⟨21, _⟩ => ⟨S2x256x1, .f32⟩
  | .hbm, ⟨22, _⟩ => ⟨S2x256x1, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S2x256x1, .f32⟩
  | .hbm, ⟨29, _⟩ => ⟨S2x256x2048, .f32⟩
  | .hbm, ⟨30, _⟩ => ⟨S2x256x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S1x1x2048, .f32⟩
  | .hbm, ⟨35, _⟩ => ⟨S2x256x2048, .f32⟩
  | .hbm, ⟨36, _⟩ => ⟨S2x256x2048, .f32⟩
  | .hbm, ⟨37, _⟩ => ⟨S1x1x2048, .f32⟩
  | .hbm, ⟨38, _⟩ => ⟨S2x256x2048, .f32⟩
  | .hbm, ⟨39, _⟩ => ⟨S2x256x2048, .f32⟩
  | .hbm, ⟨40, _⟩ => ⟨S1x2048x13408, .f32⟩
  | .hbm, ⟨41, _⟩ => ⟨S2048x13408, .f32⟩
  | .hbm, ⟨42, _⟩ => ⟨S2x256x13408, .f32⟩
  | .hbm, ⟨43, _⟩ => ⟨S512x13408, .f32⟩
  | .hbm, ⟨44, _⟩ => ⟨S512x1024, .f32⟩
  | .hbm, ⟨45, _⟩ => ⟨S512x1024, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S512x32, .f32⟩
  | .hbm, ⟨50, _⟩ => ⟨S512x3072, .f32⟩
  | .hbm, ⟨51, _⟩ => ⟨S512x64, .f32⟩
  | .hbm, ⟨52, _⟩ => ⟨S512x2048, .f32⟩
  | .hbm, ⟨53, _⟩ => ⟨S512x13312, .f32⟩
  | .hbm, ⟨54, _⟩ => ⟨S_, .f32⟩
  | .hbm, ⟨55, _⟩ => ⟨S512x96, .f32⟩
  | .hbm, ⟨56, _⟩ => ⟨S512x16, .f32⟩
  | .hbm, ⟨57, _⟩ => ⟨S512x16, .f32⟩
  | .hbm, ⟨58, _⟩ => ⟨S512x16, .f32⟩
  | .hbm, ⟨59, _⟩ => ⟨S512x16, .f32⟩
  | .hbm, ⟨60, _⟩ => ⟨S_, .f32⟩
  | .hbm, ⟨61, _⟩ => ⟨S512x64, .f32⟩
  | .hbm, ⟨62, _⟩ => ⟨S512x256, .f32⟩
  | .hbm, ⟨63, _⟩ => ⟨S2048x1024, .f32⟩
  | .hbm, ⟨64, _⟩ => ⟨S2048x1024, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x32, .f32⟩
  | .hbm, ⟨69, _⟩ => ⟨S2048x3072, .f32⟩
  | .hbm, ⟨70, _⟩ => ⟨S2048x64, .f32⟩
  | .hbm, ⟨71, _⟩ => ⟨S2048x2048, .f32⟩
  | .hbm, ⟨72, _⟩ => ⟨S2048x13312, .f32⟩
  | .hbm, ⟨73, _⟩ => ⟨S13312x2048, .f32⟩
  | .hbm, ⟨74, _⟩ => ⟨S512x13312, .bf16⟩
  | .hbm, ⟨75, _⟩ => ⟨S512x2048, .f32⟩
  | .hbm, ⟨76, _⟩ => ⟨S512x2048, .bf16⟩
  | .hbm, ⟨77, _⟩ => ⟨S13312x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== Kernel2.lean ====
abbrev S2x8192x2048 : Shape := ⟨3, ![2, 8192, 2048]⟩
abbrev S2x8x6144 : Shape := ⟨3, ![2, 8, 6144]⟩
abbrev S2x2048x13408 : Shape := ⟨3, ![2, 2048, 13408]⟩
abbrev S2x13408x2048 : Shape := ⟨3, ![2, 13408, 2048]⟩
abbrev S1x32x2048 : Shape := ⟨3, ![1, 32, 2048]⟩
abbrev S32x2048 : Shape := ⟨2, ![32, 2048]⟩
abbrev S_ : Shape := ⟨0, ![]⟩
abbrev S96x2048 : Shape := ⟨2, ![96, 2048]⟩
abbrev S128x2048 : Shape := ⟨2, ![128, 2048]⟩
abbrev S1x64x2048 : Shape := ⟨3, ![1, 64, 2048]⟩
abbrev S64x2048 : Shape := ⟨2, ![64, 2048]⟩
abbrev S2048x64 : Shape := ⟨2, ![2048, 64]⟩
abbrev S2048x2x16x2 : Shape := ⟨4, ![2048, 2, 16, 2]⟩
abbrev S2048x2x2x16 : Shape := ⟨4, ![2048, 2, 2, 16]⟩
abbrev S1x2048x8192 : Shape := ⟨3, ![1, 2048, 8192]⟩
abbrev S2048x8192 : Shape := ⟨2, ![2048, 8192]⟩
abbrev S1x2048x3072 : Shape := ⟨3, ![1, 2048, 3072]⟩
abbrev S2048x3072 : Shape := ⟨2, ![2048, 3072]⟩
abbrev S1x2048x2048 : Shape := ⟨3, ![1, 2048, 2048]⟩
abbrev S2048x2048 : Shape := ⟨2, ![2048, 2048]⟩
abbrev S2048x13312 : Shape := ⟨2, ![2048, 13312]⟩
abbrev S13312x2048 : Shape := ⟨2, ![13312, 2048]⟩
abbrev S1x8x2048 : Shape := ⟨3, ![1, 8, 2048]⟩
abbrev S8x2048 : Shape := ⟨2, ![8, 2048]⟩
abbrev S8x1x2048 : Shape := ⟨3, ![8, 1, 2048]⟩
abbrev S16384x2048 : Shape := ⟨2, ![16384, 2048]⟩
abbrev S16384x8192 : Shape := ⟨2, ![16384, 8192]⟩
abbrev S16384x128 : Shape := ⟨2, ![16384, 128]⟩
abbrev S1024x2048 : Shape := ⟨2, ![1024, 2048]⟩
abbrev S1x1x2048 : Shape := ⟨3, ![1, 1, 2048]⟩
abbrev S1024x128 : Shape := ⟨2, ![1024, 128]⟩
abbrev S1024 : Shape := ⟨1, ![1024]⟩
abbrev S1024x1 : Shape := ⟨2, ![1024, 1]⟩
abbrev S1x2048 : Shape := ⟨2, ![1, 2048]⟩

abbrev nBuf : Space → Nat
  | .hbm => 41
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x8x6144, .f32⟩
  | .hbm, ⟨2, _⟩ => ⟨S2x2048x13408, .f32⟩
  | .hbm, ⟨3, _⟩ => ⟨S2x13408x2048, .f32⟩
  | .hbm, ⟨4, _⟩ => ⟨S1x32x2048, .f32⟩
  | .hbm, ⟨5, _⟩ => ⟨S32x2048, .f32⟩
  | .hbm, ⟨6, _⟩ => ⟨S_, .f32⟩
  | .hbm, ⟨7, _⟩ => ⟨S96x2048, .f32⟩
  | .hbm, ⟨8, _⟩ => ⟨S128x2048, .f32⟩
  | .hbm, ⟨9, _⟩ => ⟨S1x64x2048, .f32⟩
  | .hbm, ⟨10, _⟩ => ⟨S64x2048, .f32⟩
  | .hbm, ⟨11, _⟩ => ⟨S2048x64, .f32⟩
  | .hbm, ⟨12, _⟩ => ⟨S2048x2x16x2, .f32⟩
  | .hbm, ⟨13, _⟩ => ⟨S2048x2x2x16, .f32⟩
  | .hbm, ⟨14, _⟩ => ⟨S2048x64, .f32⟩
  | .hbm, ⟨15, _⟩ => ⟨S64x2048, .f32⟩
  | .hbm, ⟨16, _⟩ => ⟨S_, .f32⟩
  | .hbm, ⟨17, _⟩ => ⟨S64x2048, .f32⟩
  | .hbm, ⟨18, _⟩ => ⟨S128x2048, .f32⟩
  | .hbm, ⟨19, _⟩ => ⟨S1x2048x8192, .f32⟩
  | .hbm, ⟨20, _⟩ => ⟨S2048x8192, .f32⟩
  | .hbm, ⟨21, _⟩ => ⟨S1x2048x3072, .f32⟩
  | .hbm, ⟨22, _⟩ => ⟨S2048x3072, .f32⟩
  | .hbm, ⟨23, _⟩ => ⟨S1x2048x2048, .f32⟩
  | .hbm, ⟨24, _⟩ => ⟨S2048x2048, .f32⟩
  | .hbm, ⟨25, _⟩ => ⟨S2048x13312, .f32⟩
  | .hbm, ⟨26, _⟩ => ⟨S13312x2048, .f32⟩
  | .hbm, ⟨27, _⟩ => ⟨S13312x2048, .bf16⟩
  | .hbm, ⟨28, _⟩ => ⟨S1x8x2048, .f32⟩
  | .hbm, ⟨29, _⟩ => ⟨S8x2048, .f32⟩
  | .hbm, ⟨30, _⟩ => ⟨S8x1x2048, .f32⟩
  | .hbm, ⟨31, _⟩ => ⟨S1x8x2048, .f32⟩
  | .hbm, ⟨32, _⟩ => ⟨S8x2048, .f32⟩
  | .hbm, ⟨33, _⟩ => ⟨S8x1x2048, .f32⟩
  | .hbm, ⟨34, _⟩ => ⟨S1x8x2048, .f32⟩
  | .hbm, ⟨35, _⟩ => ⟨S8x2048, .f32⟩
  | .hbm, ⟨36, _⟩ => ⟨S8x1x2048, .f32⟩
  | .hbm, ⟨37, _⟩ => ⟨S16384x2048, .f32⟩
  | .hbm, ⟨38, _⟩ => ⟨S16384x8192, .bf16⟩
  | .hbm, ⟨39, _⟩ => ⟨S16384x128, .f32⟩
  | .hbm, ⟨40, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S2048x2048, .bf16⟩
  | .local _ .vmem, ⟨8, _⟩ => ⟨S128x2048, .f32⟩
  | .local _ .vmem, ⟨9, _⟩ => ⟨S1024x2048, .bf16⟩
  | .local _ .vmem, ⟨10, _⟩ => ⟨S1024x2048, .bf16⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev main_v33_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x8192x2048 : Shape := ⟨3, ![2, 8192, 2048]⟩
abbrev S2x8x6144 : Shape := ⟨3, ![2, 8, 6144]⟩
abbrev S2x2048x13408 : Shape := ⟨3, ![2, 2048, 13408]⟩
abbrev S1x2x6144 : Shape := ⟨3, ![1, 2, 6144]⟩
abbrev S2x6144 : Shape := ⟨2, ![2, 6144]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S2x1x2048 : Shape := ⟨3, ![2, 1, 2048]⟩
abbrev S1x2048x13408 : Shape := ⟨3, ![1, 2048, 13408]⟩
abbrev S2048x13408 : Shape := ⟨2, ![2048, 13408]⟩
abbrev S2x8192x13408 : Shape := ⟨3, ![2, 8192, 13408]⟩
abbrev S16384x13408 : Shape := ⟨2, ![16384, 13408]⟩
abbrev S16384x1024 : Shape := ⟨2, ![16384, 1024]⟩
abbrev S16384x2048 : Shape := ⟨2, ![16384, 2048]⟩
abbrev S16384x32 : Shape := ⟨2, ![16384, 32]⟩
abbrev S16384x3072 : Shape := ⟨2, ![16384, 3072]⟩
abbrev S16384x64 : Shape := ⟨2, ![16384, 64]⟩
abbrev S16384x8192 : Shape := ⟨2, ![16384, 8192]⟩
abbrev S16384x96 : Shape := ⟨2, ![16384, 96]⟩
abbrev S16384x128 : Shape := ⟨2, ![16384, 128]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8x6144, .f32⟩
  | .hbm, ⟨2, _⟩ => ⟨S2x2048x13408, .f32⟩
  | .hbm, ⟨3, _⟩ => ⟨S1x2x6144, .f32⟩
  | .hbm, ⟨4, _⟩ => ⟨S2x6144, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x2048, .f32⟩
  | .hbm, ⟨30, _⟩ => ⟨S2x8192x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S1x2048x13408, .f32⟩
  | .hbm, ⟨41, _⟩ => ⟨S2048x13408, .f32⟩
  | .hbm, ⟨42, _⟩ => ⟨S2x8192x13408, .f32⟩
  | .hbm, ⟨43, _⟩ => ⟨S16384x13408, .f32⟩
  | .hbm, ⟨44, _⟩ => ⟨S16384x1024, .f32⟩
  | .hbm, ⟨45, _⟩ => ⟨S16384x1024, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x32, .f32⟩
  | .hbm, ⟨50, _⟩ => ⟨S16384x3072, .f32⟩
  | .hbm, ⟨51, _⟩ => ⟨S16384x64, .f32⟩
  | .hbm, ⟨52, _⟩ => ⟨S16384x2048, .f32⟩
  | .hbm, ⟨53, _⟩ => ⟨S16384x8192, .f32⟩
  | .hbm, ⟨54, _⟩ => ⟨S_, .f32⟩
  | .hbm, ⟨55, _⟩ => ⟨S16384x96, .f32⟩
  | .hbm, ⟨56, _⟩ => ⟨S16384x128, .f32⟩
  | .hbm, ⟨57, _⟩ => ⟨S16384x8192, .bf16⟩
  | .hbm, ⟨58, _⟩ => ⟨S16384x2048, .f32⟩
  | .hbm, ⟨59, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x2048x13408 : Shape := ⟨3, ![2, 2048, 13408]⟩
abbrev S2x13408x2048 : Shape := ⟨3, ![2, 13408, 2048]⟩
abbrev S1x32x2048 : Shape := ⟨3, ![1, 32, 2048]⟩
abbrev S32x2048 : Shape := ⟨2, ![32, 2048]⟩
abbrev S_ : Shape := ⟨0, ![]⟩
abbrev S96x2048 : Shape := ⟨2, ![96, 2048]⟩
abbrev S128x2048 : Shape := ⟨2, ![128, 2048]⟩
abbrev S1x64x2048 : Shape := ⟨3, ![1, 64, 2048]⟩
abbrev S64x2048 : Shape := ⟨2, ![64, 2048]⟩
abbrev S2048x64 : Shape := ⟨2, ![2048, 64]⟩
abbrev S2048x2x16x2 : Shape := ⟨4, ![2048, 2, 16, 2]⟩
abbrev S2048x2x2x16 : Shape := ⟨4, ![2048, 2, 2, 16]⟩
abbrev S1x2048x8192 : Shape := ⟨3, ![1, 2048, 8192]⟩
abbrev S2048x8192 : Shape := ⟨2, ![2048, 8192]⟩
abbrev S1x2048x3072 : Shape := ⟨3, ![1, 2048, 3072]⟩
abbrev S2048x3072 : Shape := ⟨2, ![2048, 3072]⟩
abbrev S1x2048x2048 : Shape := ⟨3, ![1, 2048, 2048]⟩
abbrev S2048x2048 : Shape := ⟨2, ![2048, 2048]⟩
abbrev S2048x13312 : Shape := ⟨2, ![2048, 13312]⟩
abbrev S13312x2048 : Shape := ⟨2, ![13312, 2048]⟩
abbrev S16384x2048 : Shape := ⟨2, ![16384, 2048]⟩
abbrev S2x128x64x2048 : Shape := ⟨4, ![2, 128, 64, 2048]⟩
abbrev S2x64x128x2048 : Shape := ⟨4, ![2, 64, 128, 2048]⟩
abbrev S16384x5120 : Shape := ⟨2, ![16384, 5120]⟩
abbrev S16384x128 : Shape := ⟨2, ![16384, 128]⟩
abbrev S1024x2048 : Shape := ⟨2, ![1024, 2048]⟩
abbrev S2048x1024 : Shape := ⟨2, ![2048, 1024]⟩
abbrev S2048x128 : Shape := ⟨2, ![2048, 128]⟩

abbrev nBuf : Space → Nat
  | .hbm => 33
  | .vmem => 9
  | .smem => 0
  | _ => 0

abbrev bufTy : (tb : Table) → Fin (tcTables nBuf tb) → BufTy
  | .hbm, ⟨0, _⟩ => ⟨S2x8192x2048, .bf16⟩
  | .hbm, ⟨1, _⟩ => ⟨S2x2048x13408, .f32⟩
  | .hbm, ⟨2, _⟩ => ⟨S2x13408x2048, .f32⟩
  | .hbm, ⟨3, _⟩ => ⟨S1x32x2048, .f32⟩
  | .hbm, ⟨4, _⟩ => ⟨S32x2048, .f32⟩
  | .hbm, ⟨5, _⟩ => ⟨S_, .f32⟩
  | .hbm, ⟨6, _⟩ => ⟨S96x2048, .f32⟩
  | .hbm, ⟨7, _⟩ => ⟨S128x2048, .f32⟩
  | .hbm, ⟨8, _⟩ => ⟨S1x64x2048, .f32⟩
  | .hbm, ⟨9, _⟩ => ⟨S64x2048, .f32⟩
  | .hbm, ⟨10, _⟩ => ⟨S2048x64, .f32⟩
  | .hbm, ⟨11, _⟩ => ⟨S2048x2x16x2, .f32⟩
  | .hbm, ⟨12, _⟩ => ⟨S2048x2x2x16, .f32⟩
  | .hbm, ⟨13, _⟩ => ⟨S2048x64, .f32⟩
  | .hbm, ⟨14, _⟩ => ⟨S64x2048, .f32⟩
  | .hbm, ⟨15, _⟩ => ⟨S_, .f32⟩
  | .hbm, ⟨16, _⟩ => ⟨S64x2048, .f32⟩
  | .hbm, ⟨17, _⟩ => ⟨S128x2048, .f32⟩
  | .hbm, ⟨18, _⟩ => ⟨S1x2048x8192, .f32⟩
  | .hbm, ⟨19, _⟩ => ⟨S2048x8192, .f32⟩
  | .hbm, ⟨20, _⟩ => ⟨S1x2048x3072, .f32⟩
  | .hbm, ⟨21, _⟩ => ⟨S2048x3072, .f32⟩
  | .hbm, ⟨22, _⟩ => ⟨S1x2048x2048, .f32⟩
  | .hbm, ⟨23, _⟩ => ⟨S2048x2048, .f32⟩
  | .hbm, ⟨24, _⟩ => ⟨S2048x13312, .f32⟩
  | .hbm, ⟨25, _⟩ => ⟨S13312x2048, .f32⟩
  | .hbm, ⟨26, _⟩ => ⟨S13312x2048, .bf16⟩
  | .hbm, ⟨27, _⟩ => ⟨S16384x2048, .bf16⟩
  | .hbm, ⟨28, _⟩ => ⟨S2x128x64x2048, .bf16⟩
  | .hbm, ⟨29, _⟩ => ⟨S2x64x128x2048, .bf16⟩
  | .hbm, ⟨30, _⟩ => ⟨S16384x2048, .bf16⟩
  | .hbm, ⟨31, _⟩ => ⟨S16384x5120, .bf16⟩
  | .hbm, ⟨32, _⟩ => ⟨S16384x128, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S128x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .f32⟩
  | .local _ .vmem, ⟨8, _⟩ => ⟨S2048x128, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27_0 : Ref sig .tc := ⟨.hbm, 31, rfl⟩
abbrev main_v27_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S2x8192x2048 : Shape := ⟨3, ![2, 8192, 2048]⟩
abbrev S2x2048x13408 : Shape := ⟨3, ![2, 2048, 13408]⟩
abbrev S1x2048x13408 : Shape := ⟨3, ![1, 2048, 13408]⟩
abbrev S2048x13408 : Shape := ⟨2, ![2048, 13408]⟩
abbrev S2x8192x13408 : Shape := ⟨3, ![2, 8192, 13408]⟩
abbrev S2x8192x1024 : Shape := ⟨3, ![2, 8192, 1024]⟩
abbrev S2x8192x32 : Shape := ⟨3, ![2, 8192, 32]⟩
abbrev S2x8192x3072 : Shape := ⟨3, ![2, 8192, 3072]⟩
abbrev S2x8192x64 : Shape := ⟨3, ![2, 8192, 64]⟩
abbrev S2x128x64x3072 : Shape := ⟨4, ![2, 128, 64, 3072]⟩
abbrev S2x64x128x3072 : Shape := ⟨4, ![2, 64, 128, 3072]⟩
abbrev S2x128x64x2048 : Shape := ⟨4, ![2, 128, 64, 2048]⟩
abbrev S2x64x128x2048 : Shape := ⟨4, ![2, 64, 128, 2048]⟩
abbrev S2x8192x5120 : Shape := ⟨3, ![2, 8192, 5120]⟩
abbrev S16384x5120 : Shape := ⟨2, ![16384, 5120]⟩
abbrev S2x128x64x64 : Shape := ⟨4, ![2, 128, 64, 64]⟩
abbrev S2x64x128x64 : Shape := ⟨4, ![2, 64, 128, 64]⟩
abbrev S2x8192x16 : Shape := ⟨3, ![2, 8192, 16]⟩
abbrev S_ : Shape := ⟨0, ![]⟩
abbrev S2x8192x128 : Shape := ⟨3, ![2, 8192, 128]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x2048x13408, .f32⟩
  | .hbm, ⟨2, _⟩ => ⟨S2x8192x2048, .f32⟩
  | .hbm, ⟨3, _⟩ => ⟨S1x2048x13408, .f32⟩
  | .hbm, ⟨4, _⟩ => ⟨S2048x13408, .f32⟩
  | .hbm, ⟨5, _⟩ => ⟨S2x8192x13408, .f32⟩
  | .hbm, ⟨6, _⟩ => ⟨S2x8192x1024, .f32⟩
  | .hbm, ⟨7, _⟩ => ⟨S2x8192x1024, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x32, .f32⟩
  | .hbm, ⟨12, _⟩ => ⟨S2x8192x3072, .f32⟩
  | .hbm, ⟨13, _⟩ => ⟨S2x8192x64, .f32⟩
  | .hbm, ⟨14, _⟩ => ⟨S2x8192x2048, .f32⟩
  | .hbm, ⟨15, _⟩ => ⟨S2x128x64x3072, .f32⟩
  | .hbm, ⟨16, _⟩ => ⟨S2x64x128x3072, .f32⟩
  | .hbm, ⟨17, _⟩ => ⟨S2x8192x3072, .f32⟩
  | .hbm, ⟨18, _⟩ => ⟨S2x128x64x2048, .f32⟩
  | .hbm, ⟨19, _⟩ => ⟨S2x64x128x2048, .f32⟩
  | .hbm, ⟨20, _⟩ => ⟨S2x8192x2048, .f32⟩
  | .hbm, ⟨21, _⟩ => ⟨S2x8192x5120, .f32⟩
  | .hbm, ⟨22, _⟩ => ⟨S16384x5120, .f32⟩
  | .hbm, ⟨23, _⟩ => ⟨S2x128x64x64, .f32⟩
  | .hbm, ⟨24, _⟩ => ⟨S2x64x128x64, .f32⟩
  | .hbm, ⟨25, _⟩ => ⟨S2x8192x64, .f32⟩
  | .hbm, ⟨26, _⟩ => ⟨S2x8192x16, .f32⟩
  | .hbm, ⟨27, _⟩ => ⟨S2x8192x16, .f32⟩
  | .hbm, ⟨28, _⟩ => ⟨S2x8192x16, .f32⟩
  | .hbm, ⟨29, _⟩ => ⟨S2x8192x16, .f32⟩
  | .hbm, ⟨30, _⟩ => ⟨S_, .f32⟩
  | .hbm, ⟨31, _⟩ => ⟨S2x8192x64, .f32⟩
  | .hbm, ⟨32, _⟩ => ⟨S2x8192x128, .f32⟩
  | .hbm, ⟨33, _⟩ => ⟨S16384x128, .f32⟩
  | .hbm, ⟨34, _⟩ => ⟨S16384x5120, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Kernel4.lean ====
abbrev S2x8192x2048 : Shape := ⟨3, ![2, 8192, 2048]⟩
abbrev S2x8x6144 : Shape := ⟨3, ![2, 8, 6144]⟩
abbrev S2x4096x2048 : Shape := ⟨3, ![2, 4096, 2048]⟩
abbrev S2x2048 : Shape := ⟨2, ![2, 2048]⟩
abbrev S1x2048x2048 : Shape := ⟨3, ![1, 2048, 2048]⟩
abbrev S1x8x2048 : Shape := ⟨3, ![1, 8, 2048]⟩
abbrev S8x2048 : Shape := ⟨2, ![8, 2048]⟩
abbrev S8x1x2048 : Shape := ⟨3, ![8, 1, 2048]⟩
abbrev S16384x2048 : Shape := ⟨2, ![16384, 2048]⟩
abbrev S2x64x128x2048 : Shape := ⟨4, ![2, 64, 128, 2048]⟩
abbrev S2x128x64x2048 : Shape := ⟨4, ![2, 128, 64, 2048]⟩
abbrev S1x2048 : Shape := ⟨2, ![1, 2048]⟩
abbrev S2048 : Shape := ⟨1, ![2048]⟩
abbrev S512x2048 : Shape := ⟨2, ![512, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 30
  | .vmem => 18
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x2048, .f32⟩
  | .hbm, ⟨3, _⟩ => ⟨S2x8x6144, .f32⟩
  | .hbm, ⟨4, _⟩ => ⟨S2x4096x2048, .f32⟩
  | .hbm, ⟨5, _⟩ => ⟨S2x2048, .f32⟩
  | .hbm, ⟨6, _⟩ => ⟨S2x2048, .f32⟩
  | .hbm, ⟨7, _⟩ => ⟨S2x4096x2048, .bf16⟩
  | .hbm, ⟨8, _⟩ => ⟨S1x8x2048, .f32⟩
  | .hbm, ⟨9, _⟩ => ⟨S8x2048, .f32⟩
  | .hbm, ⟨10, _⟩ => ⟨S8x1x2048, .f32⟩
  | .hbm, ⟨11, _⟩ => ⟨S1x8x2048, .f32⟩
  | .hbm, ⟨12, _⟩ => ⟨S8x2048, .f32⟩
  | .hbm, ⟨13, _⟩ => ⟨S8x1x2048, .f32⟩
  | .hbm, ⟨14, _⟩ => ⟨S1x8x2048, .f32⟩
  | .hbm, ⟨15, _⟩ => ⟨S8x2048, .f32⟩
  | .hbm, ⟨16, _⟩ => ⟨S8x1x2048, .f32⟩
  | .hbm, ⟨17, _⟩ => ⟨S16384x2048, .bf16⟩
  | .hbm, ⟨18, _⟩ => ⟨S2x64x128x2048, .bf16⟩
  | .hbm, ⟨19, _⟩ => ⟨S2x128x64x2048, .bf16⟩
  | .hbm, ⟨20, _⟩ => ⟨S16384x2048, .bf16⟩
  | .hbm, ⟨21, _⟩ => ⟨S16384x2048, .bf16⟩
  | .hbm, ⟨22, _⟩ => ⟨S16384x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S1x2048, .f32⟩
  | .hbm, ⟨29, _⟩ => ⟨S16384x2048, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x2048, .bf16⟩
  | .local _ .vmem, ⟨13, _⟩ => ⟨S1x2048x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference4Ideal.lean ====
abbrev S2x8192x2048 : Shape := ⟨3, ![2, 8192, 2048]⟩
abbrev S2x8x6144 : Shape := ⟨3, ![2, 8, 6144]⟩
abbrev S2x4096x2048 : Shape := ⟨3, ![2, 4096, 2048]⟩
abbrev S2x2048 : Shape := ⟨2, ![2, 2048]⟩
abbrev S1x2x6144 : Shape := ⟨3, ![1, 2, 6144]⟩
abbrev S2x6144 : Shape := ⟨2, ![2, 6144]⟩
abbrev S2x64x128x2048 : Shape := ⟨4, ![2, 64, 128, 2048]⟩
abbrev S2x128x64x2048 : Shape := ⟨4, ![2, 128, 64, 2048]⟩
abbrev S2x8192x4096 : Shape := ⟨3, ![2, 8192, 4096]⟩
abbrev S_ : Shape := ⟨0, ![]⟩
abbrev S2x1x2048 : Shape := ⟨3, ![2, 1, 2048]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x8192x2048, .f32⟩
  | .hbm, ⟨3, _⟩ => ⟨S2x8x6144, .f32⟩
  | .hbm, ⟨4, _⟩ => ⟨S2x4096x2048, .f32⟩
  | .hbm, ⟨5, _⟩ => ⟨S2x2048, .f32⟩
  | .hbm, ⟨6, _⟩ => ⟨S2x2048, .f32⟩
  | .hbm, ⟨7, _⟩ => ⟨S1x2x6144, .f32⟩
  | .hbm, ⟨8, _⟩ => ⟨S2x6144, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x8192x2048, .f32⟩
  | .hbm, ⟨13, _⟩ => ⟨S2x8192x2048, .f32⟩
  | .hbm, ⟨14, _⟩ => ⟨S2x64x128x2048, .f32⟩
  | .hbm, ⟨15, _⟩ => ⟨S2x128x64x2048, .f32⟩
  | .hbm, ⟨16, _⟩ => ⟨S2x8192x2048, .f32⟩
  | .hbm, ⟨17, _⟩ => ⟨S2x8192x4096, .f32⟩
  | .hbm, ⟨18, _⟩ => ⟨S_, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S1x4096x2048, .f32⟩
  | .hbm, ⟨23, _⟩ => ⟨S4096x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x2048, .f32⟩
  | .hbm, ⟨48, _⟩ => ⟨S2x8192x2048, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x2048, .f32⟩
  | .hbm, ⟨54, _⟩ => ⟨S2x8192x2048, .f32⟩
  | .hbm, ⟨55, _⟩ => ⟨S1x1x2048, .f32⟩
  | .hbm, ⟨56, _⟩ => ⟨S2x8192x2048, .f32⟩
  | .hbm, ⟨57, _⟩ => ⟨S2x8192x2048, .f32⟩
  | .hbm, ⟨58, _⟩ => ⟨S1x1x2048, .f32⟩
  | .hbm, ⟨59, _⟩ => ⟨S2x8192x2048, .f32⟩
  | .hbm, ⟨60, _⟩ => ⟨S2x8192x2048, .f32⟩
  | .hbm, ⟨61, _⟩ => ⟨S16384x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel5.lean ====
abbrev S2x2048 : Shape := ⟨2, ![2, 2048]⟩
abbrev S2048 : Shape := ⟨1, ![2048]⟩
abbrev S2x2048x6144 : Shape := ⟨3, ![2, 2048, 6144]⟩
abbrev S2x6144 : Shape := ⟨2, ![2, 6144]⟩
abbrev S1x2048 : Shape := ⟨2, ![1, 2048]⟩
abbrev S3x2048 : Shape := ⟨2, ![3, 2048]⟩
abbrev S3x2048x1 : Shape := ⟨3, ![3, 2048, 1]⟩
abbrev S3x2048x128 : Shape := ⟨3, ![3, 2048, 128]⟩
abbrev S2x1x6144 : Shape := ⟨3, ![2, 1, 6144]⟩
abbrev S2x8x6144 : Shape := ⟨3, ![2, 8, 6144]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S1x2048x128 : Shape := ⟨3, ![1, 2048, 128]⟩
abbrev S2048x128 : Shape := ⟨2, ![2048, 128]⟩
abbrev S256x8x128 : Shape := ⟨3, ![256, 8, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x6144, .f32⟩
  | .hbm, ⟨3, _⟩ => ⟨S2x6144, .f32⟩
  | .hbm, ⟨4, _⟩ => ⟨S1x2048, .f32⟩
  | .hbm, ⟨5, _⟩ => ⟨S3x2048, .f32⟩
  | .hbm, ⟨6, _⟩ => ⟨S3x2048x1, .f32⟩
  | .hbm, ⟨7, _⟩ => ⟨S3x2048x128, .f32⟩
  | .hbm, ⟨8, _⟩ => ⟨S2x1x6144, .f32⟩
  | .hbm, ⟨9, _⟩ => ⟨S2x8x6144, .f32⟩
  | .local _ .vmem, ⟨0, _⟩ => ⟨S3x2048x128, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S3x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x2048 : Shape := ⟨2, ![2, 2048]⟩
abbrev S2048 : Shape := ⟨1, ![2048]⟩
abbrev S2x2048x6144 : Shape := ⟨3, ![2, 2048, 6144]⟩
abbrev S2x6144 : Shape := ⟨2, ![2, 6144]⟩
abbrev S_ : Shape := ⟨0, ![]⟩
abbrev S1x2048x6144 : Shape := ⟨3, ![1, 2048, 6144]⟩
abbrev S2048x6144 : Shape := ⟨2, ![2048, 6144]⟩
abbrev S1x6144 : Shape := ⟨2, ![1, 6144]⟩
abbrev S6144 : Shape := ⟨1, ![6144]⟩
abbrev S5x6144 : Shape := ⟨2, ![5, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 79
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x6144, .f32⟩
  | .hbm, ⟨3, _⟩ => ⟨S2x6144, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S1x2048x6144, .f32⟩
  | .hbm, ⟨14, _⟩ => ⟨S2048x6144, .f32⟩
  | .hbm, ⟨15, _⟩ => ⟨S2x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S2x6144, .f32⟩
  | .hbm, ⟨20, _⟩ => ⟨S2x6144, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S1x2048x6144, .f32⟩
  | .hbm, ⟨31, _⟩ => ⟨S2048x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S_, .f32⟩
  | .hbm, ⟨38, _⟩ => ⟨S5x6144, .f32⟩
  | .hbm, ⟨39, _⟩ => ⟨S8x6144, .f32⟩
  | .hbm, ⟨40, _⟩ => ⟨S2x2048, .f32⟩
  | .hbm, ⟨41, _⟩ => ⟨S2x2048, .f32⟩
  | .hbm, ⟨42, _⟩ => ⟨S_, .f32⟩
  | .hbm, ⟨43, _⟩ => ⟨S2x2048, .f32⟩
  | .hbm, ⟨44, _⟩ => ⟨S2x2048, .f32⟩
  | .hbm, ⟨45, _⟩ => ⟨S_, .f32⟩
  | .hbm, ⟨46, _⟩ => ⟨S2x2048, .f32⟩
  | .hbm, ⟨47, _⟩ => ⟨S2x2048, .f32⟩
  | .hbm, ⟨48, _⟩ => ⟨S2x2048, .f32⟩
  | .hbm, ⟨49, _⟩ => ⟨S1x2048x6144, .f32⟩
  | .hbm, ⟨50, _⟩ => ⟨S2048x6144, .f32⟩
  | .hbm, ⟨51, _⟩ => ⟨S2x6144, .f32⟩
  | .hbm, ⟨52, _⟩ => ⟨S1x6144, .f32⟩
  | .hbm, ⟨53, _⟩ => ⟨S6144, .f32⟩
  | .hbm, ⟨54, _⟩ => ⟨S1x6144, .f32⟩
  | .hbm, ⟨55, _⟩ => ⟨S2x6144, .f32⟩
  | .hbm, ⟨56, _⟩ => ⟨S2x6144, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S2048, .f32⟩
  | .hbm, ⟨66, _⟩ => ⟨S1x2048x6144, .f32⟩
  | .hbm, ⟨67, _⟩ => ⟨S2048x6144, .f32⟩
  | .hbm, ⟨68, _⟩ => ⟨S6144, .f32⟩
  | .hbm, ⟨69, _⟩ => ⟨S1x6144, .f32⟩
  | .hbm, ⟨70, _⟩ => ⟨S6144, .f32⟩
  | .hbm, ⟨71, _⟩ => ⟨S6144, .f32⟩
  | .hbm, ⟨72, _⟩ => ⟨S1x6144, .f32⟩
  | .hbm, ⟨73, _⟩ => ⟨S_, .f32⟩
  | .hbm, ⟨74, _⟩ => ⟨S5x6144, .f32⟩
  | .hbm, ⟨75, _⟩ => ⟨S8x6144, .f32⟩
  | .hbm, ⟨76, _⟩ => ⟨S1x8x6144, .f32⟩
  | .hbm, ⟨77, _⟩ => ⟨S1x8x6144, .f32⟩
  | .hbm, ⟨78, _⟩ => ⟨S2x8x6144, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_0 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩

abbrev nD : Nat := 1
abbrev τ : Topo := Topo.v7x

variable {F : FTy → Type} [FloatOps F]
-- ==== Kernel6.lean ====
abbrev S2x8192x8192 : Shape := ⟨3, ![2, 8192, 8192]⟩
abbrev S2x8192x128 : Shape := ⟨3, ![2, 8192, 128]⟩
abbrev S2x3x2048 : Shape := ⟨3, ![2, 3, 2048]⟩
abbrev S2x2048 : Shape := ⟨2, ![2, 2048]⟩
abbrev S2x4x8 : Shape := ⟨3, ![2, 4, 8]⟩
abbrev S2x8x128x384 : Shape := ⟨4, ![2, 8, 128, 384]⟩
abbrev S2x1x128 : Shape := ⟨3, ![2, 1, 128]⟩
abbrev S1x4x8 : Shape := ⟨3, ![1, 4, 8]⟩
abbrev S4x8 : Shape := ⟨2, ![4, 8]⟩
abbrev S1x32 : Shape := ⟨2, ![1, 32]⟩
abbrev S_ : Shape := ⟨0, ![]⟩
abbrev S1x96 : Shape := ⟨2, ![1, 96]⟩
abbrev S1x128 : Shape := ⟨2, ![1, 128]⟩
abbrev S1x3x2048 : Shape := ⟨3, ![1, 3, 2048]⟩
abbrev S3x2048 : Shape := ⟨2, ![3, 2048]⟩
abbrev S1x2048 : Shape := ⟨2, ![1, 2048]⟩
abbrev S2048 : Shape := ⟨1, ![2048]⟩
abbrev S2x8192x2048 : Shape := ⟨3, ![2, 8192, 2048]⟩
abbrev S1x128x1024 : Shape := ⟨3, ![1, 128, 1024]⟩
abbrev S1x16x1024 : Shape := ⟨3, ![1, 16, 1024]⟩
abbrev S1x128x2048 : Shape := ⟨3, ![1, 128, 2048]⟩
abbrev S1x128x128 : Shape := ⟨3, ![1, 128, 128]⟩
abbrev S1x8x128x384 : Shape := ⟨4, ![1, 8, 128, 384]⟩
abbrev S1x1x128 : Shape := ⟨3, ![1, 1, 128]⟩
abbrev S128x128 : Shape := ⟨2, ![128, 128]⟩
abbrev S128x8 : Shape := ⟨2, ![128, 8]⟩
abbrev S8x128 : Shape := ⟨2, ![8, 128]⟩
abbrev S1x8 : Shape := ⟨2, ![1, 8]⟩
abbrev S8 : Shape := ⟨1, ![8]⟩
abbrev S1x1x8 : Shape := ⟨3, ![1, 1, 8]⟩
abbrev S3x128 : Shape := ⟨2, ![3, 128]⟩
abbrev S1x128x256 : Shape := ⟨3, ![1, 128, 256]⟩
abbrev S128x256 : Shape := ⟨2, ![128, 256]⟩
abbrev S128x384 : Shape := ⟨2, ![128, 384]⟩
abbrev S1x1x128x384 : Shape := ⟨4, ![1, 1, 128, 384]⟩
abbrev S1x1 : Shape := ⟨2, ![1, 1]⟩
abbrev S128 : Shape := ⟨1, ![128]⟩
abbrev S128x1 : Shape := ⟨2, ![128, 1]⟩

abbrev nBuf : Space → Nat
  | .hbm => 22
  | .vmem => 31
  | .smem => 0
  | _ => 0

abbrev bufTy : (tb : Table) → Fin (tcTables nBuf tb) → BufTy
  | .hbm, ⟨0, _⟩ => ⟨S2x8192x8192, .bf16⟩
  | .hbm, ⟨1, _⟩ => ⟨S2x8192x128, .f32⟩
  | .hbm, ⟨2, _⟩ => ⟨S2x3x2048, .f32⟩
  | .hbm, ⟨3, _⟩ => ⟨S2x2048, .f32⟩
  | .hbm, ⟨4, _⟩ => ⟨S2x4x8, .f32⟩
  | .hbm, ⟨5, _⟩ => ⟨S2x8x128x384, .f32⟩
  | .hbm, ⟨6, _⟩ => ⟨S2x1x128, .f32⟩
  | .hbm, ⟨7, _⟩ => ⟨S1x4x8, .f32⟩
  | .hbm, ⟨8, _⟩ => ⟨S4x8, .f32⟩
  | .hbm, ⟨9, _⟩ => ⟨S1x32, .f32⟩
  | .hbm, ⟨10, _⟩ => ⟨S_, .f32⟩
  | .hbm, ⟨11, _⟩ => ⟨S1x96, .f32⟩
  | .hbm, ⟨12, _⟩ => ⟨S1x128, .f32⟩
  | .hbm, ⟨13, _⟩ => ⟨S1x3x2048, .f32⟩
  | .hbm, ⟨14, _⟩ => ⟨S3x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2x8192x2048, .bf16⟩
  | .hbm, ⟨19, _⟩ => ⟨S2x8192x2048, .bf16⟩
  | .hbm, ⟨20, _⟩ => ⟨S2x8x128x384, .f32⟩
  | .hbm, ⟨21, _⟩ => ⟨S2x1x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x128, .f32⟩
  | .local _ .vmem, ⟨15, _⟩ => ⟨S1x128x128, .f32⟩
  | .local _ .vmem, ⟨16, _⟩ => ⟨S3x2048, .f32⟩
  | .local _ .vmem, ⟨17, _⟩ => ⟨S1x2048, .f32⟩
  | .local _ .vmem, ⟨18, _⟩ => ⟨S1x128, .f32⟩
  | .local _ .vmem, ⟨19, _⟩ => ⟨S1x8x128x384, .f32⟩
  | .local _ .vmem, ⟨20, _⟩ => ⟨S1x8x128x384, .f32⟩
  | .local _ .vmem, ⟨21, _⟩ => ⟨S1x1x128, .f32⟩
  | .local _ .vmem, ⟨22, _⟩ => ⟨S1x1x128, .f32⟩
  | .local _ .vmem, ⟨23, _⟩ => ⟨S1x128x2048, .bf16⟩
  | .local _ .vmem, ⟨24, _⟩ => ⟨S1x128x2048, .bf16⟩
  | .local _ .vmem, ⟨25, _⟩ => ⟨S1x128x2048, .bf16⟩
  | .local _ .vmem, ⟨26, _⟩ => ⟨S1x128x2048, .bf16⟩
  | .local _ .vmem, ⟨27, _⟩ => ⟨S1x8x128x384, .f32⟩
  | .local _ .vmem, ⟨28, _⟩ => ⟨S1x8x128x384, .f32⟩
  | .local _ .vmem, ⟨29, _⟩ => ⟨S1x1x128, .f32⟩
  | .local _ .vmem, ⟨30, _⟩ => ⟨S1x1x128, .f32⟩
  | _, _ => ⟨S2x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi v0 c1_i32
  let c8_i32 : BitVec 32 := 8#32
  let v2 : BitVec 32 := Scalar.muli v1 c8_i32
  let c511_i32 : BitVec 32 := 511#32
  let v3 : BitVec 32 := Scalar.minsi v2 c511_i32
  let c0_i32 : BitVec 32 := 0#32
  let c0_i32_0 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  ![arg0.toNat, v0.toNat, c1_i32.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![arg0.toNat, v3.toNat, c1_i32_0.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi v0 c1_i32
  let c8_i32 : BitVec 32 := 8#32
  let v2 : BitVec 32 := Scalar.muli v1 c8_i32
  let c511_i32 : BitVec 32 := 511#32
  let v3 : BitVec 32 := Scalar.minsi v2 c511_i32
  let c1_i32_0 : BitVec 32 := 1#32
  let c0_i32 : BitVec 32 := 0#32
  ![arg0.toNat, v3.toNat, c1_i32_0.toNat]

def cc0_transform_6 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  ![arg0.toNat, v0.toNat, c1_i32.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x128x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x128x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference6Ideal.lean ====
abbrev S2x8192x8192 : Shape := ⟨3, ![2, 8192, 8192]⟩
abbrev S2x8192x128 : Shape := ⟨3, ![2, 8192, 128]⟩
abbrev S2x3x2048 : Shape := ⟨3, ![2, 3, 2048]⟩
abbrev S2x2048 : Shape := ⟨2, ![2, 2048]⟩
abbrev S2x4x8 : Shape := ⟨3, ![2, 4, 8]⟩
abbrev S2x8x128x384 : Shape := ⟨4, ![2, 8, 128, 384]⟩
abbrev S2x1x128 : Shape := ⟨3, ![2, 1, 128]⟩
abbrev S2x8192x1024 : Shape := ⟨3, ![2, 8192, 1024]⟩
abbrev S2x8192x2048 : Shape := ⟨3, ![2, 8192, 2048]⟩
abbrev S1x3x2048 : Shape := ⟨3, ![1, 3, 2048]⟩
abbrev S3x2048 : Shape := ⟨2, ![3, 2048]⟩
abbrev S1x2048 : Shape := ⟨2, ![1, 2048]⟩
abbrev S2048 : Shape := ⟨1, ![2048]⟩
abbrev S_ : Shape := ⟨0, ![]⟩
abbrev S2x8194x2048 : Shape := ⟨3, ![2, 8194, 2048]⟩
abbrev S1x1x2048 : Shape := ⟨3, ![1, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x8192, .bf16⟩
  | .hbm, ⟨1, _⟩ => ⟨S2x8192x128, .f32⟩
  | .hbm, ⟨2, _⟩ => ⟨S2x3x2048, .f32⟩
  | .hbm, ⟨3, _⟩ => ⟨S2x2048, .f32⟩
  | .hbm, ⟨4, _⟩ => ⟨S2x4x8, .f32⟩
  | .hbm, ⟨5, _⟩ => ⟨S2x8x128x384, .f32⟩
  | .hbm, ⟨6, _⟩ => ⟨S2x1x128, .f32⟩
  | .hbm, ⟨7, _⟩ => ⟨S2x8192x8192, .f32⟩
  | .hbm, ⟨8, _⟩ => ⟨S2x8192x1024, .f32⟩
  | .hbm, ⟨9, _⟩ => ⟨S2x8192x1024, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S1x3x2048, .f32⟩
  | .hbm, ⟨15, _⟩ => ⟨S3x2048, .f32⟩
  | .hbm, ⟨16, _⟩ => ⟨S1x2048, .f32⟩
  | .hbm, ⟨17, _⟩ => ⟨S2048, .f32⟩
  | .hbm, ⟨18, _⟩ => ⟨S_, .i32⟩
  | .hbm, ⟨19, _⟩ => ⟨S_, .f32⟩
  | .hbm, ⟨20, _⟩ => ⟨S2x8194x2048, .f32⟩
  | .hbm, ⟨21, _⟩ => ⟨S2x8192x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S1x1x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S_, .f32⟩
  | .hbm, ⟨47, _⟩ => ⟨S2x8192x2048, .f32⟩
  | .hbm, ⟨48, _⟩ => ⟨S2x8192x2048, .f32⟩
  | .hbm, ⟨49, _⟩ => ⟨S_, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S2x8192x1024, .f32⟩
  | .hbm, ⟨54, _⟩ => ⟨S_, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x2048, .f32⟩
  | .hbm, ⟨59, _⟩ => ⟨S2x8192x2048, .bf16⟩
  | _, _ => ⟨S2x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel8.lean ====
abbrev S2x8192x5120 : Shape := ⟨3, ![2, 8192, 5120]⟩
abbrev S2x8192x128 : Shape := ⟨3, ![2, 8192, 128]⟩
abbrev S2x3x3072 : Shape := ⟨3, ![2, 3, 3072]⟩
abbrev S2x3072 : Shape := ⟨2, ![2, 3072]⟩
abbrev S2x2x32 : Shape := ⟨3, ![2, 2, 32]⟩
abbrev S2x4x128x512 : Shape := ⟨4, ![2, 4, 128, 512]⟩
abbrev S1x2x32 : Shape := ⟨3, ![1, 2, 32]⟩
abbrev S2x32 : Shape := ⟨2, ![2, 32]⟩
abbrev S1x64 : Shape := ⟨2, ![1, 64]⟩
abbrev S1x2x16x2 : Shape := ⟨4, ![1, 2, 16, 2]⟩
abbrev S1x2x2x16 : Shape := ⟨4, ![1, 2, 2, 16]⟩
abbrev S_ : Shape := ⟨0, ![]⟩
abbrev S1x128 : Shape := ⟨2, ![1, 128]⟩
abbrev S1x3x3072 : Shape := ⟨3, ![1, 3, 3072]⟩
abbrev S3x3072 : Shape := ⟨2, ![3, 3072]⟩
abbrev S1x3072 : Shape := ⟨2, ![1, 3072]⟩
abbrev S3072 : Shape := ⟨1, ![3072]⟩
abbrev S2x8192x2048 : Shape := ⟨3, ![2, 8192, 2048]⟩
abbrev S2x8192x3072 : Shape := ⟨3, ![2, 8192, 3072]⟩
abbrev S1x512x1024 : Shape := ⟨3, ![1, 512, 1024]⟩
abbrev S1x16x1024 : Shape := ⟨3, ![1, 16, 1024]⟩
abbrev S1x512x128 : Shape := ⟨3, ![1, 512, 128]⟩
abbrev S1x4x128x512 : Shape := ⟨4, ![1, 4, 128, 512]⟩
abbrev S1x512x2048 : Shape := ⟨3, ![1, 512, 2048]⟩
abbrev S1x512x3072 : Shape := ⟨3, ![1, 512, 3072]⟩
abbrev S128x128 : Shape := ⟨2, ![128, 128]⟩
abbrev S256x128 : Shape := ⟨2, ![256, 128]⟩
abbrev S1x128x128 : Shape := ⟨3, ![1, 128, 128]⟩
abbrev S16x128 : Shape := ⟨2, ![16, 128]⟩
abbrev S3x512 : Shape := ⟨2, ![3, 512]⟩
abbrev S1x512 : Shape := ⟨2, ![1, 512]⟩
abbrev S1x1x512 : Shape := ⟨3, ![1, 1, 512]⟩
abbrev S1x128x512 : Shape := ⟨3, ![1, 128, 512]⟩
abbrev S128x512 : Shape := ⟨2, ![128, 512]⟩
abbrev S64x128 : Shape := ⟨2, ![64, 128]⟩
abbrev S1x1x128x512 : Shape := ⟨4, ![1, 1, 128, 512]⟩
abbrev S128x128x1 : Shape := ⟨3, ![128, 128, 1]⟩
abbrev S128x256 : Shape := ⟨2, ![128, 256]⟩

abbrev nBuf : Space → Nat
  | .hbm => 33
  | .vmem => 32
  | .smem => 0
  | _ => 0

abbrev bufTy : (tb : Table) → Fin (tcTables nBuf tb) → BufTy
  | .hbm, ⟨0, _⟩ => ⟨S2x8192x5120, .bf16⟩
  | .hbm, ⟨1, _⟩ => ⟨S2x8192x128, .f32⟩
  | .hbm, ⟨2, _⟩ => ⟨S2x3x3072, .f32⟩
  | .hbm, ⟨3, _⟩ => ⟨S2x3072, .f32⟩
  | .hbm, ⟨4, _⟩ => ⟨S2x2x32, .f32⟩
  | .hbm, ⟨5, _⟩ => ⟨S2x2x32, .f32⟩
  | .hbm, ⟨6, _⟩ => ⟨S2x4x128x512, .f32⟩
  | .hbm, ⟨7, _⟩ => ⟨S1x2x32, .f32⟩
  | .hbm, ⟨8, _⟩ => ⟨S2x32, .f32⟩
  | .hbm, ⟨9, _⟩ => ⟨S1x64, .f32⟩
  | .hbm, ⟨10, _⟩ => ⟨S1x2x16x2, .f32⟩
  | .hbm, ⟨11, _⟩ => ⟨S1x2x2x16, .f32⟩
  | .hbm, ⟨12, _⟩ => ⟨S1x64, .f32⟩
  | .hbm, ⟨13, _⟩ => ⟨S_, .f32⟩
  | .hbm, ⟨14, _⟩ => ⟨S1x64, .f32⟩
  | .hbm, ⟨15, _⟩ => ⟨S1x128, .f32⟩
  | .hbm, ⟨16, _⟩ => ⟨S1x2x32, .f32⟩
  | .hbm, ⟨17, _⟩ => ⟨S2x32, .f32⟩
  | .hbm, ⟨18, _⟩ => ⟨S1x64, .f32⟩
  | .hbm, ⟨19, _⟩ => ⟨S1x2x16x2, .f32⟩
  | .hbm, ⟨20, _⟩ => ⟨S1x2x2x16, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x128, .f32⟩
  | .hbm, ⟨25, _⟩ => ⟨S1x3x3072, .f32⟩
  | .hbm, ⟨26, _⟩ => ⟨S3x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S2x8192x2048, .bf16⟩
  | .hbm, ⟨31, _⟩ => ⟨S2x8192x3072, .bf16⟩
  | .hbm, ⟨32, _⟩ => ⟨S2x4x128x512, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x16x1024, .bf16⟩
  | .local _ .vmem, ⟨15, _⟩ => ⟨S1x16x1024, .bf16⟩
  | .local _ .vmem, ⟨16, _⟩ => ⟨S1x16x1024, .bf16⟩
  | .local _ .vmem, ⟨17, _⟩ => ⟨S1x16x1024, .bf16⟩
  | .local _ .vmem, ⟨18, _⟩ => ⟨S1x512x128, .f32⟩
  | .local _ .vmem, ⟨19, _⟩ => ⟨S1x512x128, .f32⟩
  | .local _ .vmem, ⟨20, _⟩ => ⟨S3x3072, .f32⟩
  | .local _ .vmem, ⟨21, _⟩ => ⟨S1x3072, .f32⟩
  | .local _ .vmem, ⟨22, _⟩ => ⟨S1x128, .f32⟩
  | .local _ .vmem, ⟨23, _⟩ => ⟨S1x128, .f32⟩
  | .local _ .vmem, ⟨24, _⟩ => ⟨S1x4x128x512, .f32⟩
  | .local _ .vmem, ⟨25, _⟩ => ⟨S1x4x128x512, .f32⟩
  | .local _ .vmem, ⟨26, _⟩ => ⟨S1x512x2048, .bf16⟩
  | .local _ .vmem, ⟨27, _⟩ => ⟨S1x512x2048, .bf16⟩
  | .local _ .vmem, ⟨28, _⟩ => ⟨S1x512x3072, .bf16⟩
  | .local _ .vmem, ⟨29, _⟩ => ⟨S1x512x3072, .bf16⟩
  | .local _ .vmem, ⟨30, _⟩ => ⟨S1x4x128x512, .f32⟩
  | .local _ .vmem, ⟨31, _⟩ => ⟨S1x4x128x512, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c0_i32 : BitVec 32 := 0#32
  let c0_i32_0 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let c0_i32 : BitVec 32 := 0#32
  ![arg0.toNat, v0.toNat, c1_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![arg0.toNat, v3.toNat, c1_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c1_i32_0 : BitVec 32 := 1#32
  let c0_i32 : BitVec 32 := 0#32
  ![arg0.toNat, v3.toNat, c1_i32_0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  ![arg0.toNat, v0.toNat, c2_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![arg0.toNat, v3.toNat, c2_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi v0 c1_i32
  let c32_i32 : BitVec 32 := 32#32
  let v2 : BitVec 32 := Scalar.muli v1 c32_i32
  let c511_i32 : BitVec 32 := 511#32
  let v3 : BitVec 32 := Scalar.minsi v2 c511_i32
  let c2_i32 : BitVec 32 := 2#32
  let c0_i32 : BitVec 32 := 0#32
  ![arg0.toNat, v3.toNat, c2_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference8Ideal.lean ====
abbrev S2x8192x5120 : Shape := ⟨3, ![2, 8192, 5120]⟩
abbrev S2x8192x128 : Shape := ⟨3, ![2, 8192, 128]⟩
abbrev S2x3x3072 : Shape := ⟨3, ![2, 3, 3072]⟩
abbrev S2x3072 : Shape := ⟨2, ![2, 3072]⟩
abbrev S2x2x32 : Shape := ⟨3, ![2, 2, 32]⟩
abbrev S2x4x128x512 : Shape := ⟨4, ![2, 4, 128, 512]⟩
abbrev S2x8192x3072 : Shape := ⟨3, ![2, 8192, 3072]⟩
abbrev S2x8192x2048 : Shape := ⟨3, ![2, 8192, 2048]⟩
abbrev S1x3x3072 : Shape := ⟨3, ![1, 3, 3072]⟩
abbrev S3x3072 : Shape := ⟨2, ![3, 3072]⟩
abbrev S1x3072 : Shape := ⟨2, ![1, 3072]⟩
abbrev S3072 : Shape := ⟨1, ![3072]⟩
abbrev S_ : Shape := ⟨0, ![]⟩
abbrev S2x8194x3072 : Shape := ⟨3, ![2, 8194, 3072]⟩
abbrev S1x1x3072 : Shape := ⟨3, ![1, 1, 3072]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x5120, .bf16⟩
  | .hbm, ⟨1, _⟩ => ⟨S2x8192x128, .f32⟩
  | .hbm, ⟨2, _⟩ => ⟨S2x3x3072, .f32⟩
  | .hbm, ⟨3, _⟩ => ⟨S2x3072, .f32⟩
  | .hbm, ⟨4, _⟩ => ⟨S2x2x32, .f32⟩
  | .hbm, ⟨5, _⟩ => ⟨S2x2x32, .f32⟩
  | .hbm, ⟨6, _⟩ => ⟨S2x4x128x512, .f32⟩
  | .hbm, ⟨7, _⟩ => ⟨S2x8192x5120, .f32⟩
  | .hbm, ⟨8, _⟩ => ⟨S2x8192x3072, .f32⟩
  | .hbm, ⟨9, _⟩ => ⟨S2x8192x2048, .f32⟩
  | .hbm, ⟨10, _⟩ => ⟨S1x3x3072, .f32⟩
  | .hbm, ⟨11, _⟩ => ⟨S3x3072, .f32⟩
  | .hbm, ⟨12, _⟩ => ⟨S1x3072, .f32⟩
  | .hbm, ⟨13, _⟩ => ⟨S3072, .f32⟩
  | .hbm, ⟨14, _⟩ => ⟨S_, .i32⟩
  | .hbm, ⟨15, _⟩ => ⟨S_, .f32⟩
  | .hbm, ⟨16, _⟩ => ⟨S2x8194x3072, .f32⟩
  | .hbm, ⟨17, _⟩ => ⟨S2x8192x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S2x8192x3072, .f32⟩
  | .hbm, ⟨28, _⟩ => ⟨S2x8192x3072, .f32⟩
  | .hbm, ⟨29, _⟩ => ⟨S2x8192x3072, .f32⟩
  | .hbm, ⟨30, _⟩ => ⟨S2x8192x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S2x8192x3072, .f32⟩
  | .hbm, ⟨35, _⟩ => ⟨S2x8192x3072, .f32⟩
  | .hbm, ⟨36, _⟩ => ⟨S2x8192x3072, .f32⟩
  | .hbm, ⟨37, _⟩ => ⟨S1x1x3072, .f32⟩
  | .hbm, ⟨38, _⟩ => ⟨S2x8192x3072, .f32⟩
  | .hbm, ⟨39, _⟩ => ⟨S2x8192x3072, .f32⟩
  | .hbm, ⟨40, _⟩ => ⟨S2x8192x3072, .f32⟩
  | .hbm, ⟨41, _⟩ => ⟨S2x8192x3072, .f32⟩
  | .hbm, ⟨42, _⟩ => ⟨S_, .f32⟩
  | .hbm, ⟨43, _⟩ => ⟨S2x8192x3072, .f32⟩
  | .hbm, ⟨44, _⟩ => ⟨S2x8192x3072, .f32⟩
  | .hbm, ⟨45, _⟩ => ⟨S_, .f32⟩
  | .hbm, ⟨46, _⟩ => ⟨S2x8192x3072, .f32⟩
  | .hbm, ⟨47, _⟩ => ⟨S2x8192x3072, .f32⟩
  | .hbm, ⟨48, _⟩ => ⟨S2x8192x3072, .f32⟩
  | .hbm, ⟨49, _⟩ => ⟨S2x8192x3072, .bf16⟩
  | _, _ => ⟨S2x8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel7.lean ====
abbrev S2x8192x8192 : Shape := ⟨3, ![2, 8192, 8192]⟩
abbrev S2x8192x128 : Shape := ⟨3, ![2, 8192, 128]⟩
abbrev S2x4x8 : Shape := ⟨3, ![2, 4, 8]⟩
abbrev S2x8192x2048 : Shape := ⟨3, ![2, 8192, 2048]⟩
abbrev S2x2048 : Shape := ⟨2, ![2, 2048]⟩
abbrev S2x8x128x384 : Shape := ⟨4, ![2, 8, 128, 384]⟩
abbrev S2x1x128 : Shape := ⟨3, ![2, 1, 128]⟩
abbrev S1x4x8 : Shape := ⟨3, ![1, 4, 8]⟩
abbrev S4x8 : Shape := ⟨2, ![4, 8]⟩
abbrev S1x32 : Shape := ⟨2, ![1, 32]⟩
abbrev S_ : Shape := ⟨0, ![]⟩
abbrev S1x96 : Shape := ⟨2, ![1, 96]⟩
abbrev S1x128 : Shape := ⟨2, ![1, 128]⟩
abbrev S1x2048 : Shape := ⟨2, ![1, 2048]⟩
abbrev S2048 : Shape := ⟨1, ![2048]⟩
abbrev S1x128x2048 : Shape := ⟨3, ![1, 128, 2048]⟩
abbrev S1x128x128 : Shape := ⟨3, ![1, 128, 128]⟩
abbrev S1x8x128x384 : Shape := ⟨4, ![1, 8, 128, 384]⟩
abbrev S1x1x128 : Shape := ⟨3, ![1, 1, 128]⟩
abbrev S128x128 : Shape := ⟨2, ![128, 128]⟩
abbrev S128x8 : Shape := ⟨2, ![128, 8]⟩
abbrev S8x128 : Shape := ⟨2, ![8, 128]⟩
abbrev S1x8 : Shape := ⟨2, ![1, 8]⟩
abbrev S8 : Shape := ⟨1, ![8]⟩
abbrev S1x1x8 : Shape := ⟨3, ![1, 1, 8]⟩
abbrev S1x128x256 : Shape := ⟨3, ![1, 128, 256]⟩
abbrev S128x256 : Shape := ⟨2, ![128, 256]⟩
abbrev S128x384 : Shape := ⟨2, ![128, 384]⟩
abbrev S1x1x128x384 : Shape := ⟨4, ![1, 1, 128, 384]⟩
abbrev S1x1 : Shape := ⟨2, ![1, 1]⟩
abbrev S128 : Shape := ⟨1, ![128]⟩
abbrev S128x1 : Shape := ⟨2, ![128, 1]⟩
abbrev S1x256 : Shape := ⟨2, ![1, 256]⟩

abbrev nBuf : Space → Nat
  | .hbm => 20
  | .vmem => 24
  | .smem => 0
  | _ => 0

abbrev bufTy : (tb : Table) → Fin (tcTables nBuf tb) → BufTy
  | .hbm, ⟨0, _⟩ => ⟨S2x8192x8192, .bf16⟩
  | .hbm, ⟨1, _⟩ => ⟨S2x8192x128, .f32⟩
  | .hbm, ⟨2, _⟩ => ⟨S2x4x8, .f32⟩
  | .hbm, ⟨3, _⟩ => ⟨S2x8192x2048, .bf16⟩
  | .hbm, ⟨4, _⟩ => ⟨S2x8192x2048, .bf16⟩
  | .hbm, ⟨5, _⟩ => ⟨S2x2048, .f32⟩
  | .hbm, ⟨6, _⟩ => ⟨S2x8x128x384, .f32⟩
  | .hbm, ⟨7, _⟩ => ⟨S2x1x128, .f32⟩
  | .hbm, ⟨8, _⟩ => ⟨S1x4x8, .f32⟩
  | .hbm, ⟨9, _⟩ => ⟨S4x8, .f32⟩
  | .hbm, ⟨10, _⟩ => ⟨S1x32, .f32⟩
  | .hbm, ⟨11, _⟩ => ⟨S_, .f32⟩
  | .hbm, ⟨12, _⟩ => ⟨S1x96, .f32⟩
  | .hbm, ⟨13, _⟩ => ⟨S1x128, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2x8192x2048, .bf16⟩
  | .hbm, ⟨18, _⟩ => ⟨S2x8x128x384, .f32⟩
  | .hbm, ⟨19, _⟩ => ⟨S2x1x128, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x8x128x384, .f32⟩
  | .local _ .vmem, ⟨8, _⟩ => ⟨S1x8x128x384, .f32⟩
  | .local _ .vmem, ⟨9, _⟩ => ⟨S1x1x128, .f32⟩
  | .local _ .vmem, ⟨10, _⟩ => ⟨S1x1x128, .f32⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S1x128x2048, .bf16⟩
  | .local _ .vmem, ⟨17, _⟩ => ⟨S1x2048, .f32⟩
  | .local _ .vmem, ⟨18, _⟩ => ⟨S1x128x2048, .bf16⟩
  | .local _ .vmem, ⟨19, _⟩ => ⟨S1x128x2048, .bf16⟩
  | .local _ .vmem, ⟨20, _⟩ => ⟨S1x8x128x384, .f32⟩
  | .local _ .vmem, ⟨21, _⟩ => ⟨S1x8x128x384, .f32⟩
  | .local _ .vmem, ⟨22, _⟩ => ⟨S1x1x128, .f32⟩
  | .local _ .vmem, ⟨23, _⟩ => ⟨S1x1x128, .f32⟩
  | _, _ => ⟨S2x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel9.lean ====
abbrev S2x8192x5120 : Shape := ⟨3, ![2, 8192, 5120]⟩
abbrev S2x8192x128 : Shape := ⟨3, ![2, 8192, 128]⟩
abbrev S2x2x32 : Shape := ⟨3, ![2, 2, 32]⟩
abbrev S2x8192x3072 : Shape := ⟨3, ![2, 8192, 3072]⟩
abbrev S2x8192x2048 : Shape := ⟨3, ![2, 8192, 2048]⟩
abbrev S2x32 : Shape := ⟨2, ![2, 32]⟩
abbrev S2x2048 : Shape := ⟨2, ![2, 2048]⟩
abbrev S2x4x128x512 : Shape := ⟨4, ![2, 4, 128, 512]⟩
abbrev S1x2x32 : Shape := ⟨3, ![1, 2, 32]⟩
abbrev S1x64 : Shape := ⟨2, ![1, 64]⟩
abbrev S1x2x16x2 : Shape := ⟨4, ![1, 2, 16, 2]⟩
abbrev S1x2x2x16 : Shape := ⟨4, ![1, 2, 2, 16]⟩
abbrev S_ : Shape := ⟨0, ![]⟩
abbrev S1x128 : Shape := ⟨2, ![1, 128]⟩
abbrev S1x32 : Shape := ⟨2, ![1, 32]⟩
abbrev S32 : Shape := ⟨1, ![32]⟩
abbrev S32x64 : Shape := ⟨2, ![32, 64]⟩
abbrev S2048 : Shape := ⟨1, ![2048]⟩
abbrev S1x2048 : Shape := ⟨2, ![1, 2048]⟩
abbrev S1x512x2048 : Shape := ⟨3, ![1, 512, 2048]⟩
abbrev S1x512x1024 : Shape := ⟨3, ![1, 512, 1024]⟩
abbrev S1x512x128 : Shape := ⟨3, ![1, 512, 128]⟩
abbrev S1x4x128x512 : Shape := ⟨4, ![1, 4, 128, 512]⟩
abbrev S128x2048 : Shape := ⟨2, ![128, 2048]⟩
abbrev S128x128 : Shape := ⟨2, ![128, 128]⟩
abbrev S256x128 : Shape := ⟨2, ![256, 128]⟩
abbrev S1x128x128 : Shape := ⟨3, ![1, 128, 128]⟩
abbrev S16x128 : Shape := ⟨2, ![16, 128]⟩
abbrev S1x128x512 : Shape := ⟨3, ![1, 128, 512]⟩
abbrev S128x512 : Shape := ⟨2, ![128, 512]⟩
abbrev S64x128 : Shape := ⟨2, ![64, 128]⟩
abbrev S1x1x128x512 : Shape := ⟨4, ![1, 1, 128, 512]⟩
abbrev S128x128x1 : Shape := ⟨3, ![128, 128, 1]⟩
abbrev S128x256 : Shape := ⟨2, ![128, 256]⟩
abbrev S1x512 : Shape := ⟨2, ![1, 512]⟩
abbrev S128 : Shape := ⟨1, ![128]⟩
abbrev S128x1 : Shape := ⟨2, ![128, 1]⟩
abbrev S128x1024 : Shape := ⟨2, ![128, 1024]⟩
abbrev S1x1024 : Shape := ⟨2, ![1, 1024]⟩
abbrev S1x128x1024 : Shape := ⟨3, ![1, 128, 1024]⟩

abbrev nBuf : Space → Nat
  | .hbm => 37
  | .vmem => 23
  | .smem => 0
  | _ => 0

abbrev bufTy : (tb : Table) → Fin (tcTables nBuf tb) → BufTy
  | .hbm, ⟨0, _⟩ => ⟨S2x8192x5120, .bf16⟩
  | .hbm, ⟨1, _⟩ => ⟨S2x8192x128, .f32⟩
  | .hbm, ⟨2, _⟩ => ⟨S2x2x32, .f32⟩
  | .hbm, ⟨3, _⟩ => ⟨S2x2x32, .f32⟩
  | .hbm, ⟨4, _⟩ => ⟨S2x8192x3072, .bf16⟩
  | .hbm, ⟨5, _⟩ => ⟨S2x8192x2048, .bf16⟩
  | .hbm, ⟨6, _⟩ => ⟨S2x32, .f32⟩
  | .hbm, ⟨7, _⟩ => ⟨S2x2048, .f32⟩
  | .hbm, ⟨8, _⟩ => ⟨S2x4x128x512, .f32⟩
  | .hbm, ⟨9, _⟩ => ⟨S1x2x32, .f32⟩
  | .hbm, ⟨10, _⟩ => ⟨S2x32, .f32⟩
  | .hbm, ⟨11, _⟩ => ⟨S1x64, .f32⟩
  | .hbm, ⟨12, _⟩ => ⟨S1x2x16x2, .f32⟩
  | .hbm, ⟨13, _⟩ => ⟨S1x2x2x16, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x128, .f32⟩
  | .hbm, ⟨18, _⟩ => ⟨S1x2x32, .f32⟩
  | .hbm, ⟨19, _⟩ => ⟨S2x32, .f32⟩
  | .hbm, ⟨20, _⟩ => ⟨S1x64, .f32⟩
  | .hbm, ⟨21, _⟩ => ⟨S1x2x16x2, .f32⟩
  | .hbm, ⟨22, _⟩ => ⟨S1x2x2x16, .f32⟩
  | .hbm, ⟨23, _⟩ => ⟨S1x64, .f32⟩
  | .hbm, ⟨24, _⟩ => ⟨S_, .f32⟩
  | .hbm, ⟨25, _⟩ => ⟨S1x64, .f32⟩
  | .hbm, ⟨26, _⟩ => ⟨S1x128, .f32⟩
  | .hbm, ⟨27, _⟩ => ⟨S1x32, .f32⟩
  | .hbm, ⟨28, _⟩ => ⟨S32, .f32⟩
  | .hbm, ⟨29, _⟩ => ⟨S32x64, .f32⟩
  | .hbm, ⟨30, _⟩ => ⟨S2048, .f32⟩
  | .hbm, ⟨31, _⟩ => ⟨S1x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2x8192x2048, .bf16⟩
  | .hbm, ⟨36, _⟩ => ⟨S2x4x128x512, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S1x128, .f32⟩
  | .local _ .vmem, ⟨7, _⟩ => ⟨S1x128, .f32⟩
  | .local _ .vmem, ⟨8, _⟩ => ⟨S1x4x128x512, .f32⟩
  | .local _ .vmem, ⟨9, _⟩ => ⟨S1x4x128x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2048, .f32⟩
  | .local _ .vmem, ⟨17, _⟩ => ⟨S1x2048, .f32⟩
  | .local _ .vmem, ⟨18, _⟩ => ⟨S1x512x2048, .bf16⟩
  | .local _ .vmem, ⟨19, _⟩ => ⟨S1x512x2048, .bf16⟩
  | .local _ .vmem, ⟨20, _⟩ => ⟨S1x4x128x512, .f32⟩
  | .local _ .vmem, ⟨21, _⟩ => ⟨S1x4x128x512, .f32⟩
  | .local _ .vmem, ⟨22, _⟩ => ⟨S128x2048, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Proof.CtxRun.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.Pipeline.ValueKit
public import Idealize.ShloMosaic.Lib.Claim

/-! # The context projection: the run of its kernel
The kernel walks one row of thirteen column blocks. In the first column it also computes the normalised and modulated
input and the small projection, which stay in their buffers for the rest of the row; both are written back at the last
column. The proof data says of every output, at every point, one function of the input blocks there. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is in the first column of its row exactly when its number is a multiple of 13. -/
theorem first_iff : ∀ t : Fin cfg0.N, k0_cond1 (grid0.coords t) = 1#1 ↔ t.val % 13 = 0 :=
  (by decide +kernel : ∀ t : Fin grid0.N, k0_cond1 (grid0.coords t) = 1#1 ↔ t.val % 13 = 0)

/-- Offsets zero on two axes, -/
theorem hz2 : (![0, 0] : Fin 2 → ℕ) = fun _ => 0 := by decide
/-- and on three. -/
theorem hz3 : (![0, 0, 0] : Fin 3 → ℕ) = fun _ => 0 := by decide

/-- The grid's number of points. -/
theorem N_eq : cfg0.N = 13 := N_0

set_option maxHeartbeats 2000000 in
/-- The kernel body at a point of the first column: from the input blocks `x…` and anything in the output buffers it leaves each output block as the named function of the input blocks. -/
theorem body_first (c : Dev nD) (E : Set ℕ) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1024x2048 .f32) (harg5 : arg5.IsWhole) (arg6 : Memref sig .tc .vmem S256x2048 .f32) (harg6 : arg6.IsWhole) (arg7 : Memref sig .tc .vmem S512x1024 .bf16) (harg7 : arg7.IsWhole) (arg8 : Memref sig .tc .vmem S512x256 .f32) (harg8 : arg8.IsWhole) (arg9 : Memref sig .tc .vmem S512x2048 .bf16) (harg9 : arg9.IsWhole) (arg10 : Memref sig .tc .vmem S1024x2048 .bf16) (harg10 : arg10.IsWhole)
    (hc0 : k0_cond1 i = 1#1) (x0 : Vec F S512x2048 .f32) (x1 : Vec F S1x1x2048 .f32) (x2 : Vec F S1x1x2048 .f32) (x3 : Vec F S1x1024x2048 .f32) (x4 : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x3 (k0_pay1 x0 x2 x1)) ∗ owns (c : Thread nD τ) arg8 fullShare (k0_pay2 x0 x2 x1 x4) ∗ owns (c : Thread nD τ) arg9 fullShare (k0_pay1 x0 x2 x1) ∗ owns (c : Thread nD τ) arg10 fullShare (k0_pay3 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_eq_canon _ _ _ (View.cover_of_tiled _ S512x1024.size (by rfl))).trans ?_
    refine (View.canon_unit_zero hz2 _ _).trans ?_
    exact (congr (congrArg k0_pay4 ((View.ld_unit_zero hz3 _ _).trans hf3)) ((View.readCov_unit_zero _ hz2 _ _).trans (congr (congr (congrArg k0_pay1 ((View.ld_unit_zero hz2 _ _).trans hf0)) ((View.ld_unit_zero hz3 _ _).trans hf2)) ((View.ld_unit_zero hz3 _ _).trans hf1))))
  isplitl [H6]
  · iexists _; isplitr; swap; · iexact H6
    ipureintro
    refine (View.read_writes_eq_canon _ _ _ (View.cover_of_tiled _ S512x256.size (by rfl))).trans ?_
    refine (View.canon_unit_zero hz2 _ _).trans ?_
    exact (congr (congr (congr (congrArg k0_pay2 ((View.ld_unit_zero hz2 _ _).trans hf0)) ((View.ld_unit_zero hz3 _ _).trans hf2)) ((View.ld_unit_zero hz3 _ _).trans hf1)) ((View.ld_unit_zero hz2 _ _).trans hf4))
  isplitl [H7]
  · iexists _; isplitr; swap; · iexact H7
    ipureintro
    refine (View.read_writes_eq_canon _ _ _ (View.cover_of_tiled _ S512x2048.size (by rfl))).trans ?_
    refine (View.canon_unit_zero hz2 _ _).trans ?_
    exact (congr (congr (congrArg k0_pay1 ((View.ld_unit_zero hz2 _ _).trans hf0)) ((View.ld_unit_zero hz3 _ _).trans hf2)) ((View.ld_unit_zero hz3 _ _).trans hf1))
  iexists _; isplitr; swap; · iexact H8
  ipureintro
  refine (View.read_writes_eq_canon _ _ _ (View.cover_of_tiled _ S1024x2048.size (by rfl))).trans ?_
  refine (View.canon_unit_zero hz2 _ _).trans ?_
  exact (congrArg k0_pay3 ((View.ld_unit_zero hz3 _ _).trans hf3))

set_option maxHeartbeats 2000000 in
/-- The kernel body at a later point of the row: the buffers stored only in the first column (`y…`) stay as they are; the other outputs are the named functions of the input blocks and of `y…`. -/
theorem body_later (c : Dev nD) (E : Set ℕ) (i : grid0.Coords) (arg2 : Memref sig .tc .vmem S512x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1024x2048 .f32) (harg5 : arg5.IsWhole) (arg6 : Memref sig .tc .vmem S256x2048 .f32) (harg6 : arg6.IsWhole) (arg7 : Memref sig .tc .vmem S512x1024 .bf16) (harg7 : arg7.IsWhole) (arg8 : Memref sig .tc .vmem S512x256 .f32) (harg8 : arg8.IsWhole) (arg9 : Memref sig .tc .vmem S512x2048 .bf16) (harg9 : arg9.IsWhole) (arg10 : Memref sig .tc .vmem S1024x2048 .bf16) (harg10 : arg10.IsWhole)
    (hc0 : ¬ k0_cond1 i = 1#1) (x0 : Vec F S512x2048 .f32) (x1 : Vec F S1x1x2048 .f32) (x2 : Vec F S1x1x2048 .f32) (x3 : Vec F S1x1024x2048 .f32) (x4 : Vec F S256x2048 .f32) (y6 : Vec F S512x256 .f32) (y7 : Vec F S512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x3 y7) ∗ owns (c : Thread nD τ) arg8 fullShare y6 ∗ owns (c : Thread nD τ) arg9 fullShare y7 ∗ owns (c : Thread nD τ) arg10 fullShare (k0_pay3 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_eq_canon _ _ _ (View.cover_of_tiled _ S512x1024.size (by rfl))).trans ?_
    refine (View.canon_unit_zero hz2 _ _).trans ?_
    exact (congr (congrArg k0_pay4 ((View.ld_unit_zero hz3 _ _).trans hf3)) ((View.ld_unit_zero hz2 _ _).trans hf7))
  isplitl [H6]
  · iexists _; isplitr; · ipureintro; exact harg8.read_unread _
    iexact H6
  isplitl [H7]
  · iexists _; isplitr; · ipureintro; exact harg9.read_unread _
    iexact H7
  iexists _; isplitr; swap; · iexact H8
  ipureintro
  refine (View.read_writes_eq_canon _ _ _ (View.cover_of_tiled _ S1024x2048.size (by rfl))).trans ?_
  refine (View.canon_unit_zero hz2 _ _).trans ?_
  exact (congrArg k0_pay3 ((View.ld_unit_zero hz3 _ _).trans hf3))

/-! ## The proof data -/

/-- What output block 5 holds after point `t`: the same function of the input blocks at every point. -/
def out5 (c : Dev nD) (t : Fin cfg0.N) : Vec F S512x1024 .bf16 := k0_pay4 (iblk m c 3 t) (k0_pay1 (iblk m c 0 t) (iblk m c 2 t) (iblk m c 1 t))

/-- What output block 6 holds after point `t`: the same function of the input blocks at every point. -/
def out6 (c : Dev nD) (t : Fin cfg0.N) : Vec F S512x256 .f32 := k0_pay2 (iblk m c 0 t) (iblk m c 2 t) (iblk m c 1 t) (iblk m c 4 t)

/-- What output block 7 holds after point `t`: the same function of the input blocks at every point. -/
def out7 (c : Dev nD) (t : Fin cfg0.N) : Vec F S512x2048 .bf16 := k0_pay1 (iblk m c 0 t) (iblk m c 2 t) (iblk m c 1 t)

/-- What output block 8 holds after point `t`: the same function of the input blocks at every point. -/
def out8 (c : Dev nD) (t : Fin cfg0.N) : Vec F S1024x2048 .bf16 := k0_pay3 (iblk m c 3 t)

/-- The proof data: the arrays as the region finds them; after a point each input's buffer at its block and each output's at `out…`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
  Φ _ := Pipeline.ΦA spec0 c
  q _ := fullShare
  owed _ := 0

/-- The data's arrays are the contents at the region's entry. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
/-- What window 1's buffer (the shifts) holds after a point. -/
theorem after_1 (c : Dev nD) (t : Fin cfg0.N) : (dats m 0 c).after 1 t = iblk m c 1 t := by dsimp only [dats]
/-- What window 2's buffer (the scales) holds after a point. -/
theorem after_2 (c : Dev nD) (t : Fin cfg0.N) : (dats m 0 c).after 2 t = iblk m c 2 t := by dsimp only [dats]
/-- What window 3's buffer (the weights) holds after a point. -/
theorem after_3 (c : Dev nD) (t : Fin cfg0.N) : (dats m 0 c).after 3 t = iblk m c 3 t := by dsimp only [dats]
/-- What window 4's buffer (the narrow weights) holds after a point. -/
theorem after_4 (c : Dev nD) (t : Fin cfg0.N) : (dats m 0 c).after 4 t = iblk m c 4 t := by dsimp only [dats]
/-- What window 5's buffer (the wide product) holds after a point. -/
theorem after_5 (c : Dev nD) (t : Fin cfg0.N) : (dats m 0 c).after 5 t = out5 m c t := by dsimp only [dats]
/-- What window 6's buffer (the narrow product) holds after a point. -/
theorem after_6 (c : Dev nD) (t : Fin cfg0.N) : (dats m 0 c).after 6 t = out6 m c t := by dsimp only [dats]
/-- What window 7's buffer (the modulated rows) holds after a point. -/
theorem after_7 (c : Dev nD) (t : Fin cfg0.N) : (dats m 0 c).after 7 t = out7 m c t := by dsimp only [dats]
/-- What window 8's buffer (the packed weights) holds after a point. -/
theorem after_8 (c : Dev nD) (t : Fin cfg0.N) : (dats m 0 c).after 8 t = out8 m c t := by dsimp only [dats]

/-- An input's buffer holds its block at every point. -/
theorem before_0 (c : Dev nD) (t : Fin cfg0.N) (d) : (dats m 0 c).before 0 t d = iblk m c 0 t :=
  before0_0_of m (dats m 0 c) (A_eq m c 0) (after_0 m c) t d
/-- What window 1's buffer (the shifts) holds before a point's body. -/
theorem before_1 (c : Dev nD) (t : Fin cfg0.N) (d) : (dats m 0 c).before 1 t d = iblk m c 1 t :=
  before0_1_of m (dats m 0 c) (A_eq m c 1) (after_1 m c) t d
/-- What window 2's buffer (the scales) holds before a point's body. -/
theorem before_2 (c : Dev nD) (t : Fin cfg0.N) (d) : (dats m 0 c).before 2 t d = iblk m c 2 t :=
  before0_2_of m (dats m 0 c) (A_eq m c 2) (after_2 m c) t d
/-- What window 3's buffer (the weights) holds before a point's body. -/
theorem before_3 (c : Dev nD) (t : Fin cfg0.N) (d) : (dats m 0 c).before 3 t d = iblk m c 3 t :=
  before0_3_of m (dats m 0 c) (A_eq m c 3) (after_3 m c) t d
/-- What window 4's buffer (the narrow weights) holds before a point's body. -/
theorem before_4 (c : Dev nD) (t : Fin cfg0.N) (d) : (dats m 0 c).before 4 t d = iblk m c 4 t :=
  before0_4_of m (dats m 0 c) (A_eq m c 4) (after_4 m c) t d

/-- Within a row these input blocks do not change from one point to the next. -/
theorem carry_0 (c : Dev nD) (t : Fin cfg0.N) (h : t.val % 13 ≠ 0) :
    iblk m c 0 t = iblk m c 0 ⟨t.val - 1, Nat.lt_of_le_of_lt (Nat.sub_le _ _) t.isLt⟩ := by
  have hf : (cfg0.win 0).fetch t = false := by
    rw [← Bool.not_eq_true, fetch0_0 t]; omega
  obtain ⟨-, hix⟩ := (cfg0.win 0).index_eq_of_fetch rfl t hf
  have e := (dats m 0 c).fetched_congr 0 hix rfl (iblk m c 0 t)
  unfold Dat.fetched Dat.blockOf at e
  rw [A_eq] at e
  exact e

/-- Away from the first column of a row, window 1 (the shifts) keeps its block from the point before. -/
theorem carry_1 (c : Dev nD) (t : Fin cfg0.N) (h : t.val % 13 ≠ 0) :
    iblk m c 1 t = iblk m c 1 ⟨t.val - 1, Nat.lt_of_le_of_lt (Nat.sub_le _ _) t.isLt⟩ := by
  have hf : (cfg0.win 1).fetch t = false := by
    rw [← Bool.not_eq_true, fetch0_1 t]; omega
  obtain ⟨-, hix⟩ := (cfg0.win 1).index_eq_of_fetch rfl t hf
  have e := (dats m 0 c).fetched_congr 1 hix rfl (iblk m c 1 t)
  unfold Dat.fetched Dat.blockOf at e
  rw [A_eq] at e
  exact e

/-- Away from the first column of a row, window 2 (the scales) keeps its block from the point before. -/
theorem carry_2 (c : Dev nD) (t : Fin cfg0.N) (h : t.val % 13 ≠ 0) :
    iblk m c 2 t = iblk m c 2 ⟨t.val - 1, Nat.lt_of_le_of_lt (Nat.sub_le _ _) t.isLt⟩ := by
  have hf : (cfg0.win 2).fetch t = false := by
    rw [← Bool.not_eq_true, fetch0_2 t]; omega
  obtain ⟨-, hix⟩ := (cfg0.win 2).index_eq_of_fetch rfl t hf
  have e := (dats m 0 c).fetched_congr 2 hix rfl (iblk m c 2 t)
  unfold Dat.fetched Dat.blockOf at e
  rw [A_eq] at e
  exact e

/-- Away from the first column of a row, window 4 (the narrow weights) keeps its block from the point before. -/
theorem carry_4 (c : Dev nD) (t : Fin cfg0.N) (h : t.val % 13 ≠ 0) :
    iblk m c 4 t = iblk m c 4 ⟨t.val - 1, Nat.lt_of_le_of_lt (Nat.sub_le _ _) t.isLt⟩ := by
  have hf : (cfg0.win 4).fetch t = false := by
    rw [← Bool.not_eq_true, fetch0_4 t]; omega
  obtain ⟨-, hix⟩ := (cfg0.win 4).index_eq_of_fetch rfl t hf
  have e := (dats m 0 c).fetched_congr 4 hix rfl (iblk m c 4 t)
  unfold Dat.fetched Dat.blockOf at e
  rw [A_eq] at e
  exact e

/-- So output block 6 stays the same along a row. -/
theorem out6_carry (c : Dev nD) (t : Fin cfg0.N) (h : t.val % 13 ≠ 0) :
    out6 m c t = out6 m c ⟨t.val - 1, Nat.lt_of_le_of_lt (Nat.sub_le _ _) t.isLt⟩ := by
  unfold out6
  rw [carry_0 m c t h, carry_1 m c t h, carry_2 m c t h, carry_4 m c t h]

/-- Output 6's buffer is idle exactly at the later points of a row. -/
theorem idle_6 (t : Fin cfg0.N) (h : t.val % 13 ≠ 0) : cfg0.idle 6 (cfg0.grid.coords t) = true := by
  have hc : ¬ k0_cond1 (grid0.coords t) = 1#1 := fun e => h ((first_iff t).mp e)
  show (!(k0_cond1 (grid0.coords t) == 1#1)) = true
  simp [hc]

/-- Output window 6 (the narrow product) is stored at the first column of a row. -/
theorem live_6 (t : Fin cfg0.N) (h : t.val % 13 = 0) : cfg0.idle 6 (cfg0.grid.coords t) = false := by
  have hc : k0_cond1 (grid0.coords t) = 1#1 := (first_iff t).mpr h
  show (!(k0_cond1 (grid0.coords t) == 1#1)) = false
  simp [hc]

/-- At a later point of a row output 6's buffer still holds what the row's points left. -/
theorem fresh_6 : ∀ t : Fin cfg0.N, t.val % 13 ≠ 0 → cfg0.fresh 6 t.val = false :=
  (by decide +kernel : ∀ t : Fin grid0.N, t.val % 13 ≠ 0 → cfg0.fresh 6 t.val = false)

/-- What the body finds in output 6's buffer at a later point of a row: the row's block. -/
theorem before_6 (c : Dev nD) (t : Fin cfg0.N) (h : t.val % 13 ≠ 0) (d) : (dats m 0 c).before 6 t d = out6 m c t := by
  rw [(dats m 0 c).before_out_traj 6 rfl (fun _ _ => rfl) (fun s _ hi _ => by
      rw [after_6, after_6]
      refine out6_carry m c s fun e => ?_
      rw [live_6 s e] at hi; exact Bool.false_ne_true hi) t.val t rfl d, fresh_6 t h, if_neg Bool.false_ne_true, after_6]
  exact (out6_carry m c t h).symm

/-- Output 6's buffer at the row's block is what every point leaves: stored there in the first column, found and kept later. -/
theorem leaves_6 (c : Dev nD) (t : Fin cfg0.N) :
    (owns (c : Thread nD τ) (win0_6.stage (cfg0.slots t 6)) fullShare (out6 m c t) : sProp 𝕄) ⊢ (dats m 0 c).leavesExact 6 t := by
  by_cases h : t.val % 13 = 0
  · rw [show (dats m 0 c).leavesExact 6 t = owns (c : Thread nD τ) (win0_6.stage (cfg0.slots t 6)) fullShare ((dats m 0 c).after 6 t) from by
      unfold Dat.leavesExact; rw [live_6 t h], after_6]
  · by_cases hf : (cfg0.win 6).flush t = true
    · rw [show (dats m 0 c).leavesExact 6 t = owns (c : Thread nD τ) (win0_6.stage (cfg0.slots t 6)) fullShare ((dats m 0 c).after 6 t) from by
        unfold Dat.leavesExact; rw [idle_6 t h, hf], after_6]
    · rw [Bool.not_eq_true] at hf
      rw [(dats m 0 c).leavesExact_idle 6 t (idle_6 t h) hf]
      iintro H
      iexists (out6 m c t)
      rw [before_6 m c t h]
      iexact H

/-- So output block 7 stays the same along a row. -/
theorem out7_carry (c : Dev nD) (t : Fin cfg0.N) (h : t.val % 13 ≠ 0) :
    out7 m c t = out7 m c ⟨t.val - 1, Nat.lt_of_le_of_lt (Nat.sub_le _ _) t.isLt⟩ := by
  unfold out7
  rw [carry_0 m c t h, carry_1 m c t h, carry_2 m c t h]

/-- Output 7's buffer is idle exactly at the later points of a row. -/
theorem idle_7 (t : Fin cfg0.N) (h : t.val % 13 ≠ 0) : cfg0.idle 7 (cfg0.grid.coords t) = true := by
  have hc : ¬ k0_cond1 (grid0.coords t) = 1#1 := fun e => h ((first_iff t).mp e)
  show (!(k0_cond1 (grid0.coords t) == 1#1)) = true
  simp [hc]

/-- Output window 7 (the modulated rows) is stored at the first column of a row. -/
theorem live_7 (t : Fin cfg0.N) (h : t.val % 13 = 0) : cfg0.idle 7 (cfg0.grid.coords t) = false := by
  have hc : k0_cond1 (grid0.coords t) = 1#1 := (first_iff t).mpr h
  show (!(k0_cond1 (grid0.coords t) == 1#1)) = false
  simp [hc]

/-- At a later point of a row output 7's buffer still holds what the row's points left. -/
theorem fresh_7 : ∀ t : Fin cfg0.N, t.val % 13 ≠ 0 → cfg0.fresh 7 t.val = false :=
  (by decide +kernel : ∀ t : Fin grid0.N, t.val % 13 ≠ 0 → cfg0.fresh 7 t.val = false)

/-- What the body finds in output 7's buffer at a later point of a row: the row's block. -/
theorem before_7 (c : Dev nD) (t : Fin cfg0.N) (h : t.val % 13 ≠ 0) (d) : (dats m 0 c).before 7 t d = out7 m c t := by
  rw [(dats m 0 c).before_out_traj 7 rfl (fun _ _ => rfl) (fun s _ hi _ => by
      rw [after_7, after_7]
      refine out7_carry m c s fun e => ?_
      rw [live_7 s e] at hi; exact Bool.false_ne_true hi) t.val t rfl d, fresh_7 t h, if_neg Bool.false_ne_true, after_7]
  exact (out7_carry m c t h).symm

/-- Output 7's buffer at the row's block is what every point leaves: stored there in the first column, found and kept later. -/
theorem leaves_7 (c : Dev nD) (t : Fin cfg0.N) :
    (owns (c : Thread nD τ) (win0_7.stage (cfg0.slots t 7)) fullShare (out7 m c t) : sProp 𝕄) ⊢ (dats m 0 c).leavesExact 7 t := by
  by_cases h : t.val % 13 = 0
  · rw [show (dats m 0 c).leavesExact 7 t = owns (c : Thread nD τ) (win0_7.stage (cfg0.slots t 7)) fullShare ((dats m 0 c).after 7 t) from by
      unfold Dat.leavesExact; rw [live_7 t h], after_7]
  · by_cases hf : (cfg0.win 7).flush t = true
    · rw [show (dats m 0 c).leavesExact 7 t = owns (c : Thread nD τ) (win0_7.stage (cfg0.slots t 7)) fullShare ((dats m 0 c).after 7 t) from by
        unfold Dat.leavesExact; rw [idle_7 t h, hf], after_7]
    · rw [Bool.not_eq_true] at hf
      rw [(dats m 0 c).leavesExact_idle 7 t (idle_7 t h) hf]
      iintro H
      iexists (out7 m c t)
      rw [before_7 m c t h]
      iexact H

/-! ## The body obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2000000 in
/-- The body at every point, by the two cases of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0 m c t, before_1 m c t, before_2 m c t, before_3 m c t, before_4 m c t]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after_4]
  rw [show (dats m 0 c).leavesExact 5 t = owns (c : Thread nD τ) (win0_5.stage (cfg0.slots t 5)) fullShare ((dats m 0 c).after 5 t) from by
      unfold Dat.leavesExact; rw [show cfg0.idle 5 (cfg0.grid.coords t) = false from rfl], after_5]
  rw [show (dats m 0 c).leavesExact 8 t = owns (c : Thread nD τ) (win0_8.stage (cfg0.slots t 8)) fullShare ((dats m 0 c).after 8 t) from by
      unfold Dat.leavesExact; rw [show cfg0.idle 8 (cfg0.grid.coords t) = false from rfl], after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : t.val % 13 = 0
  · have hc := (first_iff t).mpr h
    iapply (body_first c Set.univ (grid0.coords t) _ _ _ _ _ _ _ _ _ _ _ _ _ _ _ _ _ _ hc (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6 m c t); iexact H6
    isplitl [H7]; · iapply (leaves_7 m c t); iexact H7
    iexact H8
  · have hc : ¬ k0_cond1 (grid0.coords t) = 1#1 := fun e => h ((first_iff t).mp e)
    rw [before_6 m c t h]
    rw [before_7 m c t h]
    iapply (body_later c Set.univ (grid0.coords t) _ _ _ _ _ _ _ _ _ _ _ _ _ _ _ _ _ _ hc (iblk m c 0 t) (iblk m c 1 t) (iblk m c 2 t) (iblk m c 3 t) (iblk m c 4 t) (out6 m c t) (out7 m c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6 m c t); iexact H6
    isplitl [H7]; · iapply (leaves_7 m c t); iexact H7
    iexact H8

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution from any memory with zero counters ends, with every array of the pipeline at what the proof data computes,
    every other buffer as the region found it, and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := fun r => Pipeline.FramePost cfgs (dats m) 0 (V m) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments after the run, unchanged. -/
theorem unchanged : θ_run defs (onTc (τ := τ) (main (F := F))) ⟨m, fun _ => 0, ρ⟩ fun r => ∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  Gen.frame_of m ρ (dats m) (A_eq m) (run_main m ρ)

/-- The arguments are unchanged and every counter is at zero. -/
theorem frame : θ_run defs (onTc (τ := τ) (main (F := F))) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0 :=
  θ_run_and (unchanged m ρ) ((θ_run defs _ _).mono (fun _ h => h.2) (run_quiescent m ρ))

end Cert.KernelIdeal.Run

end
-- ==== Proof.Spec.lean ====
module

public import Idealize.ShloMosaic.Lib.Pointwise

/-! # The mathematics of the projections
Layer normalisation over 2048 features followed by a modulation, over the extended reals: what both the kernel's and the
reference's rows are shown to be. -/

@[expose] public section

noncomputable section

namespace Cert.Spec

open Idealize.ShloMosaic

/-- The mean of a row of 2048 numbers. -/
def mean (x : Fin 2048 → EReal) : EReal := Ideal.div (∑ k, x k) (Ideal.ofBits .f32 0x45000000#32)

/-- The normalised row: centred, times the reciprocal root of the variance plus ε. -/
def normRow (x : Fin 2048 → EReal) (k : Fin 2048) : EReal :=
  (x k - mean x) * Ideal.rsqrt (Ideal.div (∑ l, (x l - mean x) * (x l - mean x)) (Ideal.ofBits .f32 0x45000000#32)
    + Ideal.ofBits .f32 0x3727C5AC#32)

/-- The normalised row modulated: `norm · (1 + scale) + shift`. -/
def modulated (x sc sh : Fin 2048 → EReal) (k : Fin 2048) : EReal := normRow x k * (1 + sc k) + sh k

/-- The input projection's column that column `n` of the packed product takes: the 13312 columns that are kept of the 13408, in
    order, the 32 columns from 8192 and the 64 from 11296 left out. -/
def col (n : Fin 13312) : Fin 13408 :=
  ⟨if n.val < 8192 then n.val else if n.val < 11264 then n.val + 32 else n.val + 96, by have := n.isLt; split_ifs <;> omega⟩

/-- The three stretches of `col`. -/
theorem col_cases (n : Fin 13312) : (n.val < 8192 ∧ (col n).val = n.val) ∨ (8192 ≤ n.val ∧ n.val < 11264 ∧ (col n).val = n.val + 32)
    ∨ (11264 ≤ n.val ∧ (col n).val = n.val + 96) := by
  unfold col; simp only []; split_ifs <;> omega

/-- Which of the 64 columns from 11296 stands at place `e` of the reordered ones: the two halves of 32, in each the even
    members before the odd ones. -/
def unzip (e : ℕ) : ℕ := e / 32 * 32 + e % 16 * 2 + e / 16 % 2

/-- The narrow projection of one row `y` of the input projection: the 32 columns from 8192, zeros up to 128, the 64 columns from
    11296 reordered, zeros up to 256. -/
def narrow (y : Fin 13408 → EReal) (n : Fin 256) : EReal :=
  if h : n.val < 32 then y ⟨8192 + n.val, by omega⟩
  else if n.val < 128 then 0
  else if h : n.val < 192 then y ⟨11296 + unzip (n.val - 128), by unfold unzip; omega⟩
  else 0

/-- The four places the reordering distinguishes. -/
theorem unzip_cases {e : ℕ} (h : e < 64) : (e < 16 ∧ unzip e = 2 * e) ∨ (16 ≤ e ∧ e < 32 ∧ unzip e = 2 * (e - 16) + 1)
    ∨ (32 ≤ e ∧ e < 48 ∧ unzip e = 32 + 2 * (e - 32)) ∨ (48 ≤ e ∧ unzip e = 33 + 2 * (e - 48)) := by
  revert e; decide

/-- `narrow` below 32. -/
theorem narrow_low {y : Fin 13408 → EReal} {n : Fin 256} {v : EReal} (h : n.val < 32)
    (hv : ∀ k : Fin 13408, k.val = 8192 + n.val → y k = v) : narrow y n = v := by
  unfold narrow; rw [dif_pos h]; exact hv _ rfl

/-- `narrow` from 128 up to 192. -/
theorem narrow_mid {y : Fin 13408 → EReal} {n : Fin 256} {v : EReal} (h : 128 ≤ n.val ∧ n.val < 192)
    (hv : ∀ k : Fin 13408, k.val = 11296 + unzip (n.val - 128) → y k = v) : narrow y n = v := by
  unfold narrow; rw [dif_neg (by omega), if_neg (by omega), dif_pos h.2]; exact hv _ rfl

/-- `narrow` elsewhere. -/
theorem narrow_zero {y : Fin 13408 → EReal} {n : Fin 256} (h : (32 ≤ n.val ∧ n.val < 128) ∨ 192 ≤ n.val) :
    narrow y n = 0 := by
  unfold narrow; rw [dif_neg (by omega)]
  split_ifs
  · rfl
  · omega
  · rfl

/-- A row times the narrow weights is the narrow form of the row times all weights: a zero column gives a zero. -/
theorem sum_narrow (u : Fin 2048 → EReal) (w : Fin 2048 → Fin 13408 → EReal) (n : Fin 256) :
    ∑ k, u k * narrow (w k) n = narrow (fun j => ∑ k, u k * w k j) n := by
  unfold narrow
  split_ifs
  · rfl
  · simp
  · rfl
  · simp

/-! ## The latent projection's columns -/

/-- The first 8192 columns as columns of the input projection. -/
def wide (n : Fin 8192) : Fin 13408 := ⟨n.val, by omega⟩

/-- The packed order begins with them. -/
theorem col_wide (n : Fin 8192) : col ⟨n.val, by omega⟩ = wide n :=
  Fin.ext (by have h := col_cases ⟨n.val, by omega⟩; simp only [] at h; show _ = n.val; omega)

/-- The 32 gates' columns, then zeros. -/
def gates (y : Fin 13408 → EReal) (n : Fin 128) : EReal := if h : n.val < 32 then y ⟨8192 + n.val, by omega⟩ else 0

/-- A row times the gates' weights. -/
theorem sum_gates (u : Fin 2048 → EReal) (w : Fin 2048 → Fin 13408 → EReal) (n : Fin 128) :
    ∑ k, u k * gates (w k) n = gates (fun j => ∑ k, u k * w k j) n := by
  unfold gates
  split_ifs
  · rfl
  · simp

/-! ## The column-major projection's columns -/

/-- The last 5120 packed columns as columns of the input projection. -/
def upper (n : Fin 5120) : Fin 13408 := col ⟨8192 + n.val, by omega⟩

/-- The two stretches of `upper`. -/
theorem upper_cases (n : Fin 5120) : (n.val < 3072 ∧ (upper n).val = 8224 + n.val)
    ∨ (3072 ≤ n.val ∧ (upper n).val = 8288 + n.val) := by
  have h := col_cases ⟨8192 + n.val, by omega⟩
  unfold upper; simp only [] at h; omega

/-- The 64 step sizes' columns reordered, then zeros. -/
def steps (y : Fin 13408 → EReal) (n : Fin 128) : EReal :=
  if h : n.val < 64 then y ⟨11296 + unzip n.val, by unfold unzip; omega⟩ else 0

/-- `steps` below 64. -/
theorem steps_low {y : Fin 13408 → EReal} {n : Fin 128} {v : EReal} (h : n.val < 64)
    (hv : ∀ k : Fin 13408, k.val = 11296 + unzip n.val → y k = v) : steps y n = v := by
  unfold steps; rw [dif_pos h]; exact hv _ rfl

/-- `steps` from 64 on. -/
theorem steps_zero {y : Fin 13408 → EReal} {n : Fin 128} (h : 64 ≤ n.val) : steps y n = 0 := by
  unfold steps; rw [dif_neg (by omega)]

/-- A row times the step sizes' weights. -/
theorem sum_steps (u : Fin 2048 → EReal) (w : Fin 2048 → Fin 13408 → EReal) (n : Fin 128) :
    ∑ k, u k * steps (w k) n = steps (fun j => ∑ k, u k * w k j) n := by
  unfold steps
  split_ifs
  · rfl
  · simp

end Cert.Spec

end
-- ==== Proof.CtxRef.lean ====
module

public import proofs.«01_k».proof.Proof.Spec
public import proofs.«01_k».proof.Proof.Gen.ReferenceIdeal.Read
public import Idealize.ShloMosaic.Lib.Pointwise

/-! # The context projection: what the plain program computes
The context tokens are 512 rows of 2048 numbers. Each row is normalised and modulated by the third entry of the second layer's
modulation table, and multiplied with the layer's input projection, whose columns are then taken in the packed order. -/

@[expose] public section

set_option maxRecDepth 16384

noncomputable section

namespace Cert.Ctx

open Idealize.ShloMosaic Cert.ReferenceIdeal Cert.ReferenceIdeal.Read Cert.Spec

variable (x0 : Vec Ideal S2x256x2048 .f32) (x1 : Vec Ideal S2x8x6144 .f32) (x2 : Vec Ideal S2x2048x13408 .f32)

/-- Row `r` of the 512 modulated rows. -/
def row (r : Fin 512) : Fin 2048 → EReal :=
  modulated (fun k => x0 (ix3 ⟨r.val / 256, by omega⟩ ⟨r.val % 256, by omega⟩ k))
    (fun k => x1 (ix3 1 2 ⟨2048 + k.val, by omega⟩)) (fun k => x1 (ix3 1 2 ⟨k.val, by omega⟩))

/-- Row `r` times column `n` of the input projection. -/
def proj (r : Fin 512) (n : Fin 13408) : EReal := ∑ k, row x0 x1 r k * x2 (ix3 1 k n)

/-- The modulated rows of the plain program. -/
theorem ref_row (b : Fin 2) (s : Fin 256) (k : Fin 2048) :
    val_main_v30 (F := Ideal) x0 x1 (ix3 b s k) = modulated (fun k => x0 (ix3 b s k))
      (fun k => x1 (ix3 1 2 ⟨2048 + k.val, by omega⟩)) (fun k => x1 (ix3 1 2 ⟨k.val, by omega⟩)) k := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, modulated, normRow, mean]

/-- The plain program's whole product. -/
theorem ref_prod (b : Fin 2) (s : Fin 256) (n : Fin 13408) :
    val_main_v33 (F := Ideal) x0 x1 x2 (ix3 b s n) = ∑ k : Fin 2048, val_main_v30 x0 x1 (ix3 b s k) * x2 (ix3 1 k n) := by
  pointwise [val_main_v33, val_main_v32, val_main_v31]

/-- The same by the 512 rows. -/
theorem ref_proj (r : Fin 512) (n : Fin 13408) :
    val_main_v33 (F := Ideal) x0 x1 x2 (ix3 ⟨r.val / 256, by omega⟩ ⟨r.val % 256, by omega⟩ n) = proj x0 x1 x2 r n := by
  rw [ref_prod]
  exact Finset.sum_congr rfl fun k _ => congrArg (· * x2 (ix3 1 k n)) (ref_row x0 x1 _ _ k)

/-- The plain program's packed product, before the rows are taken together, is the whole product at the columns kept. -/
theorem ref_packed (r : Fin 512) (n : Fin 13312) :
    val_main_v44 (F := Ideal) x0 x1 x2 (ix2 r n)
      = val_main_v33 x0 x1 x2 (ix3 ⟨r.val / 256, by omega⟩ ⟨r.val % 256, by omega⟩ (col n)) := by
  pointwise [val_main_v44, val_main_v35, val_main_v36, val_main_v37, val_main_v38, val_main_v39, val_main_v40, val_main_v41,
    val_main_v42, val_main_v43, val_main_v34]
  have h := col_cases n
  generalize col n = k at h ⊢
  split_ifs <;> exact congrArg (val_main_v33 x0 x1 x2) (congrArg (ix3 _ _) (Fin.ext (by simp only []; omega)))

/-- FIRST RESULT of the plain program: the packed product. -/
theorem ref_first (r : Fin 512) (n : Fin 13312) :
    val_main_v63 (F := Ideal) x0 x1 x2 (ix2 r n) = proj x0 x1 x2 r (col n) :=
  (ref_packed x0 x1 x2 r n).trans (ref_proj x0 x1 x2 r (col n))

/-- SECOND RESULT of the plain program: the narrow product. -/
theorem ref_second (r : Fin 512) (n : Fin 256) :
    val_main_v51 (F := Ideal) x0 x1 x2 (ix2 r n) = narrow (proj x0 x1 x2 r) n := by
  have e : proj x0 x1 x2 r = fun k => val_main_v33 x0 x1 x2 (ix3 ⟨r.val / 256, by omega⟩ ⟨r.val % 256, by omega⟩ k) :=
    funext fun k => (ref_proj x0 x1 x2 r k).symm
  rw [e]
  pointwise [val_main_v51, val_main_v45, val_main_v46, val_main_v47, val_main_v48, val_main_v49, val_main_v50, val_main_v40,
    val_main_v42, val_main_v34, val_main_cst_5, val_main_cst_6]
  have hn := n.isLt
  have hu := fun h => unzip_cases (e := n.val - 128) h
  split_ifs <;> symm
  all_goals first
    | exact narrow_zero (by omega)
    | exact narrow_low (by omega) fun k hk =>
        congrArg (val_main_v33 x0 x1 x2) (congrArg (ix3 _ _) (Fin.ext (by simp only []; omega)))
    | exact narrow_mid (by omega) fun k hk =>
        congrArg (val_main_v33 x0 x1 x2) (congrArg (ix3 _ _) (Fin.ext (by have := hu (by omega); simp only []; omega)))

/-- THIRD RESULT of the plain program: the modulated rows. -/
theorem ref_third (r : Fin 512) (k : Fin 2048) : val_main_v65 (F := Ideal) x0 x1 (ix2 r k) = row x0 x1 r k := by
  rw [row, ← ref_row]
  pointwise [val_main_v65, val_main_v64]

/-- FOURTH RESULT of the plain program: the kept columns of the input projection, as rows. -/
theorem ref_fourth (n : Fin 13312) (k : Fin 2048) : val_main_v66 (F := Ideal) x2 (ix2 n k) = x2 (ix3 1 k (col n)) := by
  pointwise [val_main_v66, val_main_v62, val_main_v61, val_main_v52, val_main_v53, val_main_v54, val_main_v55, val_main_v56,
    val_main_v57, val_main_v58, val_main_v59, val_main_v60, val_main_v32, val_main_v31]
  have h := col_cases n
  generalize col n = j at h ⊢
  split_ifs <;> exact congrArg x2 (congrArg (fun j => ix3 1 k j) (Fin.ext (by simp only []; omega)))

end Cert.Ctx

end
-- ==== Proof.CtxValue.lean ====
module

public import proofs.«01_k».proof.Proof.CtxRun
public import proofs.«01_k».proof.Proof.CtxRef
public import Idealize.ShloMosaic.Lib.Pointwise

/-! # The context projection: what the kernel computes
The arrays the region finds, its windows' blocks at a point, the body's payloads on them, and from these the four results. -/

@[expose] public section

set_option maxRecDepth 16384

noncomputable section

namespace Cert.KernelIdeal.Run

open Idealize.ShloMosaic Idealize.ShloMosaic.TcCoe Idealize.SL.Sem Cert.KernelIdeal.Gen Cert.Spec
open Idealize.ShloMosaic.Pipeline (Dat Cfg Window)

variable (m : (ℓ : Loc nD τ sig) → Buf (Elt Ideal) ℓ) (c : Dev nD)

/-- The argument arrays at launch. -/
abbrev ctx : Vec Ideal S2x256x2048 .f32 := m ((c : Thread nD τ).loc main_arg0)
/-- The modulation table at launch. -/
abbrev mods : Vec Ideal S2x8x6144 .f32 := m ((c : Thread nD τ).loc main_arg1)
/-- The input projection's weights at launch. -/
abbrev win : Vec Ideal S2x2048x13408 .f32 := m ((c : Thread nD τ).loc main_arg2)

/-! ## The arrays the region finds -/

/-- The context tokens as 512 rows. -/
theorem V_v24 (r : Fin 512) (k : Fin 2048) :
    V m c main_v24 (ix2 r k) = ctx m c (ix3 ⟨r.val / 256, by omega⟩ ⟨r.val % 256, by omega⟩ k) := by
  unfold V
  after_results
  pointwise

/-- The input projections transposed. -/
theorem V_v0 (l : Fin 2) (r : Fin 13408) (k : Fin 2048) : V m c main_v0 (ix3 l r k) = win m c (ix3 l k r) := by
  unfold V
  after_results
  pointwise

/-- The shifts of the second layer. -/
theorem V_v16 (b : Fin 8) (k : Fin 2048) : V m c main_v16 (ix3 b 0 k) = mods m c (ix3 1 b ⟨k.val, by omega⟩) := by
  unfold V
  after_results
  pointwise

/-- The scales of the second layer. -/
theorem V_v19 (b : Fin 8) (k : Fin 2048) : V m c main_v19 (ix3 b 0 k) = mods m c (ix3 1 b ⟨2048 + k.val, by omega⟩) := by
  unfold V
  after_results
  pointwise

/-- The narrow weights. -/
theorem V_v23 (n : Fin 256) (k : Fin 2048) : V m c main_v23 (ix2 n k) = narrow (fun j => win m c (ix3 1 k j)) n := by
  unfold V
  after_results
  pointwise [unzip]
  have hn := n.isLt
  split_ifs <;> symm
  all_goals first
    | exact narrow_zero (by omega)
    | exact narrow_low (by omega) fun j hj => congrArg (fun j => win m c (ix3 1 k j)) (Fin.ext (by simp only []; omega))
    | exact narrow_mid (by omega) fun j hj => congrArg (fun j => win m c (ix3 1 k j)) (Fin.ext (by unfold unzip at hj; simp only []; omega))

/-! ## The windows' blocks -/

/-- Where the window of the tokens stands at each point. -/
theorem idx0 : ∀ t : Fin 13, cc0_transform_0 (grid0.coords t) = ![0, 0] := by decide

/-- The token window holds the whole array. -/
theorem blk0 (t : Fin cfg0.N) (r : Fin 512) (k : Fin 2048) : iblk m c 0 t (ix2 r k) = V m c main_v24 (ix2 r k) := by
  unfold iblk
  rw [View.read_apply]
  refine congrArg (V m c main_v24) (funext fun a => Fin.ext ?_)
  refine (win0_0.rect_emb_val t (ix2 r k) a).trans ?_
  fin_cases a <;> simp [show win0_0.index t = ![0, 0] from idx0 t]

/-- The shift window holds the third of the eight entries. -/
theorem blk1 (t : Fin cfg0.N) (k : Fin 2048) : iblk m c 1 t (ix3 0 0 k) = V m c main_v16 (ix3 2 0 k) := by
  unfold iblk
  rw [View.read_apply]
  refine congrArg (V m c main_v16) (funext fun a => Fin.ext ?_)
  refine (win0_1.rect_emb_val t (ix3 0 0 k) a).trans ?_
  fin_cases a <;> simp [show win0_1.index t = ![2, 0, 0] from rfl]

/-- The scale window holds the third of the eight entries. -/
theorem blk2 (t : Fin cfg0.N) (k : Fin 2048) : iblk m c 2 t (ix3 0 0 k) = V m c main_v19 (ix3 2 0 k) := by
  unfold iblk
  rw [View.read_apply]
  refine congrArg (V m c main_v19) (funext fun a => Fin.ext ?_)
  refine (win0_2.rect_emb_val t (ix3 0 0 k) a).trans ?_
  fin_cases a <;> simp [show win0_2.index t = ![2, 0, 0] from rfl]

/-- The column of the input projection at which the weight window's element offset stands at point `t`. -/
theorem off3 : ∀ t : Fin 13, cc0_transform_3 (grid0.coords t)
    = ![1, if t.val < 8 then 1024 * t.val else if t.val < 11 then 1024 * t.val + 32 else 1024 * t.val + 96, 0] := by
  decide

/-- The weight window holds 1024 consecutive rows of the transposed input projection, from an offset given in elements: the
    rows the packed order takes at point `t`. -/
theorem blk3 (t : Fin cfg0.N) (r : Fin 1024) (k : Fin 2048) (n : Fin 13312) (hn : n.val = t.val * 1024 + r.val) :
    iblk m c 3 t (ix3 0 r k) = V m c main_v0 (ix3 1 (col n) k) := by
  unfold iblk
  rw [View.read_apply]
  refine congrArg (V m c main_v0) (funext fun a => Fin.ext ?_)
  refine (win0_3.rect_emb_val_off t (ix3 0 r k) a).trans ?_
  have ht : t.val < 13 := N_eq ▸ t.isLt
  have h := col_cases n
  have e := off3 t
  have hi : win0_3.kind.off (win0_3.index t a) (win0_3.size a) = cc0_transform_3 (grid0.coords t) a := rfl
  rw [hi, e]
  fin_cases a
  · simp
  · simp; split_ifs <;> omega
  · simp

/-- The narrow weights' window holds the whole array. -/
theorem blk4 (t : Fin cfg0.N) (n : Fin 256) (k : Fin 2048) : iblk m c 4 t (ix2 n k) = V m c main_v23 (ix2 n k) := by
  unfold iblk
  rw [View.read_apply]
  refine congrArg (V m c main_v23) (funext fun a => Fin.ext ?_)
  refine (win0_4.rect_emb_val t (ix2 n k) a).trans ?_
  fin_cases a <;> simp [show win0_4.index t = ![0, 0] from rfl]

/-! ## The body's payloads -/

/-- The modulated rows. -/
theorem pay1 (x : Vec Ideal S512x2048 .f32) (sc sh : Vec Ideal S1x1x2048 .f32) (r : Fin 512) (k : Fin 2048) :
    k0_pay1 (F := Ideal) x sc sh (ix2 r k)
      = modulated (fun k => x (ix2 r k)) (fun k => sc (ix3 0 0 k)) (fun k => sh (ix3 0 0 k)) k := by
  pointwise [k0_pay1, modulated, normRow, mean]

/-- The narrow product. -/
theorem pay2 (x : Vec Ideal S512x2048 .f32) (sc sh : Vec Ideal S1x1x2048 .f32) (w : Vec Ideal S256x2048 .f32) (r : Fin 512)
    (n : Fin 256) : k0_pay2 (F := Ideal) x sc sh w (ix2 r n) = ∑ k, k0_pay1 x sc sh (ix2 r k) * w (ix2 n k) := by
  pointwise [k0_pay2]

/-- The weights stored back. -/
theorem pay3 (w : Vec Ideal S1x1024x2048 .f32) (r : Fin 1024) (k : Fin 2048) :
    k0_pay3 (F := Ideal) w (ix2 r k) = w (ix3 0 r k) := by
  pointwise [k0_pay3]

/-- The wide product. -/
theorem pay4 (w : Vec Ideal S1x1024x2048 .f32) (u : Vec Ideal S512x2048 .bf16) (r : Fin 512) (n : Fin 1024) :
    k0_pay4 (F := Ideal) w u (ix2 r n) = ∑ k, u (ix2 r k) * k0_pay3 w (ix2 n k) := by
  pointwise [k0_pay4]

/-! ## The four results as functions of the arguments -/

/-- The packed product. -/
def first : Vec Ideal S512x13312 .bf16 := fun i => Ctx.proj (ctx m c) (mods m c) (win m c) (i 0) (col (i 1))

/-- The narrow product. -/
def second : Vec Ideal S512x256 .f32 := fun i => narrow (Ctx.proj (ctx m c) (mods m c) (win m c) (i 0)) (i 1)

/-- The modulated rows. -/
def third : Vec Ideal S512x2048 .bf16 := fun i => Ctx.row (ctx m c) (mods m c) (i 0) (i 1)

/-- The kept columns of the input projection, as rows. -/
def fourth : Vec Ideal S13312x2048 .bf16 := fun i => win m c (ix3 1 (i 1) (col (i 0)))

/-- The modulated rows at any point. -/
theorem out7_apply (t : Fin cfg0.N) (r : Fin 512) (k : Fin 2048) : out7 m c t (ix2 r k) = Ctx.row (ctx m c) (mods m c) r k :=
  (pay1 _ _ _ r k).trans (congrFun (congr (congr (congrArg modulated
    (funext fun k => (blk0 m c t r k).trans (V_v24 m c r k)))
    (funext fun k => (blk2 m c t k).trans (V_v19 m c 2 k)))
    (funext fun k => (blk1 m c t k).trans (V_v16 m c 2 k))) k)

/-- The weight block at point `t`. -/
theorem wblk_apply (t : Fin cfg0.N) (q : Fin 1024) (k : Fin 2048) (n : Fin 13312) (hn : n.val = t.val * 1024 + q.val) :
    k0_pay3 (F := Ideal) (iblk m c 3 t) (ix2 q k) = win m c (ix3 1 k (col n)) :=
  (pay3 _ q k).trans ((blk3 m c t q k n hn).trans (V_v0 m c 1 (col n) k))

/-- The packed product's columns at point `t`. -/
theorem out5_apply (t : Fin cfg0.N) (r : Fin 512) (q : Fin 1024) (n : Fin 13312) (hn : n.val = t.val * 1024 + q.val) :
    out5 m c t (ix2 r q) = Ctx.proj (ctx m c) (mods m c) (win m c) r (col n) :=
  (pay4 _ _ r q).trans (Finset.sum_congr rfl fun k _ =>
    congr (congrArg HMul.hMul (out7_apply m c t r k)) (wblk_apply m c t q k n hn))

/-- The narrow product at any point. -/
theorem out6_apply (t : Fin cfg0.N) (r : Fin 512) (n : Fin 256) :
    out6 m c t (ix2 r n) = narrow (Ctx.proj (ctx m c) (mods m c) (win m c) r) n :=
  (pay2 _ _ _ _ r n).trans ((Finset.sum_congr rfl fun k _ =>
    congr (congrArg HMul.hMul (out7_apply m c t r k)) ((blk4 m c t n k).trans (V_v23 m c n k))).trans
    (sum_narrow _ (fun k j => win m c (ix3 1 k j)) n))

/-! ## The results written back -/

/-- Where the window of the wide product stands at each point. -/
theorem idx5 : ∀ t : Fin 13, cc0_transform_5 (grid0.coords t) = ![0, t.val] := by decide
/-- Where the window of the narrow product stands at each point. -/
theorem idx6 : ∀ t : Fin 13, cc0_transform_6 (grid0.coords t) = ![0, 0] := by decide
/-- Where the window of the modulated rows stands at each point. -/
theorem idx7 : ∀ t : Fin 13, cc0_transform_7 (grid0.coords t) = ![0, 0] := by decide
/-- Where the window of the packed weights stands at each point. -/
theorem idx8 : ∀ t : Fin 13, cc0_transform_8 (grid0.coords t) = ![t.val, 0] := by decide

/-- What a point writes back of the wide product is its block of the claimed array. -/
theorem flushed5 (t : Fin cfg0.N) : (dats m 0 c).flushed 5 t = ((cfg0.win 5).blk t).view.read (Elt Ideal) (first m c) := by
  funext y
  rw [View.read_apply]
  show out5 m c t y = first m c ((win0_5.rect t).emb y)
  idx_vars y
  have ht : t.val < 13 := N_eq ▸ t.isLt
  have e : (win0_5.rect t).emb (ix2 y0 y1) = ix2 y0 ⟨t.val * 1024 + y1.val, by omega⟩ := funext fun a => Fin.ext <| by
    refine (win0_5.rect_emb_val t (ix2 y0 y1) a).trans ?_
    fin_cases a <;> simp [show win0_5.index t = ![0, t.val] from idx5 t]
  rw [e]
  exact out5_apply m c t y0 y1 _ rfl

/-- What a point writes back of the narrow product is its block of the claimed array. -/
theorem flushed6 (t : Fin cfg0.N) : (dats m 0 c).flushed 6 t = ((cfg0.win 6).blk t).view.read (Elt Ideal) (second m c) := by
  funext y
  rw [View.read_apply]
  show out6 m c t y = second m c ((win0_6.rect t).emb y)
  idx_vars y
  have e : (win0_6.rect t).emb (ix2 y0 y1) = ix2 y0 y1 := funext fun a => Fin.ext <| by
    refine (win0_6.rect_emb_val t (ix2 y0 y1) a).trans ?_
    fin_cases a <;> simp [show win0_6.index t = ![0, 0] from idx6 t]
  rw [e]
  exact out6_apply m c t y0 y1

/-- What a point writes back of the modulated rows is its block of the claimed array. -/
theorem flushed7 (t : Fin cfg0.N) : (dats m 0 c).flushed 7 t = ((cfg0.win 7).blk t).view.read (Elt Ideal) (third m c) := by
  funext y
  rw [View.read_apply]
  show out7 m c t y = third m c ((win0_7.rect t).emb y)
  idx_vars y
  have e : (win0_7.rect t).emb (ix2 y0 y1) = ix2 y0 y1 := funext fun a => Fin.ext <| by
    refine (win0_7.rect_emb_val t (ix2 y0 y1) a).trans ?_
    fin_cases a <;> simp [show win0_7.index t = ![0, 0] from idx7 t]
  rw [e]
  exact out7_apply m c t y0 y1

/-- What a point writes back of the packed weights is its block of the claimed array. -/
theorem flushed8 (t : Fin cfg0.N) : (dats m 0 c).flushed 8 t = ((cfg0.win 8).blk t).view.read (Elt Ideal) (fourth m c) := by
  funext y
  rw [View.read_apply]
  show out8 m c t y = fourth m c ((win0_8.rect t).emb y)
  idx_vars y
  have ht : t.val < 13 := N_eq ▸ t.isLt
  have e : (win0_8.rect t).emb (ix2 y0 y1) = ix2 ⟨t.val * 1024 + y0.val, by omega⟩ y1 := funext fun a => Fin.ext <| by
    refine (win0_8.rect_emb_val t (ix2 y0 y1) a).trans ?_
    fin_cases a <;> simp [show win0_8.index t = ![t.val, 0] from idx8 t]
  rw [e]
  exact wblk_apply m c t y0 y1 _ rfl

/-! ## Every element is written back -/

/-- The blocks written back of the wide product fill its array. -/
theorem cover5 (i : S512x13312.Idx) : ∃ t : Fin cfg0.N, (cfg0.win 5).flush t = true ∧ i ∈ ((cfg0.win 5).blk t).view.set := by
  idx_vars i
  refine ⟨⟨i1.val / 1024, by have := N_eq; omega⟩, flush0_5 _, ?_⟩
  show _ ∈ ((View.whole main_v25_0).slice (win0_5.rect _)).set
  rw [View.set_slice_whole, win0_5.mem_rect_iff]
  intro a
  rw [show win0_5.index _ = _ from idx5 _]
  match a with
  | ⟨0, _⟩ => show 0 * 512 ≤ i0.val ∧ i0.val < 0 * 512 + 512; omega
  | ⟨1, _⟩ => show (i1.val / 1024) * 1024 ≤ i1.val ∧ i1.val < (i1.val / 1024) * 1024 + 1024; omega

/-- The blocks written back of the narrow product fill its array. -/
theorem cover6 (i : S512x256.Idx) : ∃ t : Fin cfg0.N, (cfg0.win 6).flush t = true ∧ i ∈ ((cfg0.win 6).blk t).view.set := by
  idx_vars i
  refine ⟨⟨12, by have := N_eq; omega⟩, (flush0_6 _).2 rfl, ?_⟩
  show _ ∈ ((View.whole main_v25_1).slice (win0_6.rect _)).set
  rw [View.set_slice_whole, win0_6.mem_rect_iff]
  intro a
  rw [show win0_6.index _ = _ from idx6 _]
  match a with
  | ⟨0, _⟩ => show 0 * 512 ≤ i0.val ∧ i0.val < 0 * 512 + 512; omega
  | ⟨1, _⟩ => show 0 * 256 ≤ i1.val ∧ i1.val < 0 * 256 + 256; omega

/-- The blocks written back of the modulated rows fill its array. -/
theorem cover7 (i : S512x2048.Idx) : ∃ t : Fin cfg0.N, (cfg0.win 7).flush t = true ∧ i ∈ ((cfg0.win 7).blk t).view.set := by
  idx_vars i
  refine ⟨⟨12, by have := N_eq; omega⟩, (flush0_7 _).2 rfl, ?_⟩
  show _ ∈ ((View.whole main_v25_2).slice (win0_7.rect _)).set
  rw [View.set_slice_whole, win0_7.mem_rect_iff]
  intro a
  rw [show win0_7.index _ = _ from idx7 _]
  match a with
  | ⟨0, _⟩ => show 0 * 512 ≤ i0.val ∧ i0.val < 0 * 512 + 512; omega
  | ⟨1, _⟩ => show 0 * 2048 ≤ i1.val ∧ i1.val < 0 * 2048 + 2048; omega

/-- The blocks written back of the packed weights fill its array. -/
theorem cover8 (i : S13312x2048.Idx) : ∃ t : Fin cfg0.N, (cfg0.win 8).flush t = true ∧ i ∈ ((cfg0.win 8).blk t).view.set := by
  idx_vars i
  refine ⟨⟨i0.val / 1024, by have := N_eq; omega⟩, flush0_8 _, ?_⟩
  show _ ∈ ((View.whole main_v25_3).slice (win0_8.rect _)).set
  rw [View.set_slice_whole, win0_8.mem_rect_iff]
  intro a
  rw [show win0_8.index _ = _ from idx8 _]
  match a with
  | ⟨0, _⟩ => show (i0.val / 1024) * 1024 ≤ i0.val ∧ i0.val < (i0.val / 1024) * 1024 + 1024; omega
  | ⟨1, _⟩ => show 0 * 2048 ≤ i1.val ∧ i1.val < 0 * 2048 + 2048; omega

/-! ## The final arrays and the run -/

/-- The array of the wide product after the run is the claimed one. -/
theorem final5 : (dats m 0 c).arrAt 5 cfg0.N = first m c :=
  (dats m 0 c).arrAt_eq_of_cover 5 (first m c) (fun t _ => flushed5 m c t) cover5
/-- The array of the narrow product after the run is the claimed one. -/
theorem final6 : (dats m 0 c).arrAt 6 cfg0.N = second m c :=
  (dats m 0 c).arrAt_eq_of_cover 6 (second m c) (fun t _ => flushed6 m c t) cover6
/-- The array of the modulated rows after the run is the claimed one. -/
theorem final7 : (dats m 0 c).arrAt 7 cfg0.N = third m c :=
  (dats m 0 c).arrAt_eq_of_cover 7 (third m c) (fun t _ => flushed7 m c t) cover7
/-- The array of the packed weights after the run is the claimed one. -/
theorem final8 : (dats m 0 c).arrAt 8 cfg0.N = fourth m c :=
  (dats m 0 c).arrAt_eq_of_cover 8 (fourth m c) (fun t _ => flushed8 m c t) cover8

variable (ρ : Dev nD → PrngReg)

/-- The four results after the run. -/
theorem results : θ_run defs (onTc (τ := τ) (main (F := Ideal))) ⟨m, fun _ => 0, ρ⟩ fun r => ∀ c : Dev nD,
    r.2.mem ((c : Thread nD τ).loc main_v25_0) = first m c ∧ r.2.mem ((c : Thread nD τ).loc main_v25_1) = second m c
    ∧ r.2.mem ((c : Thread nD τ).loc main_v25_2) = third m c ∧ r.2.mem ((c : Thread nD τ).loc main_v25_3) = fourth m c :=
  (θ_run defs _ _).mono (fun r h c =>
    ⟨((h c).1 5).trans (final5 m c), ((h c).1 6).trans (final6 m c), ((h c).1 7).trans (final7 m c),
      ((h c).1 8).trans (final8 m c)⟩) (run_main m ρ)

end Cert.KernelIdeal.Run

end
-- ==== Proof.CtxClaim.lean ====
module

public import proofs.«01_k».proof.Defs
public import proofs.«01_k».proof.Proof.CtxValue
public import proofs.«01_k».proof.Proof.Gen.ReferenceIdeal.Run
public import proofs.«01_k».proof.Proof.Gen.Kernel

/-! # The context projection: the claim
The kernel's four results and the plain program's are the same functions of the arguments. -/

@[expose] public section

set_option maxRecDepth 16384

noncomputable section

namespace Cert.Ctx

open Idealize.ShloMosaic Idealize.ShloMosaic.TcCoe Idealize.SL.Sem Cert.ReferenceIdeal.Read Cert.KernelIdeal.Run

/-- Each of the plain program's results at the arguments of the kernel. -/
theorem ref_eq_first (m : (ℓ : Loc KernelIdeal.nD KernelIdeal.τ KernelIdeal.sig) → Buf (Elt Ideal) ℓ) (c : Dev KernelIdeal.nD) :
    val_main_v63 (F := Ideal) (ctx m c) (mods m c) (win m c) = first m c := by
  funext i; idx_vars i; exact ref_first _ _ _ i0 i1
/-- The plain program's second result at the arguments of the kernel. -/
theorem ref_eq_second (m : (ℓ : Loc KernelIdeal.nD KernelIdeal.τ KernelIdeal.sig) → Buf (Elt Ideal) ℓ) (c : Dev KernelIdeal.nD) :
    val_main_v51 (F := Ideal) (ctx m c) (mods m c) (win m c) = second m c := by
  funext i; idx_vars i; exact ref_second _ _ _ i0 i1
/-- The plain program's third result at the arguments of the kernel. -/
theorem ref_eq_third (m : (ℓ : Loc KernelIdeal.nD KernelIdeal.τ KernelIdeal.sig) → Buf (Elt Ideal) ℓ) (c : Dev KernelIdeal.nD) :
    val_main_v65 (F := Ideal) (ctx m c) (mods m c) = third m c := by
  funext i; idx_vars i; exact ref_third _ _ i0 i1
/-- The plain program's fourth result at the arguments of the kernel. -/
theorem ref_eq_fourth (m : (ℓ : Loc KernelIdeal.nD KernelIdeal.τ KernelIdeal.sig) → Buf (Elt Ideal) ℓ) (c : Dev KernelIdeal.nD) :
    val_main_v66 (F := Ideal) (win m c) = fourth m c := by
  funext i; idx_vars i; exact ref_fourth _ i0 i1

/-- From equal arguments the kernel and the plain program end with equal results, all four, and their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨first m, second m, third m, fourth m, ?_, ?_⟩
  · refine (θ_run _ _ _).mono (fun r h c => ?_) (θ_run_and (results m g) (unchanged m g))
    obtain ⟨h0, h1, h2, h3⟩ := h.1 c
    exact ⟨h0, h1, h2, h3, h.2 c⟩
  · refine (θ_run _ _ _).mono (fun r h c => ?_) (Cert.ReferenceIdeal.Value.run (F := Ideal) m' g')
    obtain ⟨h0, h1, h2, h3, ha⟩ := h c
    obtain ⟨e0, e1, e2⟩ := hargs c
    refine ⟨h0.trans ?_, h1.trans ?_, h2.trans ?_, h3.trans ?_, ha⟩
    · rw [val_main_v63_eq, e0, e1, e2]; exact ref_eq_first m c
    · rw [val_main_v51_eq, e0, e1, e2]; exact ref_eq_second m c
    · rw [val_main_v65_eq, e0, e1]; exact ref_eq_third m c
    · rw [val_main_v66_eq, e2]; exact ref_eq_fourth m c

/-- The kernel's frame. -/
theorem frame_kernel : Cert.quiescent_KernelIdeal (hKernelIdeal := Cert.KernelIdeal.Gen.facts) :=
  fun m g _ => Cert.KernelIdeal.Run.frame m g

/-- The plain program's frame: it has no counter. -/
theorem frame_reference : Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩)
    (Cert.ReferenceIdeal.Value.run (F := Ideal) m g)

/-- The body tables at float words of the program and of its idealized print are one. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | ⟨0, _⟩, (t, s) => rfl

/-- So are the tables with the pipelines. -/
theorem defs_eq : @Cert.Kernel.defs Bits _ Cert.Kernel.Gen.facts = @Cert.KernelIdeal.defs Bits _ Cert.KernelIdeal.Gen.facts := by
  unfold Cert.Kernel.defs Cert.KernelIdeal.defs
  exact congrArg (Pipeline.defs _) bodies_eq

/-- The frame at float words: the two programs have one text, so it is the same run. -/
theorem frame_machine : Cert.quiescent_Kernel (hKernel := Cert.Kernel.Gen.facts) := by
  intro m g _
  have e := Cert.KernelIdeal.Run.frame (F := Bits) m g
  rw [← defs_eq] at e
  exact e

end Cert.Ctx

end
-- ==== Proof.LatRun.lean ====
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.ValueKit
public import Idealize.ShloMosaic.Lib.Claim

/-! # The latent projection, mLSTM half: the run of its kernel
The kernel walks sixteen rows of four column blocks. In the first column of a row it also computes the normalised and
modulated input and the small projection, which stay in their buffers for the rest of the row; both are written back at
the last column. The proof data says of every output, at every point, one function of the input blocks there. -/

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is in the first column of its row exactly when its number is a multiple of 4. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- Offsets zero on two axes, -/
theorem hz2 : (![0, 0] : Fin 2 → ℕ) = fun _ => 0 := by decide
/-- and on three. -/
theorem hz3 : (![0, 0, 0] : Fin 3 → ℕ) = fun _ => 0 := by decide

/-- The grid's number of points. -/
theorem N_eq : cfg0.N = 64 := N_0

set_option maxHeartbeats 2000000 in
/-- The kernel body at a point of the first column: from the input blocks `x…` and anything in the output buffers it leaves each output block as the named function of the input blocks. -/
theorem body_first (c : Dev nD) (E : Set ℕ) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x2048 .bf16) (harg5 : arg5.IsWhole) (arg6 : Memref sig .tc .vmem S128x2048 .f32) (harg6 : arg6.IsWhole) (arg7 : Memref sig .tc .vmem S1024x2048 .bf16) (harg7 : arg7.IsWhole) (arg8 : Memref sig .tc .vmem S1024x128 .f32) (harg8 : arg8.IsWhole) (arg9 : Memref sig .tc .vmem S1024x2048 .bf16) (harg9 : arg9.IsWhole)
    (hc0 : k0_cond1 i = 1#1) (x0 : Vec F S1024x2048 .f32) (x1 : Vec F S1x1x2048 .f32) (x2 : Vec F S1x1x2048 .f32) (x3 : Vec F S2048x2048 .bf16) (x4 : Vec F S128x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x3 (k0_pay1 x0 x2 x1)) ∗ owns (c : Thread nD τ) arg8 fullShare (k0_pay2 x0 x2 x1 x4) ∗ owns (c : Thread nD τ) arg9 fullShare (k0_pay1 x0 x2 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_eq_canon _ _ _ (View.cover_of_tiled _ S1024x2048.size (by rfl))).trans ?_
    refine (View.canon_unit_zero hz2 _ _).trans ?_
    exact (congr (congrArg k0_pay3 ((View.ld_unit_zero hz2 _ _).trans hf3)) ((View.readCov_unit_zero _ hz2 _ _).trans (congr (congr (congrArg k0_pay1 ((View.ld_unit_zero hz2 _ _).trans hf0)) ((View.ld_unit_zero hz3 _ _).trans hf2)) ((View.ld_unit_zero hz3 _ _).trans hf1))))
  isplitl [H6]
  · iexists _; isplitr; swap; · iexact H6
    ipureintro
    refine (View.read_writes_eq_canon _ _ _ (View.cover_of_tiled _ S1024x128.size (by rfl))).trans ?_
    refine (View.canon_unit_zero hz2 _ _).trans ?_
    exact (congr (congr (congr (congrArg k0_pay2 ((View.ld_unit_zero hz2 _ _).trans hf0)) ((View.ld_unit_zero hz3 _ _).trans hf2)) ((View.ld_unit_zero hz3 _ _).trans hf1)) ((View.ld_unit_zero hz2 _ _).trans hf4))
  iexists _; isplitr; swap; · iexact H7
  ipureintro
  refine (View.read_writes_eq_canon _ _ _ (View.cover_of_tiled _ S1024x2048.size (by rfl))).trans ?_
  refine (View.canon_unit_zero hz2 _ _).trans ?_
  exact (congr (congr (congrArg k0_pay1 ((View.ld_unit_zero hz2 _ _).trans hf0)) ((View.ld_unit_zero hz3 _ _).trans hf2)) ((View.ld_unit_zero hz3 _ _).trans hf1))

set_option maxHeartbeats 2000000 in
/-- The kernel body at a later point of the row: the buffers stored only in the first column (`y…`) stay as they are; the other outputs are the named functions of the input blocks and of `y…`. -/
theorem body_later (c : Dev nD) (E : Set ℕ) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x2048 .bf16) (harg5 : arg5.IsWhole) (arg6 : Memref sig .tc .vmem S128x2048 .f32) (harg6 : arg6.IsWhole) (arg7 : Memref sig .tc .vmem S1024x2048 .bf16) (harg7 : arg7.IsWhole) (arg8 : Memref sig .tc .vmem S1024x128 .f32) (harg8 : arg8.IsWhole) (arg9 : Memref sig .tc .vmem S1024x2048 .bf16) (harg9 : arg9.IsWhole)
    (hc0 : ¬ k0_cond1 i = 1#1) (x0 : Vec F S1024x2048 .f32) (x1 : Vec F S1x1x2048 .f32) (x2 : Vec F S1x1x2048 .f32) (x3 : Vec F S2048x2048 .bf16) (x4 : Vec F S128x2048 .f32) (y6 : Vec F S1024x128 .f32) (y7 : Vec F S1024x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x3 y7) ∗ owns (c : Thread nD τ) arg8 fullShare y6 ∗ owns (c : Thread nD τ) arg9 fullShare y7) -∗ K ⟨⟩))
      ⊢ wp frame (wpE (defs₀ (F := F)) Variants.none c none) E (cc0_in_proj i arg2 harg2 arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_eq_canon _ _ _ (View.cover_of_tiled _ S1024x2048.size (by rfl))).trans ?_
    refine (View.canon_unit_zero hz2 _ _).trans ?_
    exact (congr (congrArg k0_pay3 ((View.ld_unit_zero hz2 _ _).trans hf3)) ((View.ld_unit_zero hz2 _ _).trans hf7))
  isplitl [H6]
  · iexists _; isplitr; · ipureintro; exact harg8.read_unread _
    iexact H6
  iexists _; isplitr; · ipureintro; exact harg9.read_unread _
  iexact H7

/-! ## The proof data -/

/-- What output block 5 holds after point `t`: the same function of the input blocks at every point. -/
def out5 (c : Dev nD) (t : Fin cfg0.N) : Vec F S1024x2048 .bf16 := k0_pay3 (X0_3 m c t) (k0_pay1 (iblk m c 0 t) (iblk m c 2 t) (iblk m c 1 t))

/-- What output block 6 holds after point `t`: the same function of the input blocks at every point. -/
def out6 (c : Dev nD) (t : Fin cfg0.N) : Vec F S1024x128 .f32 := k0_pay2 (iblk m c 0 t) (iblk m c 2 t) (iblk m c 1 t) (iblk m c 4 t)

/-- What output block 7 holds after point `t`: the same function of the input blocks at every point. -/
def out7 (c : Dev nD) (t : Fin cfg0.N) : Vec F S1024x2048 .bf16 := k0_pay1 (iblk m c 0 t) (iblk m c 2 t) (iblk m c 1 t)

/-- The proof data: the arrays as the region finds them; after a point each input's buffer at its block and each output's at `out…`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => out5 m c t
    | ⟨6, _⟩ => out6 m c t
    | ⟨7, _⟩ => out7 m c t
  Φ _ := Pipeline.ΦA spec0 c
  q _ := fullShare
  owed _ := 0

/-- The data's arrays are the contents at the region's entry. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
/-- What window 1's buffer (the shifts) holds after a point. -/
theorem after_1 (c : Dev nD) (t : Fin cfg0.N) : (dats m 0 c).after 1 t = iblk m c 1 t := by dsimp only [dats]
/-- What window 2's buffer (the scales) holds after a point. -/
theorem after_2 (c : Dev nD) (t : Fin cfg0.N) : (dats m 0 c).after 2 t = iblk m c 2 t := by dsimp only [dats]
/-- What window 3's buffer (the packed weights) holds after a point. -/
theorem after_3 (c : Dev nD) (t : Fin cfg0.N) : (dats m 0 c).after 3 t = X0_3 m c t := by dsimp only [dats]
/-- What window 4's buffer (the narrow weights) holds after a point. -/
theorem after_4 (c : Dev nD) (t : Fin cfg0.N) : (dats m 0 c).after 4 t = iblk m c 4 t := by dsimp only [dats]
/-- What window 5's buffer (the wide product) holds after a point. -/
theorem after_5 (c : Dev nD) (t : Fin cfg0.N) : (dats m 0 c).after 5 t = out5 m c t := by dsimp only [dats]
/-- What window 6's buffer (the narrow product) holds after a point. -/
theorem after_6 (c : Dev nD) (t : Fin cfg0.N) : (dats m 0 c).after 6 t = out6 m c t := by dsimp only [dats]
/-- What window 7's buffer (the modulated rows) holds after a point. -/
theorem after_7 (c : Dev nD) (t : Fin cfg0.N) : (dats m 0 c).after 7 t = out7 m c t := by dsimp only [dats]

/-- An input's buffer holds its block at every point. -/
theorem before_0 (c : Dev nD) (t : Fin cfg0.N) (d) : (dats m 0 c).before 0 t d = iblk m c 0 t :=
  before0_0_of m (dats m 0 c) (A_eq m c 0) (after_0 m c) t d
/-- What window 1's buffer (the shifts) holds before a point's body. -/
theorem before_1 (c : Dev nD) (t : Fin cfg0.N) (d) : (dats m 0 c).before 1 t d = iblk m c 1 t :=
  before0_1_of m (dats m 0 c) (A_eq m c 1) (after_1 m c) t d
/-- What window 2's buffer (the scales) holds before a point's body. -/
theorem before_2 (c : Dev nD) (t : Fin cfg0.N) (d) : (dats m 0 c).before 2 t d = iblk m c 2 t :=
  before0_2_of m (dats m 0 c) (A_eq m c 2) (after_2 m c) t d
/-- What window 3's buffer (the packed weights) holds before a point's body. -/
theorem before_3 (c : Dev nD) (t : Fin cfg0.N) (d) : (dats m 0 c).before 3 t d = X0_3 m c t :=
  before0_3_of m (dats m 0 c) (A_eq m c 3) (after_3 m c) t d
/-- What window 4's buffer (the narrow weights) holds before a point's body. -/
theorem before_4 (c : Dev nD) (t : Fin cfg0.N) (d) : (dats m 0 c).before 4 t d = iblk m c 4 t :=
  before0_4_of m (dats m 0 c) (A_eq m c 4) (after_4 m c) t d

/-- Within a row these input blocks do not change from one point to the next. -/
theorem carry_0 (c : Dev nD) (t : Fin cfg0.N) (h : t.val % 4 ≠ 0) :
    iblk m c 0 t = iblk m c 0 ⟨t.val - 1, Nat.lt_of_le_of_lt (Nat.sub_le _ _) t.isLt⟩ := by
  have hf : (cfg0.win 0).fetch t = false := by
    rw [← Bool.not_eq_true, fetch0_0 t]; omega
  obtain ⟨-, hix⟩ := (cfg0.win 0).index_eq_of_fetch rfl t hf
  have e := (dats m 0 c).fetched_congr 0 hix rfl (iblk m c 0 t)
  unfold Dat.fetched Dat.blockOf at e
  rw [A_eq] at e
  exact e

/-- Away from the first column of a row, window 1 (the shifts) keeps its block from the point before. -/
theorem carry_1 (c : Dev nD) (t : Fin cfg0.N) (h : t.val % 4 ≠ 0) :
    iblk m c 1 t = iblk m c 1 ⟨t.val - 1, Nat.lt_of_le_of_lt (Nat.sub_le _ _) t.isLt⟩ := by
  have hf : (cfg0.win 1).fetch t = false := by
    rw [← Bool.not_eq_true, fetch0_1 t]; omega
  obtain ⟨-, hix⟩ := (cfg0.win 1).index_eq_of_fetch rfl t hf
  have e := (dats m 0 c).fetched_congr 1 hix rfl (iblk m c 1 t)
  unfold Dat.fetched Dat.blockOf at e
  rw [A_eq] at e
  exact e

/-- Away from the first column of a row, window 2 (the scales) keeps its block from the point before. -/
theorem carry_2 (c : Dev nD) (t : Fin cfg0.N) (h : t.val % 4 ≠ 0) :
    iblk m c 2 t = iblk m c 2 ⟨t.val - 1, Nat.lt_of_le_of_lt (Nat.sub_le _ _) t.isLt⟩ := by
  have hf : (cfg0.win 2).fetch t = false := by
    rw [← Bool.not_eq_true, fetch0_2 t]; omega
  obtain ⟨-, hix⟩ := (cfg0.win 2).index_eq_of_fetch rfl t hf
  have e := (dats m 0 c).fetched_congr 2 hix rfl (iblk m c 2 t)
  unfold Dat.fetched Dat.blockOf at e
  rw [A_eq] at e
  exact e

/-- Away from the first column of a row, window 4 (the narrow weights) keeps its block from the point before. -/
theorem carry_4 (c : Dev nD) (t : Fin cfg0.N) (h : t.val % 4 ≠ 0) :
    iblk m c 4 t = iblk m c 4 ⟨t.val - 1, Nat.lt_of_le_of_lt (Nat.sub_le _ _) t.isLt⟩ := by
  have hf : (cfg0.win 4).fetch t = false := by
    rw [← Bool.not_eq_true, fetch0_4 t]; omega
  obtain ⟨-, hix⟩ := (cfg0.win 4).index_eq_of_fetch rfl t hf
  have e := (dats m 0 c).fetched_congr 4 hix rfl (iblk m c 4 t)
  unfold Dat.fetched Dat.blockOf at e
  rw [A_eq] at e
  exact e

/-- So output block 6 stays the same along a row. -/
theorem out6_carry (c : Dev nD) (t : Fin cfg0.N) (h : t.val % 4 ≠ 0) :
    out6 m c t = out6 m c ⟨t.val - 1, Nat.lt_of_le_of_lt (Nat.sub_le _ _) t.isLt⟩ := by
  unfold out6
  rw [carry_0 m c t h, carry_1 m c t h, carry_2 m c t h, carry_4 m c t h]

/-- Output 6's buffer is idle exactly at the later points of a row. -/
theorem idle_6 (t : Fin cfg0.N) (h : t.val % 4 ≠ 0) : cfg0.idle 6 (cfg0.grid.coords t) = true := by
  have hc : ¬ k0_cond1 (grid0.coords t) = 1#1 := fun e => h ((first_iff t).mp e)
  show (!(k0_cond1 (grid0.coords t) == 1#1)) = true
  simp [hc]

/-- Output window 6 (the narrow product) is stored at the first column of a row. -/
theorem live_6 (t : Fin cfg0.N) (h : t.val % 4 = 0) : cfg0.idle 6 (cfg0.grid.coords t) = false := by
  have hc : k0_cond1 (grid0.coords t) = 1#1 := (first_iff t).mpr h
  show (!(k0_cond1 (grid0.coords t) == 1#1)) = false
  simp [hc]

/-- At a later point of a row output 6's buffer still holds what the row's points left. -/
theorem fresh_6 : ∀ t : Fin cfg0.N, t.val % 4 ≠ 0 → cfg0.fresh 6 t.val = false :=
  (by decide +kernel : ∀ t : Fin grid0.N, t.val % 4 ≠ 0 → cfg0.fresh 6 t.val = false)

/-- What the body finds in output 6's buffer at a later point of a row: the row's block. -/
theorem before_6 (c : Dev nD) (t : Fin cfg0.N) (h : t.val % 4 ≠ 0) (d) : (dats m 0 c).before 6 t d = out6 m c t := by
  rw [(dats m 0 c).before_out_traj 6 rfl (fun _ _ => rfl) (fun s _ hi _ => by
      rw [after_6, after_6]
      refine out6_carry m c s fun e => ?_
      rw [live_6 s e] at hi; exact Bool.false_ne_true hi) t.val t rfl d, fresh_6 t h, if_neg Bool.false_ne_true, after_6]
  exact (out6_carry m c t h).symm

/-- Output 6's buffer at the row's block is what every point leaves: stored there in the first column, found and kept later. -/
theorem leaves_6 (c : Dev nD) (t : Fin cfg0.N) :
    (owns (c : Thread nD τ) (win0_6.stage (cfg0.slots t 6)) fullShare (out6 m c t) : sProp 𝕄) ⊢ (dats m 0 c).leavesExact 6 t := by
  by_cases h : t.val % 4 = 0
  · rw [show (dats m 0 c).leavesExact 6 t = owns (c : Thread nD τ) (win0_6.stage (cfg0.slots t 6)) fullShare ((dats m 0 c).after 6 t) from by
      unfold Dat.leavesExact; rw [live_6 t h], after_6]
  · by_cases hf : (cfg0.win 6).flush t = true
    · rw [show (dats m 0 c).leavesExact 6 t = owns (c : Thread nD τ) (win0_6.stage (cfg0.slots t 6)) fullShare ((dats m 0 c).after 6 t) from by
        unfold Dat.leavesExact; rw [idle_6 t h, hf], after_6]
    · rw [Bool.not_eq_true] at hf
      rw [(dats m 0 c).leavesExact_idle 6 t (idle_6 t h) hf]
      iintro H
      iexists (out6 m c t)
      rw [before_6 m c t h]
      iexact H

/-- So output block 7 stays the same along a row. -/
theorem out7_carry (c : Dev nD) (t : Fin cfg0.N) (h : t.val % 4 ≠ 0) :
    out7 m c t = out7 m c ⟨t.val - 1, Nat.lt_of_le_of_lt (Nat.sub_le _ _) t.isLt⟩ := by
  unfold out7
  rw [carry_0 m c t h, carry_1 m c t h, carry_2 m c t h]

/-- Output 7's buffer is idle exactly at the later points of a row. -/
theorem idle_7 (t : Fin cfg0.N) (h : t.val % 4 ≠ 0) : cfg0.idle 7 (cfg0.grid.coords t) = true := by
  have hc : ¬ k0_cond1 (grid0.coords t) = 1#1 := fun e => h ((first_iff t).mp e)
  show (!(k0_cond1 (grid0.coords t) == 1#1)) = true
  simp [hc]

/-- Output window 7 (the modulated rows) is stored at the first column of a row. -/
theorem live_7 (t : Fin cfg0.N) (h : t.val % 4 = 0) : cfg0.idle 7 (cfg0.grid.coords t) = false := by
  have hc : k0_cond1 (grid0.coords t) = 1#1 := (first_iff t).mpr h
  show (!(k0_cond1 (grid0.coords t) == 1#1)) = false
  simp [hc]

/-- At a later point of a row output 7's buffer still holds what the row's points left. -/
theorem fresh_7 : ∀ t : Fin cfg0.N, t.val % 4 ≠ 0 → cfg0.fresh 7 t.val = false :=
  (by decide +kernel : ∀ t : Fin grid0.N, t.val % 4 ≠ 0 → cfg0.fresh 7 t.val = false)

/-- What the body finds in output 7's buffer at a later point of a row: the row's block. -/
theorem before_7 (c : Dev nD) (t : Fin cfg0.N) (h : t.val % 4 ≠ 0) (d) : (dats m 0 c).before 7 t d = out7 m c t := by
  rw [(dats m 0 c).before_out_traj 7 rfl (fun _ _ => rfl) (fun s _ hi _ => by
      rw [after_7, after_7]
      refine out7_carry m c s fun e => ?_
      rw [live_7 s e] at hi; exact Bool.false_ne_true hi) t.val t rfl d, fresh_7 t h, if_neg Bool.false_ne_true, after_7]
  exact (out7_carry m c t h).symm

/-- Output 7's buffer at the row's block is what every point leaves: stored there in the first column, found and kept later. -/
theorem leaves_7 (c : Dev nD) (t : Fin cfg0.N) :
    (owns (c : Thread nD τ) (win0_7.stage (cfg0.slots t 7)) fullShare (out7 m c t) : sProp 𝕄) ⊢ (dats m 0 c).leavesExact 7 t := by
  by_cases h : t.val % 4 = 0
  · rw [show (dats m 0 c).leavesExact 7 t = owns (c : Thread nD τ) (win0_7.stage (cfg0.slots t 7)) fullShare ((dats m 0 c).after 7 t) from by
      unfold Dat.leavesExact; rw [live_7 t h], after_7]
  · by_cases hf : (cfg0.win 7).flush t = true
    · rw [show (dats m 0 c).leavesExact 7 t = owns (c : Thread nD τ) (win0_7.stage (cfg0.slots t 7)) fullShare ((dats m 0 c).after 7 t) from by
        unfold Dat.leavesExact; rw [idle_7 t h, hf], after_7]
    · rw [Bool.not_eq_true] at hf
      rw [(dats m 0 c).leavesExact_idle 7 t (idle_7 t h) hf]
      iintro H
      iexists (out7 m c t)
      rw [before_7 m c t h]
      iexact H

/-! ## The body obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
/-- The body at every point, by the two cases of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0 m c t, before_1 m c t, before_2 m c t, before_3 m c t, before_4 m c t]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after_3]
  rw [show (dats m 0 c).leavesExact 4 t = owns (c : Thread nD τ) (win0_4.stage (cfg0.slots t 4)) fullShare ((dats m 0 c).after 4 t) from by
      unfold Dat.leavesExact; rw [show cfg0.idle 4 (cfg0.grid.coords t) = false from rfl], after_4]
  rw [show (dats m 0 c).leavesExact 5 t = owns (c : Thread nD τ) (win0_5.stage (cfg0.slots t 5)) fullShare ((dats m 0 c).after 5 t) from by
      unfold Dat.leavesExact; rw [show cfg0.idle 5 (cfg0.grid.coords t) = false from rfl], after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val % 4 = 0
  · have hc := (first_iff t).mpr h
    iapply (body_first c Set.univ (grid0.coords t) _ _ _ _ _ _ _ _ _ _ _ _ _ _ _ _ hc (iblk m c 0 t) (iblk m c 1 t) (iblk m c 2 t) (X0_3 m c t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6 m c t); iexact H6
    iapply (leaves_7 m c t); iexact H7
  · have hc : ¬ k0_cond1 (grid0.coords t) = 1#1 := fun e => h ((first_iff t).mp e)
    rw [before_6 m c t h]
    rw [before_7 m c t h]
    iapply (body_later c Set.univ (grid0.coords t) _ _ _ _ _ _ _ _ _ _ _ _ _ _ _ _ hc (iblk m c 0 t) (iblk m c 1 t) (iblk m c 2 t) (X0_3 m c t) (iblk m c 4 t) (out6 m c t) (out7 m c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6 m c t); iexact H6
    iapply (leaves_7 m c t); iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution from any memory with zero counters ends, with every array of the pipeline at what the proof data computes,
    every other buffer as the region found it, and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := fun r => Pipeline.FramePost cfgs (dats m) 0 (V m) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments after the run, unchanged. -/
theorem unchanged : θ_run defs (onTc (τ := τ) (main (F := F))) ⟨m, fun _ => 0, ρ⟩ fun r => ∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  Gen.frame_of m ρ (dats m) (A_eq m) (run_main m ρ)

/-- The arguments are unchanged and every counter is at zero. -/
theorem frame : θ_run defs (onTc (τ := τ) (main (F := F))) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0 :=
  θ_run_and (unchanged m ρ) ((θ_run defs _ _).mono (fun _ h => h.2) (run_quiescent m ρ))

end Cert.Kernel2Ideal.Run

end
-- ==== Proof.LatRef.lean ====
module

public import proofs.«01_k».proof.Proof.Spec
public import proofs.«01_k».proof.Proof.Gen.Reference2Ideal.Read
public import Idealize.ShloMosaic.Lib.Pointwise

/-! # The latent projection: what the plain program computes -/

@[expose] public section

set_option maxRecDepth 16384

noncomputable section

namespace Cert.Lat

open Idealize.ShloMosaic Cert.Reference2Ideal Cert.Reference2Ideal.Read Cert.Spec

variable (x0 : Vec Ideal S2x8192x2048 .f32) (x1 : Vec Ideal S2x8x6144 .f32) (x2 : Vec Ideal S2x2048x13408 .f32)

/-- Row `r` of the 16384 modulated rows: batch entry `r / 8192`, modulated by that entry's row of the second layer's table. -/
def row (r : Fin 16384) : Fin 2048 → EReal :=
  modulated (fun k => x0 (ix3 ⟨r.val / 8192, by omega⟩ ⟨r.val % 8192, by omega⟩ k))
    (fun k => x1 (ix3 1 ⟨r.val / 8192, by omega⟩ ⟨2048 + k.val, by omega⟩))
    (fun k => x1 (ix3 1 ⟨r.val / 8192, by omega⟩ ⟨k.val, by omega⟩))

/-- Row `r` times column `n` of the input projection. -/
def proj (r : Fin 16384) (n : Fin 13408) : EReal := ∑ k, row x0 x1 r k * x2 (ix3 1 k n)

/-- The modulated rows of the plain program. -/
theorem ref_row (b : Fin 2) (s : Fin 8192) (k : Fin 2048) :
    val_main_v30 (F := Ideal) x0 x1 (ix3 b s k) = modulated (fun k => x0 (ix3 b s k))
      (fun k => x1 (ix3 1 ⟨b.val, by omega⟩ ⟨2048 + k.val, by omega⟩)) (fun k => x1 (ix3 1 ⟨b.val, by omega⟩ ⟨k.val, by omega⟩)) k := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, modulated, normRow, mean]

/-- The plain program's whole product. -/
theorem ref_prod (b : Fin 2) (s : Fin 8192) (n : Fin 13408) :
    val_main_v33 (F := Ideal) x0 x1 x2 (ix3 b s n) = ∑ k : Fin 2048, val_main_v30 x0 x1 (ix3 b s k) * x2 (ix3 1 k n) := by
  pointwise [val_main_v33, val_main_v32, val_main_v31]

/-- The same by the 16384 rows. -/
theorem ref_proj (r : Fin 16384) (n : Fin 13408) :
    val_main_v33 (F := Ideal) x0 x1 x2 (ix3 ⟨r.val / 8192, by omega⟩ ⟨r.val % 8192, by omega⟩ n) = proj x0 x1 x2 r n := by
  rw [ref_prod]
  exact Finset.sum_congr rfl fun k _ => congrArg (· * x2 (ix3 1 k n)) (ref_row x0 x1 _ _ k)

/-- The first 8192 columns of the plain program's product. -/
theorem ref_packed (r : Fin 16384) (n : Fin 8192) :
    val_main_v44 (F := Ideal) x0 x1 x2 (ix2 r n)
      = val_main_v33 x0 x1 x2 (ix3 ⟨r.val / 8192, by omega⟩ ⟨r.val % 8192, by omega⟩ (wide n)) := by
  pointwise [val_main_v44, val_main_v35, val_main_v36, val_main_v37, val_main_v38, val_main_v39, val_main_v34]
  have h : (wide n).val = n.val := rfl
  generalize wide n = k at h ⊢
  split_ifs <;> exact congrArg (val_main_v33 x0 x1 x2) (congrArg (ix3 _ _) (Fin.ext (by simp only []; omega)))

/-- FIRST RESULT of the plain program. -/
theorem ref_first (r : Fin 16384) (n : Fin 8192) :
    val_main_v47 (F := Ideal) x0 x1 x2 (ix2 r n) = proj x0 x1 x2 r (wide n) :=
  (ref_packed x0 x1 x2 r n).trans (ref_proj x0 x1 x2 r (wide n))

/-- SECOND RESULT of the plain program. -/
theorem ref_second (r : Fin 16384) (n : Fin 128) :
    val_main_v46 (F := Ideal) x0 x1 x2 (ix2 r n) = gates (proj x0 x1 x2 r) n := by
  have e : proj x0 x1 x2 r = fun k => val_main_v33 x0 x1 x2 (ix3 ⟨r.val / 8192, by omega⟩ ⟨r.val % 8192, by omega⟩ k) :=
    funext fun k => (ref_proj x0 x1 x2 r k).symm
  rw [e]
  pointwise [val_main_v46, val_main_v45, val_main_v40, val_main_v34, val_main_cst_5, gates]

/-- THIRD RESULT of the plain program: the modulated rows. -/
theorem ref_third (r : Fin 16384) (k : Fin 2048) : val_main_v49 (F := Ideal) x0 x1 (ix2 r k) = row x0 x1 r k := by
  have e := ref_row x0 x1 ⟨r.val / 8192, by omega⟩ ⟨r.val % 8192, by omega⟩ k
  refine Eq.trans ?_ e
  pointwise [val_main_v49, val_main_v48]

end Cert.Lat

end
-- ==== Proof.LatValue.lean ====
module

public import proofs.«01_k».proof.Proof.LatRun
public import proofs.«01_k».proof.Proof.LatRef
public import Idealize.ShloMosaic.Lib.Pointwise

/-! # The latent projection: what the kernel computes
The arrays the region finds, its windows' blocks at a point, the body's payloads on them, and from these the results. -/

@[expose] public section

set_option maxRecDepth 16384

noncomputable section

namespace Cert.Kernel2Ideal.Run

open Idealize.ShloMosaic Idealize.ShloMosaic.TcCoe Idealize.SL.Sem Cert.Kernel2Ideal.Gen Cert.Spec
open Idealize.ShloMosaic.Pipeline (Dat Cfg Window)

variable (m : (ℓ : Loc nD τ sig) → Buf (Elt Ideal) ℓ) (c : Dev nD)

/-- The argument arrays at launch. -/
abbrev lat : Vec Ideal S2x8192x2048 .f32 := m ((c : Thread nD τ).loc main_arg0)
/-- The modulation table at launch. -/
abbrev mods : Vec Ideal S2x8x6144 .f32 := m ((c : Thread nD τ).loc main_arg1)
/-- The input projection's weights at launch. -/
abbrev win : Vec Ideal S2x2048x13408 .f32 := m ((c : Thread nD τ).loc main_arg2)

/-! ## The arrays the region finds -/

/-- The latent tokens as 16384 rows. -/
theorem V_v32 (r : Fin 16384) (k : Fin 2048) :
    V m c main_v32 (ix2 r k) = lat m c (ix3 ⟨r.val / 8192, by omega⟩ ⟨r.val % 8192, by omega⟩ k) := by
  unfold V
  after_results
  pointwise

/-- The shifts of the second layer. -/
theorem V_v25 (b : Fin 8) (k : Fin 2048) : V m c main_v25 (ix3 b 0 k) = mods m c (ix3 1 b ⟨k.val, by omega⟩) := by
  unfold V
  after_results
  pointwise

/-- The scales of the second layer. -/
theorem V_v28 (b : Fin 8) (k : Fin 2048) : V m c main_v28 (ix3 b 0 k) = mods m c (ix3 1 b ⟨2048 + k.val, by omega⟩) := by
  unfold V
  after_results
  pointwise

/-- The packed weights, as rows. -/
theorem V_v22 (n : Fin 13312) (k : Fin 2048) : V m c main_v22 (ix2 n k) = win m c (ix3 1 k (col n)) := by
  have h := col_cases n
  generalize col n = j at h ⊢
  unfold V
  after_results
  pointwise
  split_ifs
  all_goals after_results_simp
  all_goals pointwise
  all_goals exact congrArg (win m c) (congrArg (ix3 1 k) (Fin.ext (by first | omega | (simp only []; omega))))

/-- The narrow weights. -/
theorem V_v4 (n : Fin 128) (k : Fin 2048) : V m c main_v4 (ix2 n k) = gates (fun j => win m c (ix3 1 k j)) n := by
  unfold V
  after_results
  pointwise [gates]

/-! ## The windows' blocks -/

/-- Where the window of the tokens stands at each point. -/
theorem idx0 : ∀ t : Fin 64, cc0_transform_0 (grid0.coords t) = ![t.val / 4, 0] := by decide +kernel
/-- Where the window of the shifts stands at each point. -/
theorem idx1 : ∀ t : Fin 64, cc0_transform_1 (grid0.coords t) = ![t.val / 32, 0, 0] := by decide +kernel
/-- Where the window of the scales stands at each point. -/
theorem idx2 : ∀ t : Fin 64, cc0_transform_2 (grid0.coords t) = ![t.val / 32, 0, 0] := by decide +kernel
/-- Where the window of the packed weights stands at each point. -/
theorem idx3 : ∀ t : Fin 64, cc0_transform_3 (grid0.coords t) = ![t.val % 4, 0] := by decide +kernel
/-- Where the window of the narrow weights stands at each point. -/
theorem idx4 : ∀ t : Fin 64, cc0_transform_4 (grid0.coords t) = ![0, 0] := by decide +kernel
/-- Where the window of the wide product stands at each point. -/
theorem idx5 : ∀ t : Fin 64, cc0_transform_5 (grid0.coords t) = ![t.val / 4, t.val % 4] := by decide +kernel
/-- Where the window of the narrow product stands at each point. -/
theorem idx6 : ∀ t : Fin 64, cc0_transform_6 (grid0.coords t) = ![t.val / 4, 0] := by decide +kernel
/-- Where the window of the modulated rows stands at each point. -/
theorem idx7 : ∀ t : Fin 64, cc0_transform_7 (grid0.coords t) = ![t.val / 4, 0] := by decide +kernel

/-- The token window holds the 1024 rows from `1024 · (t / 4)`. -/
theorem blk0 (t : Fin cfg0.N) (r : Fin 1024) (k : Fin 2048) (R : Fin 16384) (hR : R.val = t.val / 4 * 1024 + r.val) :
    iblk m c 0 t (ix2 r k) = V m c main_v32 (ix2 R k) := by
  unfold iblk
  rw [View.read_apply]
  refine congrArg (V m c main_v32) (funext fun a => Fin.ext ?_)
  refine (win0_0.rect_emb_val t (ix2 r k) a).trans ?_
  fin_cases a <;> simp [show win0_0.index t = ![t.val / 4, 0] from idx0 t, hR]

/-- The shift window holds the entry of the rows' half. -/
theorem blk1 (t : Fin cfg0.N) (k : Fin 2048) (b : Fin 8) (hb : b.val = t.val / 32) :
    iblk m c 1 t (ix3 0 0 k) = V m c main_v25 (ix3 b 0 k) := by
  unfold iblk
  rw [View.read_apply]
  refine congrArg (V m c main_v25) (funext fun a => Fin.ext ?_)
  refine (win0_1.rect_emb_val t (ix3 0 0 k) a).trans ?_
  fin_cases a <;> simp [show win0_1.index t = ![t.val / 32, 0, 0] from idx1 t, hb]

/-- The scale window holds the entry of the rows' half. -/
theorem blk2 (t : Fin cfg0.N) (k : Fin 2048) (b : Fin 8) (hb : b.val = t.val / 32) :
    iblk m c 2 t (ix3 0 0 k) = V m c main_v28 (ix3 b 0 k) := by
  unfold iblk
  rw [View.read_apply]
  refine congrArg (V m c main_v28) (funext fun a => Fin.ext ?_)
  refine (win0_2.rect_emb_val t (ix3 0 0 k) a).trans ?_
  fin_cases a <;> simp [show win0_2.index t = ![t.val / 32, 0, 0] from idx2 t, hb]

/-- The weight window holds the 2048 packed columns from `2048 · (t % 4)`. -/
theorem blk3 (t : Fin cfg0.N) (q : Fin 2048) (k : Fin 2048) (n : Fin 13312) (hn : n.val = t.val % 4 * 2048 + q.val) :
    X0_3 m c t (ix2 q k) = V m c main_v22 (ix2 n k) := by
  unfold X0_3 Pipeline.Window.fill
  rw [dif_pos (moved0_3 t _)]
  unfold iblk
  rw [View.read_apply]
  refine congrArg (V m c main_v22) (funext fun a => Fin.ext ?_)
  refine (win0_3.rect_emb_val t _ a).trans ?_
  fin_cases a
  · show win0_3.index t 0 * 2048 + q.val = n.val
    rw [show win0_3.index t = ![t.val % 4, 0] from idx3 t, hn]; rfl
  · show win0_3.index t 1 * 2048 + k.val = k.val
    rw [show win0_3.index t = ![t.val % 4, 0] from idx3 t]; simp

/-- The narrow weights' window holds the whole array. -/
theorem blk4 (t : Fin cfg0.N) (n : Fin 128) (k : Fin 2048) : iblk m c 4 t (ix2 n k) = V m c main_v4 (ix2 n k) := by
  unfold iblk
  rw [View.read_apply]
  refine congrArg (V m c main_v4) (funext fun a => Fin.ext ?_)
  refine (win0_4.rect_emb_val t (ix2 n k) a).trans ?_
  fin_cases a <;> simp [show win0_4.index t = ![0, 0] from idx4 t]

/-! ## The body's payloads -/

/-- The modulated rows. -/
theorem pay1 (x : Vec Ideal S1024x2048 .f32) (sc sh : Vec Ideal S1x1x2048 .f32) (r : Fin 1024) (k : Fin 2048) :
    k0_pay1 (F := Ideal) x sc sh (ix2 r k)
      = modulated (fun k => x (ix2 r k)) (fun k => sc (ix3 0 0 k)) (fun k => sh (ix3 0 0 k)) k := by
  pointwise [k0_pay1, modulated, normRow, mean]

/-- The narrow product. -/
theorem pay2 (x : Vec Ideal S1024x2048 .f32) (sc sh : Vec Ideal S1x1x2048 .f32) (w : Vec Ideal S128x2048 .f32) (r : Fin 1024)
    (n : Fin 128) : k0_pay2 (F := Ideal) x sc sh w (ix2 r n) = ∑ k, k0_pay1 x sc sh (ix2 r k) * w (ix2 n k) := by
  pointwise [k0_pay2]

/-- The wide product. -/
theorem pay3 (w : Vec Ideal S2048x2048 .bf16) (u : Vec Ideal S1024x2048 .bf16) (r : Fin 1024) (n : Fin 2048) :
    k0_pay3 (F := Ideal) w u (ix2 r n) = ∑ k, u (ix2 r k) * w (ix2 n k) := by
  pointwise [k0_pay3]

/-! ## The three results as functions of the arguments -/

/-- The first 8192 columns of the product. -/
def first : Vec Ideal S16384x8192 .bf16 := fun i => Lat.proj (lat m c) (mods m c) (win m c) (i 0) (wide (i 1))

/-- The gates' columns, with zeros. -/
def second : Vec Ideal S16384x128 .f32 := fun i => gates (Lat.proj (lat m c) (mods m c) (win m c) (i 0)) (i 1)

/-- The modulated rows. -/
def third : Vec Ideal S16384x2048 .bf16 := fun i => Lat.row (lat m c) (mods m c) (i 0) (i 1)

/-- The modulated rows at point `t`. -/
theorem out7_apply (t : Fin cfg0.N) (r : Fin 1024) (k : Fin 2048) (R : Fin 16384) (hR : R.val = t.val / 4 * 1024 + r.val) :
    out7 m c t (ix2 r k) = Lat.row (lat m c) (mods m c) R k := by
  have hb : R.val / 8192 = t.val / 32 := by have := r.isLt; omega
  exact (pay1 _ _ _ r k).trans (congrFun (congr (congr (congrArg modulated
    (funext fun k => (blk0 m c t r k R hR).trans (V_v32 m c R k)))
    (funext fun k => (blk2 m c t k ⟨R.val / 8192, by omega⟩ hb).trans (V_v28 m c _ k)))
    (funext fun k => (blk1 m c t k ⟨R.val / 8192, by omega⟩ hb).trans (V_v25 m c _ k))) k)

/-- The product at point `t`. -/
theorem out5_apply (t : Fin cfg0.N) (r : Fin 1024) (q : Fin 2048) (R : Fin 16384) (hR : R.val = t.val / 4 * 1024 + r.val)
    (n : Fin 8192) (hn : n.val = t.val % 4 * 2048 + q.val) :
    out5 m c t (ix2 r q) = Lat.proj (lat m c) (mods m c) (win m c) R (wide n) :=
  (pay3 _ _ r q).trans (Finset.sum_congr rfl fun k _ =>
    congr (congrArg HMul.hMul (out7_apply m c t r k R hR))
      ((blk3 m c t q k ⟨n.val, by omega⟩ hn).trans ((V_v22 m c _ k).trans (congrArg (fun j => win m c (ix3 1 k j)) (col_wide n)))))

/-- The gates' product at point `t`. -/
theorem out6_apply (t : Fin cfg0.N) (r : Fin 1024) (n : Fin 128) (R : Fin 16384) (hR : R.val = t.val / 4 * 1024 + r.val) :
    out6 m c t (ix2 r n) = gates (Lat.proj (lat m c) (mods m c) (win m c) R) n :=
  (pay2 _ _ _ _ r n).trans ((Finset.sum_congr rfl fun k _ =>
    congr (congrArg HMul.hMul (out7_apply m c t r k R hR)) ((blk4 m c t n k).trans (V_v4 m c n k))).trans
    (sum_gates _ (fun k j => win m c (ix3 1 k j)) n))

/-! ## The results written back -/

/-- What a point writes back of the wide product is its block of the claimed array. -/
theorem flushed5 (t : Fin cfg0.N) : (dats m 0 c).flushed 5 t = ((cfg0.win 5).blk t).view.read (Elt Ideal) (first m c) := by
  funext y
  rw [View.read_apply]
  show out5 m c t y = first m c ((win0_5.rect t).emb y)
  idx_vars y
  have ht : t.val < 64 := N_eq ▸ t.isLt
  have e : (win0_5.rect t).emb (ix2 y0 y1) = ix2 ⟨t.val / 4 * 1024 + y0.val, by omega⟩ ⟨t.val % 4 * 2048 + y1.val, by omega⟩ := funext fun a => Fin.ext <| by
    refine (win0_5.rect_emb_val t (ix2 y0 y1) a).trans ?_
    fin_cases a <;> simp [show win0_5.index t = ![t.val / 4, t.val % 4] from idx5 t]
  rw [e]
  exact out5_apply m c t y0 y1 _ rfl _ rfl

/-- What a point writes back of the narrow product is its block of the claimed array. -/
theorem flushed6 (t : Fin cfg0.N) : (dats m 0 c).flushed 6 t = ((cfg0.win 6).blk t).view.read (Elt Ideal) (second m c) := by
  funext y
  rw [View.read_apply]
  show out6 m c t y = second m c ((win0_6.rect t).emb y)
  idx_vars y
  have ht : t.val < 64 := N_eq ▸ t.isLt
  have e : (win0_6.rect t).emb (ix2 y0 y1) = ix2 ⟨t.val / 4 * 1024 + y0.val, by omega⟩ y1 := funext fun a => Fin.ext <| by
    refine (win0_6.rect_emb_val t (ix2 y0 y1) a).trans ?_
    fin_cases a <;> simp [show win0_6.index t = ![t.val / 4, 0] from idx6 t]
  rw [e]
  exact out6_apply m c t y0 y1 _ rfl

/-- What a point writes back of the modulated rows is its block of the claimed array. -/
theorem flushed7 (t : Fin cfg0.N) : (dats m 0 c).flushed 7 t = ((cfg0.win 7).blk t).view.read (Elt Ideal) (third m c) := by
  funext y
  rw [View.read_apply]
  show out7 m c t y = third m c ((win0_7.rect t).emb y)
  idx_vars y
  have ht : t.val < 64 := N_eq ▸ t.isLt
  have e : (win0_7.rect t).emb (ix2 y0 y1) = ix2 ⟨t.val / 4 * 1024 + y0.val, by omega⟩ y1 := funext fun a => Fin.ext <| by
    refine (win0_7.rect_emb_val t (ix2 y0 y1) a).trans ?_
    fin_cases a <;> simp [show win0_7.index t = ![t.val / 4, 0] from idx7 t]
  rw [e]
  exact out7_apply m c t y0 y1 _ rfl

/-! ## Every element is written back -/

/-- The blocks written back of the wide product fill its array. -/
theorem cover5 (i : S16384x8192.Idx) : ∃ t : Fin cfg0.N, (cfg0.win 5).flush t = true ∧ i ∈ ((cfg0.win 5).blk t).view.set := by
  idx_vars i
  have hN := N_eq
  have hp : i0.val / 1024 * 4 + i1.val / 2048 < cfg0.N := by omega
  refine ⟨⟨i0.val / 1024 * 4 + i1.val / 2048, hp⟩, flush0_5 _, ?_⟩
  show _ ∈ ((View.whole main_v33_0).slice (win0_5.rect _)).set
  rw [View.set_slice_whole, win0_5.mem_rect_iff]
  intro a
  rw [show win0_5.index ⟨i0.val / 1024 * 4 + i1.val / 2048, hp⟩ = ![((i0.val / 1024 * 4 + i1.val / 2048) / 4), ((i0.val / 1024 * 4 + i1.val / 2048) % 4)] from idx5 ⟨i0.val / 1024 * 4 + i1.val / 2048, hp⟩]
  match a with
  | ⟨0, _⟩ => show ((i0.val / 1024 * 4 + i1.val / 2048) / 4) * 1024 ≤ i0.val ∧ i0.val < ((i0.val / 1024 * 4 + i1.val / 2048) / 4) * 1024 + 1024; omega
  | ⟨1, _⟩ => show ((i0.val / 1024 * 4 + i1.val / 2048) % 4) * 2048 ≤ i1.val ∧ i1.val < ((i0.val / 1024 * 4 + i1.val / 2048) % 4) * 2048 + 2048; omega

/-- The blocks written back of the narrow product fill its array. -/
theorem cover6 (i : S16384x128.Idx) : ∃ t : Fin cfg0.N, (cfg0.win 6).flush t = true ∧ i ∈ ((cfg0.win 6).blk t).view.set := by
  idx_vars i
  have hN := N_eq
  have hp : i0.val / 1024 * 4 + 3 < cfg0.N := by omega
  refine ⟨⟨i0.val / 1024 * 4 + 3, hp⟩, (flush0_6 _).2 (by simp only []; omega), ?_⟩
  show _ ∈ ((View.whole main_v33_1).slice (win0_6.rect _)).set
  rw [View.set_slice_whole, win0_6.mem_rect_iff]
  intro a
  rw [show win0_6.index ⟨i0.val / 1024 * 4 + 3, hp⟩ = ![((i0.val / 1024 * 4 + 3) / 4), 0] from idx6 ⟨i0.val / 1024 * 4 + 3, hp⟩]
  match a with
  | ⟨0, _⟩ => show ((i0.val / 1024 * 4 + 3) / 4) * 1024 ≤ i0.val ∧ i0.val < ((i0.val / 1024 * 4 + 3) / 4) * 1024 + 1024; omega
  | ⟨1, _⟩ => show 0 * 128 ≤ i1.val ∧ i1.val < 0 * 128 + 128; omega

/-- The blocks written back of the modulated rows fill its array. -/
theorem cover7 (i : S16384x2048.Idx) : ∃ t : Fin cfg0.N, (cfg0.win 7).flush t = true ∧ i ∈ ((cfg0.win 7).blk t).view.set := by
  idx_vars i
  have hN := N_eq
  have hp : i0.val / 1024 * 4 + 3 < cfg0.N := by omega
  refine ⟨⟨i0.val / 1024 * 4 + 3, hp⟩, (flush0_7 _).2 (by simp only []; omega), ?_⟩
  show _ ∈ ((View.whole main_v33_2).slice (win0_7.rect _)).set
  rw [View.set_slice_whole, win0_7.mem_rect_iff]
  intro a
  rw [show win0_7.index ⟨i0.val / 1024 * 4 + 3, hp⟩ = ![((i0.val / 1024 * 4 + 3) / 4), 0] from idx7 ⟨i0.val / 1024 * 4 + 3, hp⟩]
  match a with
  | ⟨0, _⟩ => show ((i0.val / 1024 * 4 + 3) / 4) * 1024 ≤ i0.val ∧ i0.val < ((i0.val / 1024 * 4 + 3) / 4) * 1024 + 1024; omega
  | ⟨1, _⟩ => show 0 * 2048 ≤ i1.val ∧ i1.val < 0 * 2048 + 2048; omega

/-! ## The final arrays and the run -/

/-- The array of the wide product after the run is the claimed one. -/
theorem final5 : (dats m 0 c).arrAt 5 cfg0.N = first m c :=
  (dats m 0 c).arrAt_eq_of_cover 5 (first m c) (fun t _ => flushed5 m c t) cover5
/-- The array of the narrow product after the run is the claimed one. -/
theorem final6 : (dats m 0 c).arrAt 6 cfg0.N = second m c :=
  (dats m 0 c).arrAt_eq_of_cover 6 (second m c) (fun t _ => flushed6 m c t) cover6
/-- The array of the modulated rows after the run is the claimed one. -/
theorem final7 : (dats m 0 c).arrAt 7 cfg0.N = third m c :=
  (dats m 0 c).arrAt_eq_of_cover 7 (third m c) (fun t _ => flushed7 m c t) cover7

variable (ρ : Dev nD → PrngReg)

/-- The results after the run. -/
theorem results : θ_run defs (onTc (τ := τ) (main (F := Ideal))) ⟨m, fun _ => 0, ρ⟩ fun r => ∀ c : Dev nD,
    r.2.mem ((c : Thread nD τ).loc main_v33_0) = first m c
    ∧ r.2.mem ((c : Thread nD τ).loc main_v33_1) = second m c
    ∧ r.2.mem ((c : Thread nD τ).loc main_v33_2) = third m c :=
  (θ_run defs _ _).mono (fun r h c => ⟨((h c).1 5).trans (final5 m c), ((h c).1 6).trans (final6 m c), ((h c).1 7).trans (final7 m c)⟩) (run_main m ρ)

end Cert.Kernel2Ideal.Run

end
-- ==== Proof.LatClaim.lean ====
module

public import proofs.«01_k».proof.Defs
public import proofs.«01_k».proof.Proof.LatValue
public import proofs.«01_k».proof.Proof.Gen.Reference2Ideal.Run
public import proofs.«01_k».proof.Proof.Gen.Kernel2

/-! # The latent projection: the claim
The kernel's results and the plain program's are the same functions of the arguments. -/

@[expose] public section

set_option maxRecDepth 16384

noncomputable section

namespace Cert.Lat

open Idealize.ShloMosaic Idealize.ShloMosaic.TcCoe Idealize.SL.Sem Cert.Reference2Ideal.Read Cert.Kernel2Ideal.Run

/-- The plain program's first result at the kernel's arguments. -/
theorem ref_eq_first (m : (ℓ : Loc Kernel2Ideal.nD Kernel2Ideal.τ Kernel2Ideal.sig) → Buf (Elt Ideal) ℓ) (c : Dev Kernel2Ideal.nD) :
    val_main_v47 (F := Ideal) (lat m c) (mods m c) (win m c) = first m c := by
  funext i; idx_vars i; exact ref_first _ _ _ i0 i1

/-- The plain program's second result at the kernel's arguments. -/
theorem ref_eq_second (m : (ℓ : Loc Kernel2Ideal.nD Kernel2Ideal.τ Kernel2Ideal.sig) → Buf (Elt Ideal) ℓ) (c : Dev Kernel2Ideal.nD) :
    val_main_v46 (F := Ideal) (lat m c) (mods m c) (win m c) = second m c := by
  funext i; idx_vars i; exact ref_second _ _ _ i0 i1

/-- The plain program's third result at the kernel's arguments. -/
theorem ref_eq_third (m : (ℓ : Loc Kernel2Ideal.nD Kernel2Ideal.τ Kernel2Ideal.sig) → Buf (Elt Ideal) ℓ) (c : Dev Kernel2Ideal.nD) :
    val_main_v49 (F := Ideal) (lat m c) (mods m c) = third m c := by
  funext i; idx_vars i; exact ref_third _ _ i0 i1

/-- From equal arguments the kernel and the plain program end with equal results and their arguments unchanged. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨first m, second m, third m, ?_, ?_⟩
  · refine (θ_run _ _ _).mono (fun r h c => ?_) (θ_run_and (results m g) (unchanged m g))
    obtain ⟨h0, h1, h2⟩ := h.1 c
    exact ⟨h0, h1, h2, h.2 c⟩
  · refine (θ_run _ _ _).mono (fun r h c => ?_) (Cert.Reference2Ideal.Value.run (F := Ideal) m' g')
    obtain ⟨h0, h1, h2, ha⟩ := h c
    obtain ⟨e0, e1, e2⟩ := hargs c
    refine ⟨h0.trans ?_, h1.trans ?_, h2.trans ?_, ha⟩
    · rw [val_main_v47_eq, e0, e1, e2]; exact ref_eq_first m c
    · rw [val_main_v46_eq, e0, e1, e2]; exact ref_eq_second m c
    · rw [val_main_v49_eq, e0, e1]; exact ref_eq_third m c

/-- The kernel's frame. -/
theorem frame_kernel : Cert.quiescent_Kernel2Ideal (hKernel2Ideal := Cert.Kernel2Ideal.Gen.facts) :=
  fun m g _ => Cert.Kernel2Ideal.Run.frame m g

/-- The plain program's frame: it has no counter. -/
theorem frame_reference : Cert.quiescent_Reference2Ideal (hReference2Ideal := Cert.Reference2Ideal.Gen.facts) := fun m g _ =>
  (θ_run _ _ _).mono (fun r h => ⟨fun c => (h c).2.2.2, sem_eq_zero_of_no_sems (by decide) r.2⟩)
    (Cert.Reference2Ideal.Value.run (F := Ideal) m g)

/-- The body tables at float words of the program and of its idealized print are one. -/
theorem bodies_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  match l, a with
  | ⟨0, _⟩, (t, s) => rfl

/-- So are the tables with the pipelines. -/
theorem defs_eq : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs _) bodies_eq

/-- The frame at float words: the two programs have one text, so it is the same run. -/
theorem frame_machine : Cert.quiescent_Kernel2 (hKernel2 := Cert.Kernel2.Gen.facts) := by
  intro m g _
  have e := Cert.Kernel2Ideal.Run.frame (F := Bits) m g
  rw [← defs_eq] at e
  exact e

end Cert.Lat

end
-- ==== Proof.SsdRun.lean ====
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Pipeline.ValueKit
public import Idealize.ShloMosaic.Lib.Claim

/-! # The latent projection, SSD half: the run of its kernel
The kernel walks eight rows of five column blocks. In the first column of a row it also computes the small projection,
which stays in its buffer for the rest of the row and is written back at the last column. The proof data says of every
output, at every point, one function of the input blocks there. -/

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is in the first column of its row exactly when its number is a multiple of 5. -/
theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)

/-- Offsets zero on two axes, -/
theorem hz2 : (![0, 0] : Fin 2 → ℕ) = fun _ => 0 := by decide
/-- and on three. -/
theorem hz3 : (![0, 0, 0] : Fin 3 → ℕ) = fun _ => 0 := by decide

/-- The grid's number of points. -/
theorem N_eq : cfg0.N = 40 := N_0

set_option maxHeartbeats 2000000 in
/-- The kernel body at a point of the first column: from the input blocks `x…` and anything in the output buffers it leaves each output block as the named function of the input blocks. -/
theorem body_first (c : Dev nD) (E : Set ℕ) (i : grid0.Coords) (arg2 : Memref sig .tc .vmem S2048x2048 .bf16) (harg2 : arg2.IsWhole) (arg3 : Memref sig .tc .vmem S1024x2048 .bf16) (harg3 : arg3.IsWhole) (arg4 : Memref sig .tc .vmem S128x2048 .f32) (harg4 : arg4.IsWhole) (arg5 : Memref sig .tc .vmem S2048x1024 .bf16) (harg5 : arg5.IsWhole) (arg6 : Memref sig .tc .vmem S2048x128 .f32) (harg6 : arg6.IsWhole)
    (hc0 : k0_cond1 i = 1#1) (x0 : Vec F S2048x2048 .bf16) (x1 : Vec F S1024x2048 .bf16) (x2 : Vec F S128x2048 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 x0) ∗ owns (c : Thread nD τ) arg6 fullShare (k0_pay1 x0 x2)) -∗ K ⟨⟩))
      ⊢ wp frame (wpE (defs₀ (F := F)) Variants.none c none) E (cc0_ssd_proj i arg2 harg2 arg3 harg3 arg4 harg4 arg5 harg5 arg6 harg6) K := by
  simp only [cc0_ssd_proj_eq_skeleton]; unfold cc0_ssd_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_eq_canon _ _ _ (View.cover_of_tiled _ S2048x1024.size (by rfl))).trans ?_
    refine (View.canon_unit_zero hz2 _ _).trans ?_
    exact (congr (congrArg k0_pay2 ((View.ld_unit_zero hz2 _ _).trans hf1)) ((View.ld_unit_zero hz2 _ _).trans hf0))
  iexists _; isplitr; swap; · iexact H4
  ipureintro
  refine (View.read_writes_eq_canon _ _ _ (View.cover_of_tiled _ S2048x128.size (by rfl))).trans ?_
  refine (View.canon_unit_zero hz2 _ _).trans ?_
  exact (congr (congrArg k0_pay1 ((View.ld_unit_zero hz2 _ _).trans hf0)) ((View.ld_unit_zero hz2 _ _).trans hf2))

set_option maxHeartbeats 2000000 in
/-- The kernel body at a later point of the row: the buffers stored only in the first column (`y…`) stay as they are; the other outputs are the named functions of the input blocks and of `y…`. -/
theorem body_later (c : Dev nD) (E : Set ℕ) (i : grid0.Coords) (arg2 : Memref sig .tc .vmem S2048x2048 .bf16) (harg2 : arg2.IsWhole) (arg3 : Memref sig .tc .vmem S1024x2048 .bf16) (harg3 : arg3.IsWhole) (arg4 : Memref sig .tc .vmem S128x2048 .f32) (harg4 : arg4.IsWhole) (arg5 : Memref sig .tc .vmem S2048x1024 .bf16) (harg5 : arg5.IsWhole) (arg6 : Memref sig .tc .vmem S2048x128 .f32) (harg6 : arg6.IsWhole)
    (hc0 : ¬ k0_cond1 i = 1#1) (x0 : Vec F S2048x2048 .bf16) (x1 : Vec F S1024x2048 .bf16) (x2 : Vec F S128x2048 .f32) (y4 : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x1 x0) ∗ owns (c : Thread nD τ) arg6 fullShare y4) -∗ K ⟨⟩))
      ⊢ wp frame (wpE (defs₀ (F := F)) Variants.none c none) E (cc0_ssd_proj i arg2 harg2 arg3 harg3 arg4 harg4 arg5 harg5 arg6 harg6) K := by
  simp only [cc0_ssd_proj_eq_skeleton]; unfold cc0_ssd_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_eq_canon _ _ _ (View.cover_of_tiled _ S2048x1024.size (by rfl))).trans ?_
    refine (View.canon_unit_zero hz2 _ _).trans ?_
    exact (congr (congrArg k0_pay2 ((View.ld_unit_zero hz2 _ _).trans hf1)) ((View.ld_unit_zero hz2 _ _).trans hf0))
  iexists _; isplitr; · ipureintro; exact harg6.read_unread _
  iexact H4

/-! ## The proof data -/

/-- What output block 3 holds after point `t`: the same function of the input blocks at every point. -/
def out3 (c : Dev nD) (t : Fin cfg0.N) : Vec F S2048x1024 .bf16 := k0_pay2 (iblk m c 1 t) (iblk m c 0 t)

/-- What output block 4 holds after point `t`: the same function of the input blocks at every point. -/
def out4 (c : Dev nD) (t : Fin cfg0.N) : Vec F S2048x128 .f32 := k0_pay1 (iblk m c 0 t) (iblk m c 2 t)

/-- The proof data: the arrays as the region finds them; after a point each input's buffer at its block and each output's at `out…`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
  Φ _ := Pipeline.ΦA spec0 c
  q _ := fullShare
  owed _ := 0

/-- The data's arrays are the contents at the region's entry. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
/-- What window 1's buffer (the packed weights) holds after a point. -/
theorem after_1 (c : Dev nD) (t : Fin cfg0.N) : (dats m 0 c).after 1 t = iblk m c 1 t := by dsimp only [dats]
/-- What window 2's buffer (the narrow weights) holds after a point. -/
theorem after_2 (c : Dev nD) (t : Fin cfg0.N) : (dats m 0 c).after 2 t = iblk m c 2 t := by dsimp only [dats]
/-- What window 3's buffer (the wide product) holds after a point. -/
theorem after_3 (c : Dev nD) (t : Fin cfg0.N) : (dats m 0 c).after 3 t = out3 m c t := by dsimp only [dats]
/-- What window 4's buffer (the narrow product) holds after a point. -/
theorem after_4 (c : Dev nD) (t : Fin cfg0.N) : (dats m 0 c).after 4 t = out4 m c t := by dsimp only [dats]

/-- An input's buffer holds its block at every point. -/
theorem before_0 (c : Dev nD) (t : Fin cfg0.N) (d) : (dats m 0 c).before 0 t d = iblk m c 0 t :=
  before0_0_of m (dats m 0 c) (A_eq m c 0) (after_0 m c) t d
/-- What window 1's buffer (the packed weights) holds before a point's body. -/
theorem before_1 (c : Dev nD) (t : Fin cfg0.N) (d) : (dats m 0 c).before 1 t d = iblk m c 1 t :=
  before0_1_of m (dats m 0 c) (A_eq m c 1) (after_1 m c) t d
/-- What window 2's buffer (the narrow weights) holds before a point's body. -/
theorem before_2 (c : Dev nD) (t : Fin cfg0.N) (d) : (dats m 0 c).before 2 t d = iblk m c 2 t :=
  before0_2_of m (dats m 0 c) (A_eq m c 2) (after_2 m c) t d

/-- Within a row these input blocks do not change from one point to the next. -/
theorem carry_0 (c : Dev nD) (t : Fin cfg0.N) (h : t.val % 5 ≠ 0) :
    iblk m c 0 t = iblk m c 0 ⟨t.val - 1, Nat.lt_of_le_of_lt (Nat.sub_le _ _) t.isLt⟩ := by
  have hf : (cfg0.win 0).fetch t = false := by
    rw [← Bool.not_eq_true, fetch0_0 t]; omega
  obtain ⟨-, hix⟩ := (cfg0.win 0).index_eq_of_fetch rfl t hf
  have e := (dats m 0 c).fetched_congr 0 hix rfl (iblk m c 0 t)
  unfold Dat.fetched Dat.blockOf at e
  rw [A_eq] at e
  exact e

/-- Away from the first column of a row, window 2 (the narrow weights) keeps its block from the point before. -/
theorem carry_2 (c : Dev nD) (t : Fin cfg0.N) (h : t.val % 5 ≠ 0) :
    iblk m c 2 t = iblk m c 2 ⟨t.val - 1, Nat.lt_of_le_of_lt (Nat.sub_le _ _) t.isLt⟩ := by
  have hf : (cfg0.win 2).fetch t = false := by
    rw [← Bool.not_eq_true, fetch0_2 t]; omega
  obtain ⟨-, hix⟩ := (cfg0.win 2).index_eq_of_fetch rfl t hf
  have e := (dats m 0 c).fetched_congr 2 hix rfl (iblk m c 2 t)
  unfold Dat.fetched Dat.blockOf at e
  rw [A_eq] at e
  exact e

/-- So output block 4 stays the same along a row. -/
theorem out4_carry (c : Dev nD) (t : Fin cfg0.N) (h : t.val % 5 ≠ 0) :
    out4 m c t = out4 m c ⟨t.val - 1, Nat.lt_of_le_of_lt (Nat.sub_le _ _) t.isLt⟩ := by
  unfold out4
  rw [carry_0 m c t h, carry_2 m c t h]

/-- Output 4's buffer is idle exactly at the later points of a row. -/
theorem idle_4 (t : Fin cfg0.N) (h : t.val % 5 ≠ 0) : cfg0.idle 4 (cfg0.grid.coords t) = true := by
  have hc : ¬ k0_cond1 (grid0.coords t) = 1#1 := fun e => h ((first_iff t).mp e)
  show (!(k0_cond1 (grid0.coords t) == 1#1)) = true
  simp [hc]

/-- Output window 4 (the narrow product) is stored at the first column of a row. -/
theorem live_4 (t : Fin cfg0.N) (h : t.val % 5 = 0) : cfg0.idle 4 (cfg0.grid.coords t) = false := by
  have hc : k0_cond1 (grid0.coords t) = 1#1 := (first_iff t).mpr h
  show (!(k0_cond1 (grid0.coords t) == 1#1)) = false
  simp [hc]

/-- At a later point of a row output 4's buffer still holds what the row's points left. -/
theorem fresh_4 : ∀ t : Fin cfg0.N, t.val % 5 ≠ 0 → cfg0.fresh 4 t.val = false :=
  (by decide +kernel : ∀ t : Fin grid0.N, t.val % 5 ≠ 0 → cfg0.fresh 4 t.val = false)

/-- What the body finds in output 4's buffer at a later point of a row: the row's block. -/
theorem before_4 (c : Dev nD) (t : Fin cfg0.N) (h : t.val % 5 ≠ 0) (d) : (dats m 0 c).before 4 t d = out4 m c t := by
  rw [(dats m 0 c).before_out_traj 4 rfl (fun _ _ => rfl) (fun s _ hi _ => by
      rw [after_4, after_4]
      refine out4_carry m c s fun e => ?_
      rw [live_4 s e] at hi; exact Bool.false_ne_true hi) t.val t rfl d, fresh_4 t h, if_neg Bool.false_ne_true, after_4]
  exact (out4_carry m c t h).symm

/-- Output 4's buffer at the row's block is what every point leaves: stored there in the first column, found and kept later. -/
theorem leaves_4 (c : Dev nD) (t : Fin cfg0.N) :
    (owns (c : Thread nD τ) (win0_4.stage (cfg0.slots t 4)) fullShare (out4 m c t) : sProp 𝕄) ⊢ (dats m 0 c).leavesExact 4 t := by
  by_cases h : t.val % 5 = 0
  · rw [show (dats m 0 c).leavesExact 4 t = owns (c : Thread nD τ) (win0_4.stage (cfg0.slots t 4)) fullShare ((dats m 0 c).after 4 t) from by
      unfold Dat.leavesExact; rw [live_4 t h], after_4]
  · by_cases hf : (cfg0.win 4).flush t = true
    · rw [show (dats m 0 c).leavesExact 4 t = owns (c : Thread nD τ) (win0_4.stage (cfg0.slots t 4)) fullShare ((dats m 0 c).after 4 t) from by
        unfold Dat.leavesExact; rw [idle_4 t h, hf], after_4]
    · rw [Bool.not_eq_true] at hf
      rw [(dats m 0 c).leavesExact_idle 4 t (idle_4 t h) hf]
      iintro H
      iexists (out4 m c t)
      rw [before_4 m c t h]
      iexact H

/-! ## The body obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2000000 in
/-- The body at every point, by the two cases of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0 m c t, before_1 m c t, before_2 m c t]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from by
      unfold Dat.leavesExact; rw [show cfg0.idle 0 (cfg0.grid.coords t) = false from rfl], after_0]
  rw [show (dats m 0 c).leavesExact 1 t = owns (c : Thread nD τ) (win0_1.stage (cfg0.slots t 1)) fullShare ((dats m 0 c).after 1 t) from by
      unfold Dat.leavesExact; rw [show cfg0.idle 1 (cfg0.grid.coords t) = false from rfl], after_1]
  rw [show (dats m 0 c).leavesExact 2 t = owns (c : Thread nD τ) (win0_2.stage (cfg0.slots t 2)) fullShare ((dats m 0 c).after 2 t) from by
      unfold Dat.leavesExact; rw [show cfg0.idle 2 (cfg0.grid.coords t) = false from rfl], after_2]
  rw [show (dats m 0 c).leavesExact 3 t = owns (c : Thread nD τ) (win0_3.stage (cfg0.slots t 3)) fullShare ((dats m 0 c).after 3 t) from by
      unfold Dat.leavesExact; rw [show cfg0.idle 3 (cfg0.grid.coords t) = false from rfl], after_3]
  iintro ⟨HΦ, Ho, ⟨%d0, H0⟩, ⟨%d1, H1⟩, ⟨%d2, H2⟩, ⟨%d3, H3⟩, ⟨%d4, H4⟩⟩
  by_cases h : t.val % 5 = 0
  · have hc := (first_iff t).mpr h
    iapply (body_first c Set.univ (grid0.coords t) _ _ _ _ _ _ _ _ _ _ hc (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t); iexact H4
  · have hc : ¬ k0_cond1 (grid0.coords t) = 1#1 := fun e => h ((first_iff t).mp e)
    rw [before_4 m c t h]
    iapply (body_later c Set.univ (grid0.coords t) _ _ _ _ _ _ _ _ _ _ hc (iblk m c 0 t) (iblk m c 1 t) (iblk m c 2 t) (out4 m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t); iexact H4

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution from any memory with zero counters ends, with every array of the pipeline at what the proof data computes,
    every other buffer as the region found it, and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := fun r => Pipeline.FramePost cfgs (dats m) 0 (V m) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments after the run, unchanged. -/
theorem unchanged : θ_run defs (onTc (τ := τ) (main (F := F))) ⟨m, fun _ => 0, ρ⟩ fun r => ∀ c : Dev nD,
    r.2.mem ((c : Thread nD τ).loc main_arg0) = m ((c : Thread nD τ).loc main_arg0)
    ∧ r.2.mem ((c : Thread nD τ).loc main_arg1) = m ((c : Thread nD τ).loc main_arg1) :=
  Gen.frame_of m ρ (dats m) (A_eq m) (run_main m ρ)

/-- The arguments are unchanged and every counter is at zero. -/
theorem frame : θ_run defs (onTc (τ := τ) (main (F := F))) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1)) ∧ r.2.sem = fun _ => 0 :=
  θ_run_and (unchanged m ρ) ((θ_run defs _ _).mono (fun _ h => h.2) (run_quiescent m ρ))

end Cert.Kernel3Ideal.Run

end
-- ==== Proof.SsdRef.lean ====
module

public import proofs.«01_k».proof.Proof.Spec
public import proofs.«01_k».proof.Proof.Gen.Reference3Ideal.Read
public import Idealize.ShloMosaic.Lib.Pointwise

/-! # The column-major projection: what the plain program computes -/

@[expose] public section

set_option maxRecDepth 16384

noncomputable section

namespace Cert.Ssd

open Idealize.ShloMosaic Cert.Reference3Ideal Cert.Reference3Ideal.Read Cert.Spec

variable (x0 : Vec Ideal S2x8192x2048 .bf16) (x1 : Vec Ideal S2x2048x13408 .f32)

/-- The token at place `s` of the column-major order of the 128 × 64 grid of tokens. -/
def place (s : Fin 8192) : Fin 8192 := ⟨s.val % 128 * 64 + s.val / 128, by omega⟩

/-- Row `r` of the 16384 rows in column-major order. -/
def row (r : Fin 16384) (k : Fin 2048) : EReal :=
  x0 (ix3 ⟨r.val / 8192, by omega⟩ (place ⟨r.val % 8192, by omega⟩) k)

/-- Row `r` times column `n` of the input projection. -/
def proj (r : Fin 16384) (n : Fin 13408) : EReal := ∑ k, row x0 r k * x1 (ix3 1 k n)

/-- The plain program's whole product. -/
theorem ref_prod (b : Fin 2) (s : Fin 8192) (n : Fin 13408) :
    val_main_v3 (F := Ideal) x0 x1 (ix3 b s n) = ∑ k : Fin 2048, x0 (ix3 b s k) * x1 (ix3 1 k n) := by
  pointwise [val_main_v3, val_main_v2, val_main_v1, val_main_v0]

/-- The same by the rows in column-major order. -/
theorem ref_proj (r : Fin 16384) (n : Fin 13408) :
    val_main_v3 (F := Ideal) x0 x1 (ix3 ⟨r.val / 8192, by omega⟩ (place ⟨r.val % 8192, by omega⟩) n) = proj x0 x1 r n :=
  ref_prod x0 x1 _ _ n

/-- FIRST RESULT of the plain program. -/
theorem ref_first (r : Fin 16384) (n : Fin 5120) :
    val_main_v31 (F := Ideal) x0 x1 (ix2 r n) = proj x0 x1 r (upper n) := by
  rw [← ref_proj]
  have h := upper_cases n
  generalize upper n = k at h ⊢
  pointwise [val_main_v31, val_main_v20, val_main_v19, val_main_v18, val_main_v17, val_main_v16, val_main_v15, val_main_v14, val_main_v13, val_main_v12, val_main_v10, place]
  split_ifs <;> exact congrArg (val_main_v3 x0 x1) (congrArg (ix3 _ _) (Fin.ext (by simp only []; omega)))

/-- SECOND RESULT of the plain program. -/
theorem ref_second (r : Fin 16384) (n : Fin 128) :
    val_main_v30 (F := Ideal) x0 x1 (ix2 r n) = steps (proj x0 x1 r) n := by
  have e : proj x0 x1 r = fun k => val_main_v3 x0 x1 (ix3 ⟨r.val / 8192, by omega⟩ (place ⟨r.val % 8192, by omega⟩) k) :=
    funext fun k => (ref_proj x0 x1 r k).symm
  rw [e]
  pointwise [val_main_v30, val_main_v29, val_main_v28, val_main_v27, val_main_v26, val_main_v25, val_main_v24, val_main_v23, val_main_v22, val_main_v21, val_main_v11, val_main_cst, place]
  have hn := n.isLt
  have hu := fun h => unzip_cases (e := n.val) h
  split_ifs <;> symm
  all_goals first
    | exact steps_zero (by omega)
    | exact steps_low (by omega) fun k hk =>
        congrArg (val_main_v3 x0 x1) (congrArg (ix3 _ _) (Fin.ext (by have := hu (by omega); simp only []; omega)))

end Cert.Ssd

end
-- ==== Proof.SsdValue.lean ====
module

public import proofs.«01_k».proof.Proof.SsdRun
public import proofs.«01_k».proof.Proof.SsdRef
public import Idealize.ShloMosaic.Lib.Pointwise

/-! # The column-major projection: what the kernel computes
The arrays the region finds, its windows' blocks at a point, the body's payloads on them, and from these the results. -/

@[expose] public section

set_option maxRecDepth 16384

noncomputable section

namespace Cert.Kernel3Ideal.Run

open Idealize.ShloMosaic Idealize.ShloMosaic.TcCoe Idealize.SL.Sem Cert.Kernel3Ideal.Gen Cert.Spec
open Idealize.ShloMosaic.Pipeline (Dat Cfg Window)

variable (m : (ℓ : Loc nD τ sig) → Buf (Elt Ideal) ℓ) (c : Dev nD)

/-- The argument arrays at launch. -/
abbrev tok : Vec Ideal S2x8192x2048 .bf16 := m ((c : Thread nD τ).loc main_arg0)
/-- The input projection's weights at launch. -/
abbrev win : Vec Ideal S2x2048x13408 .f32 := m ((c : Thread nD τ).loc main_arg1)

/-! ## The arrays the region finds -/

/-- The tokens in column-major order, as 16384 rows. -/
theorem V_v26 (r : Fin 16384) (k : Fin 2048) : V m c main_v26 (ix2 r k) = Ssd.row (tok m c) r k := by
  unfold V
  after_results
  pointwise [Ssd.row, Ssd.place]
  have h0 : r.val % 8192 % 128 = r.val % 128 := by omega
  have h1 : r.val % 8192 / 128 = r.val / 128 % 64 := by omega
  have h2 : r.val % 128 * 64 + r.val / 128 % 64 < 8192 := by omega
  have h3 : (r.val / 8192 * 8192 + r.val % 128 * 64 + r.val / 128 % 64) / 8192 = r.val / 8192 := by omega
  have h4 : (r.val / 8192 * 8192 + r.val % 128 * 64 + r.val / 128 % 64) % 8192 = r.val % 128 * 64 + r.val / 128 % 64 := by omega
  have hh : ∀ {a a' : Fin 2} {b b' : Fin 8192}, a = a' → b = b' → tok m c (ix3 a b k) = tok m c (ix3 a' b' k) := by
    rintro a _ b _ rfl rfl; rfl
  exact hh (Fin.ext h3) (Fin.ext (h4.trans (by show _ = r.val % 8192 % 128 * 64 + r.val % 8192 / 128; rw [h0, h1])))

/-- The packed weights, as rows. -/
theorem V_v22 (n : Fin 13312) (k : Fin 2048) : V m c main_v22 (ix2 n k) = win m c (ix3 1 k (col n)) := by
  have h := col_cases n
  generalize col n = j at h ⊢
  unfold V
  after_results
  pointwise
  split_ifs
  all_goals after_results_simp
  all_goals pointwise
  all_goals exact congrArg (win m c) (congrArg (ix3 1 k) (Fin.ext (by first | omega | (simp only []; omega))))

/-- The narrow weights. -/
theorem V_v13 (n : Fin 128) (k : Fin 2048) : V m c main_v13 (ix2 n k) = steps (fun j => win m c (ix3 1 k j)) n := by
  unfold V
  after_results
  pointwise [steps, unzip]

/-! ## The windows' blocks -/

/-- Where the window of the tokens stands at each point. -/
theorem idx0 : ∀ t : Fin 40, cc0_transform_0 (grid0.coords t) = ![t.val / 5, 0] := by decide +kernel
/-- Where the window of the packed weights stands at each point. -/
theorem idx1 : ∀ t : Fin 40, cc0_transform_1 (grid0.coords t) = ![8 + t.val % 5, 0] := by decide +kernel
/-- Where the window of the narrow weights stands at each point. -/
theorem idx2 : ∀ t : Fin 40, cc0_transform_2 (grid0.coords t) = ![0, 0] := by decide +kernel
/-- Where the window of the wide product stands at each point. -/
theorem idx3 : ∀ t : Fin 40, cc0_transform_3 (grid0.coords t) = ![t.val / 5, t.val % 5] := by decide +kernel
/-- Where the window of the narrow product stands at each point. -/
theorem idx4 : ∀ t : Fin 40, cc0_transform_4 (grid0.coords t) = ![t.val / 5, 0] := by decide +kernel

/-- A block of the token window, read off any contents of its array. -/
theorem read0 (g : main_v26.ty.Contents (Elt Ideal)) (t : Fin cfg0.N) (y : S2048x2048.Idx) :
    ((cfg0.win 0).blk t).view.read (Elt Ideal) g y = g ((win0_0.rect t).emb y) := by
  rfl

/-- The token window holds the 2048 rows from `2048 · (t / 5)`. -/
theorem blk0 (t : Fin cfg0.N) (r : Fin 2048) (k : Fin 2048) (R : Fin 16384) (hR : R.val = t.val / 5 * 2048 + r.val) :
    iblk m c 0 t (ix2 r k) = V m c main_v26 (ix2 R k) := by
  unfold iblk
  refine (read0 _ t _).trans ?_
  refine congrArg (V m c main_v26) (funext fun a => Fin.ext ?_)
  refine (win0_0.rect_emb_val t (ix2 r k) a).trans ?_
  have e : win0_0.index t = ![t.val / 5, 0] := idx0 t
  match a with
  | ⟨0, _⟩ => show win0_0.index t 0 * 2048 + r.val = R.val; rw [e, hR]; rfl
  | ⟨1, _⟩ => show win0_0.index t 1 * 2048 + k.val = k.val; rw [e]; simp

/-- The weight window holds the 1024 packed columns from `8192 + 1024 · (t % 5)`. -/
theorem blk1 (t : Fin cfg0.N) (q : Fin 1024) (k : Fin 2048) (n : Fin 13312) (hn : n.val = (8 + t.val % 5) * 1024 + q.val) :
    iblk m c 1 t (ix2 q k) = V m c main_v22 (ix2 n k) := by
  unfold iblk
  rw [View.read_apply]
  refine congrArg (V m c main_v22) (funext fun a => Fin.ext ?_)
  refine (win0_1.rect_emb_val t (ix2 q k) a).trans ?_
  fin_cases a <;> simp [show win0_1.index t = ![8 + t.val % 5, 0] from idx1 t, hn]

/-- The narrow weights' window holds the whole array. -/
theorem blk2 (t : Fin cfg0.N) (n : Fin 128) (k : Fin 2048) : iblk m c 2 t (ix2 n k) = V m c main_v13 (ix2 n k) := by
  unfold iblk
  rw [View.read_apply]
  refine congrArg (V m c main_v13) (funext fun a => Fin.ext ?_)
  refine (win0_2.rect_emb_val t (ix2 n k) a).trans ?_
  fin_cases a <;> simp [show win0_2.index t = ![0, 0] from idx2 t]

/-! ## The body's payloads -/

/-- The narrow product. -/
theorem pay1 (x : Vec Ideal S2048x2048 .bf16) (w : Vec Ideal S128x2048 .f32) (r : Fin 2048) (n : Fin 128) :
    k0_pay1 (F := Ideal) x w (ix2 r n) = ∑ k, x (ix2 r k) * w (ix2 n k) := by
  pointwise [k0_pay1]

/-- The wide product. -/
theorem pay2 (w : Vec Ideal S1024x2048 .bf16) (x : Vec Ideal S2048x2048 .bf16) (r : Fin 2048) (n : Fin 1024) :
    k0_pay2 (F := Ideal) w x (ix2 r n) = ∑ k, x (ix2 r k) * w (ix2 n k) := by
  pointwise [k0_pay2]

/-! ## The two results as functions of the arguments -/

/-- The last 5120 packed columns of the product. -/
def first : Vec Ideal S16384x5120 .bf16 := fun i => Ssd.proj (tok m c) (win m c) (i 0) (upper (i 1))

/-- The step sizes' columns reordered, with zeros. -/
def second : Vec Ideal S16384x128 .f32 := fun i => steps (Ssd.proj (tok m c) (win m c) (i 0)) (i 1)

/-- The product at point `t`. -/
theorem out3_apply (t : Fin cfg0.N) (r : Fin 2048) (q : Fin 1024) (R : Fin 16384) (hR : R.val = t.val / 5 * 2048 + r.val)
    (n : Fin 5120) (hn : n.val = t.val % 5 * 1024 + q.val) :
    out3 m c t (ix2 r q) = Ssd.proj (tok m c) (win m c) R (upper n) :=
  (pay2 _ _ r q).trans (Finset.sum_congr rfl fun k _ =>
    congr (congrArg HMul.hMul ((blk0 m c t r k R hR).trans (V_v26 m c R k)))
      ((blk1 m c t q k ⟨8192 + n.val, by omega⟩ (by simp only []; omega)).trans (V_v22 m c _ k)))

/-- The step sizes' product at point `t`. -/
theorem out4_apply (t : Fin cfg0.N) (r : Fin 2048) (n : Fin 128) (R : Fin 16384) (hR : R.val = t.val / 5 * 2048 + r.val) :
    out4 m c t (ix2 r n) = steps (Ssd.proj (tok m c) (win m c) R) n :=
  (pay1 _ _ r n).trans ((Finset.sum_congr rfl fun k _ =>
    congr (congrArg (HMul.hMul (α := EReal) (β := EReal) (γ := EReal)) ((blk0 m c t r k R hR).trans (V_v26 m c R k))) ((blk2 m c t n k).trans (V_v13 m c n k))).trans
    (sum_steps _ (fun k j => win m c (ix3 1 k j)) n))

/-! ## The results written back -/

/-- What a point writes back of the wide product is its block of the claimed array. -/
theorem flushed3 (t : Fin cfg0.N) : (dats m 0 c).flushed 3 t = ((cfg0.win 3).blk t).view.read (Elt Ideal) (first m c) := by
  funext y
  rw [View.read_apply]
  show out3 m c t y = first m c ((win0_3.rect t).emb y)
  idx_vars y
  have ht : t.val < 40 := N_eq ▸ t.isLt
  have e : (win0_3.rect t).emb (ix2 y0 y1) = ix2 ⟨t.val / 5 * 2048 + y0.val, by omega⟩ ⟨t.val % 5 * 1024 + y1.val, by omega⟩ := funext fun a => Fin.ext <| by
    refine (win0_3.rect_emb_val t (ix2 y0 y1) a).trans ?_
    fin_cases a <;> simp [show win0_3.index t = ![t.val / 5, t.val % 5] from idx3 t]
  rw [e]
  exact out3_apply m c t y0 y1 _ rfl _ rfl

/-- What a point writes back of the narrow product is its block of the claimed array. -/
theorem flushed4 (t : Fin cfg0.N) : (dats m 0 c).flushed 4 t = ((cfg0.win 4).blk t).view.read (Elt Ideal) (second m c) := by
  funext y
  rw [View.read_apply]
  show out4 m c t y = second m c ((win0_4.rect t).emb y)
  idx_vars y
  have ht : t.val < 40 := N_eq ▸ t.isLt
  have e : (win0_4.rect t).emb (ix2 y0 y1) = ix2 ⟨t.val / 5 * 2048 + y0.val, by omega⟩ y1 := funext fun a => Fin.ext <| by
    refine (win0_4.rect_emb_val t (ix2 y0 y1) a).trans ?_
    fin_cases a <;> simp [show win0_4.index t = ![t.val / 5, 0] from idx4 t]
  rw [e]
  exact out4_apply m c t y0 y1 _ rfl

/-! ## Every element is written back -/

/-- The blocks written back of the wide product fill its array. -/
theorem cover3 (i : S16384x5120.Idx) : ∃ t : Fin cfg0.N, (cfg0.win 3).flush t = true ∧ i ∈ ((cfg0.win 3).blk t).view.set := by
  idx_vars i
  have hN := N_eq
  have hp : i0.val / 2048 * 5 + i1.val / 1024 < cfg0.N := by omega
  refine ⟨⟨i0.val / 2048 * 5 + i1.val / 1024, hp⟩, flush0_3 _, ?_⟩
  show _ ∈ ((View.whole main_v27_0).slice (win0_3.rect _)).set
  rw [View.set_slice_whole, win0_3.mem_rect_iff]
  intro a
  rw [show win0_3.index ⟨i0.val / 2048 * 5 + i1.val / 1024, hp⟩ = ![((i0.val / 2048 * 5 + i1.val / 1024) / 5), ((i0.val / 2048 * 5 + i1.val / 1024) % 5)] from idx3 ⟨i0.val / 2048 * 5 + i1.val / 1024, hp⟩]
  match a with
  | ⟨0, _⟩ => show ((i0.val / 2048 * 5 + i1.val / 1024) / 5) * 2048 ≤ i0.val ∧ i0.val < ((i0.val / 2048 * 5 + i1.val / 1024) / 5) * 2048 + 2048; omega
  | ⟨1, _⟩ => show ((i0.val / 2048 * 5 + i1.val / 1024) % 5) * 1024 ≤ i1.val ∧ i1.val < ((i0.val / 2048 * 5 + i1.val / 1024) % 5) * 1024 + 1024; omega

/-- The blocks written back of the narrow product fill its array. -/
theorem cover4 (i : S16384x128.Idx) : ∃ t : Fin cfg0.N, (cfg0.win 4).flush t = true ∧ i ∈ ((cfg0.win 4).blk t).view.set := by
  idx_vars i
  have hN := N_eq
  have hp : i0.val / 2048 * 5 + 4 < cfg0.N := by omega
  refine ⟨⟨i0.val / 2048 * 5 + 4, hp⟩, (flush0_4 _).2 (by simp only []; omega), ?_⟩
  show _ ∈ ((View.whole main_v27_1).slice (win0_4.rect _)).set
  rw [View.set_slice_whole, win0_4.mem_rect_iff]
  intro a
  rw [show win0_4.index ⟨i0.val / 2048 * 5 + 4, hp⟩ = ![((i0.val / 2048 * 5 + 4) / 5), 0] from idx4 ⟨i0.val / 2048 * 5 + 4, hp⟩]
  match a with
  | ⟨0, _⟩ => show ((i0.val / 2048 * 5 + 4) / 5) * 2048 ≤ i0.val ∧ i0.val < ((i0.val / 2048 * 5 + 4) / 5) * 2048 + 2048; omega
  | ⟨1, _⟩ => show 0 * 128 ≤ i1.val ∧ i1.val < 0 * 128 + 128; omega

/-! ## The final arrays and the run -/

/-- The array of the wide product after the run is the claimed one. -/
theorem final3 : (dats m 0 c).arrAt 3 cfg0.N = first m c :=
  (dats m 0 c).arrAt_eq_of_cover 3 (first m c) (fun t _ => flushed3 m c t) cover3
/-- The array of the narrow product after the run is the claimed one. -/
theorem final4 : (dats m 0 c).arrAt 4 cfg0.N = second m c :=
  (dats m 0 c).arrAt_eq_of_cover 4 (second m c) (fun t _ => flushed4 m c t) cover4

variable (ρ : Dev nD → PrngReg)

/-- The results after the run. -/
theorem results : θ_run defs (onTc (τ := τ) (main (F := Ideal))) ⟨m, fun _ => 0, ρ⟩ fun r => ∀ c : Dev nD,
    r.2.mem ((c : Thread nD τ).loc main_v27_0) = first m c
    ∧ r.2.mem ((c : Thread nD τ).loc main_v27_1) = second m c :=
  (θ_run defs _ _).mono (fun r h c => ⟨((h c).1 3).trans (final3 m c), ((h c).1 4).trans (final4 m c)⟩) (run_main m ρ)

end Cert.Kernel3Ideal.Run

end
-- ==== Proof.SsdClaim.lean ====
module

public import proofs.«01_k».proof.Defs
public import proofs.«01_k».proof.Proof.SsdValue
public import proofs.«01_k».proof.Proof.Gen.Reference3Ideal.Run
public import proofs.«01_k».proof.Proof.Gen.Kernel3

/-! # The column-major projection: the claim
The kernel's results and the plain program's are the same functions of the arguments. -/

@[expose] public section

set_option maxRecDepth 16384

noncomputable section

namespace Cert.Ssd

open Idealize.ShloMosaic Idealize.ShloMosaic.TcCoe Idealize.SL.Sem Cert.Reference3Ideal.Read Cert.Kernel3Ideal.Run

/-- The plain program's first result at the kernel's arguments. -/
theorem ref_eq_first (m : (ℓ : Loc Kernel3Ideal.nD Kernel3Ideal.τ Kernel3Ideal.sig) → Buf (Elt Ideal) ℓ) (c : Dev Kernel3Ideal.nD) :
    val_main_v31 (F := Ideal) (tok m c) (win m c) = first m c := by
  funext i; idx_vars i; exact ref_first _ _ i0 i1

/-- The plain program's second result at the kernel's arguments. -/
theorem ref_eq_second (m : (ℓ : Loc Kernel3Ideal.nD Kernel3Ideal.τ Kernel3Ideal.sig) → Buf (Elt Ideal) ℓ) (c : Dev Kernel3Ideal.nD) :
    val_main_v30 (F := Ideal) (tok m c) (win m c) = second m c := by
  funext i; idx_vars i; exact ref_second _ _ i0 i1

/-- From equal arguments the kernel and the plain program end with equal results and their arguments unchanged. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨first m, second m, ?_, ?_⟩
  · refine (θ_run _ _ _).mono (fun r h c => ?_) (θ_run_and (results m g) (unchanged m g))
    obtain ⟨h0, h1⟩ := h.1 c
    exact ⟨h0, h1, h.2 c⟩
  · refine (θ_run _ _ _).mono (fun r h c => ?_) (Cert.Reference3Ideal.Value.run (F := Ideal) m' g')
    obtain ⟨h0, h1, ha⟩ := h c
    obtain ⟨e0, e1⟩ := hargs c
    refine ⟨h0.trans ?_, h1.trans ?_, ha⟩
    · rw [val_main_v31_eq, e0, e1]; exact ref_eq_first m c
    · rw [val_main_v30_eq, e0, e1]; exact ref_eq_second m c

/-- The kernel's frame. -/
theorem frame_kernel : Cert.quiescent_Kernel3Ideal (hKernel3Ideal := Cert.Kernel3Ideal.Gen.facts) :=
  fun m g _ => Cert.Kernel3Ideal.Run.frame m g

/-- The plain program's frame: it has no counter. -/
theorem frame_reference : Cert.quiescent_Reference3Ideal (hReference3Ideal := Cert.Reference3Ideal.Gen.facts) := fun m g _ =>
  (θ_run _ _ _).mono (fun r h => ⟨fun c => (h c).2.2, sem_eq_zero_of_no_sems (by decide) r.2⟩)
    (Cert.Reference3Ideal.Value.run (F := Ideal) m g)

/-- The body tables at float words of the program and of its idealized print are one. -/
theorem bodies_eq : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc (funext fun l => funext fun a => ?_)
  match l, a with
  | ⟨0, _⟩, (t, s) => rfl

/-- So are the tables with the pipelines. -/
theorem defs_eq : @Cert.Kernel3.defs Bits _ Cert.Kernel3.Gen.facts = @Cert.Kernel3Ideal.defs Bits _ Cert.Kernel3Ideal.Gen.facts := by
  unfold Cert.Kernel3.defs Cert.Kernel3Ideal.defs
  exact congrArg (Pipeline.defs _) bodies_eq

/-- The frame at float words: the two programs have one text, so it is the same run. -/
theorem frame_machine : Cert.quiescent_Kernel3 (hKernel3 := Cert.Kernel3.Gen.facts) := by
  intro m g _
  have e := Cert.Kernel3Ideal.Run.frame (F := Bits) m g
  rw [← defs_eq] at e
  exact e

end Cert.Ssd

end
-- ==== Proof.OutRun.lean ====
module

public import proofs.«01_k».proof.Proof.Gen.Kernel4Ideal.Frame

/-! # The output projection: the run
Every fair execution ends with all buffers outside the pipelines as the fold over the two regions and the host operations
between them has them. -/

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel4Ideal.Gen
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: every buffer outside the pipelines ends at the last boundary's contents. -/
theorem run_main : θ_run defs (onTc (τ := τ) (main (F := F))) ⟨m, fun _ => 0, ρ⟩ fun r =>
    ∀ c : Dev nD, ∀ b ∈ Pipeline.ucRefs τ sig, r.2.mem (((c : Thread nD τ)).1, b) = W3 m ρ c b := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) ?tokens
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl⟩ ?start
    (QY := fun c s => ∀ b ∈ Pipeline.ucRefs τ sig, s.mem (((c : Thread nD τ)).1, b) = W3 m ρ c b) ?last
    (fun s h _ => h)
  case tokens =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case last =>
    intro c s'
    iintro ⟨⟨Hh, -⟩, HSI⟩
    unfold StableHlo.held
    imodintro
    iapply (pointsTo_read_all (Pipeline.ucRefs τ sig) (fun b => (((c : Thread nD τ)).1, b)) (W3 m ρ c) s')
    isplitl [Hh] <;> iassumption

end Cert.Kernel4Ideal.Run

end
-- ==== Proof.OutRef.lean ====
module

public import proofs.«01_k».proof.Proof.Spec
public import proofs.«01_k».proof.Proof.Gen.Reference4Ideal.Read
public import Idealize.ShloMosaic.Lib.Pointwise

/-! # The output projection: what the plain program computes -/

@[expose] public section

set_option maxRecDepth 16384

noncomputable section

namespace Cert.Out

open Idealize.ShloMosaic Cert.Reference4Ideal Cert.Reference4Ideal.Read Cert.Spec

variable (x0 x1 : Vec Ideal S2x8192x2048 .bf16) (x2 : Vec Ideal S2x8192x2048 .f32) (x3 : Vec Ideal S2x8x6144 .f32)
  (x4 : Vec Ideal S2x4096x2048 .f32) (x5 x6 : Vec Ideal S2x2048 .f32)

/-- Where the token at place `s` of the row-major order stands in the column-major one, on the grid of 128 × 64 tokens. -/
def back (s : Fin 8192) : Fin 8192 := ⟨s.val % 64 * 128 + s.val / 64, by omega⟩

/-- The output projection of a token: the mLSTM group's features times the upper half of the second layer's weights, and the
    Mamba-2 group's, which stand in column-major order, times the lower half. -/
def prod (b : Fin 2) (s : Fin 8192) (n : Fin 2048) : EReal :=
  (∑ k : Fin 2048, x0 (ix3 b s k) * x4 (ix3 1 ⟨k.val, by omega⟩ n))
    + ∑ k : Fin 2048, x1 (ix3 b (back s) k) * x4 (ix3 1 ⟨2048 + k.val, by omega⟩ n)

/-- The residual stream before its norm: `α · x + gate · (y · W)`. -/
def res (b : Fin 2) (s : Fin 8192) (n : Fin 2048) : EReal :=
  Ideal.ofBits .f32 0x3FB504F3#32 * x2 (ix3 b s n) + x3 (ix3 1 ⟨b.val, by omega⟩ ⟨4096 + n.val, by omega⟩) * prod x0 x1 x4 b s n

/-- The layer's result for a token: the residual stream's norm with the second layer's gain and bias. -/
def final (b : Fin 2) (s : Fin 8192) (n : Fin 2048) : EReal :=
  normRow (res x0 x1 x2 x3 x4 b s) n * x5 (ix2 1 n) + x6 (ix2 1 n)

/-- The two groups side by side: the first 2048 features. -/
theorem ref_left (b : Fin 2) (s : Fin 8192) (k : Fin 2048) :
    val_main_v10 (F := Ideal) x0 x1 (ix3 b s ⟨k.val, by omega⟩) = x0 (ix3 b s k) := by
  pointwise [val_main_v10, val_main_v5]

/-- The two groups side by side: the last 2048 features, put back into row-major order. -/
theorem ref_right (b : Fin 2) (s : Fin 8192) (k : Fin 2048) :
    val_main_v10 (F := Ideal) x0 x1 (ix3 b s ⟨2048 + k.val, by omega⟩) = x1 (ix3 b (back s) k) := by
  pointwise [val_main_v10, val_main_v9, val_main_v8, val_main_v7, val_main_v6, back]

/-- The plain program's product over all 4096 features is the two halves' sum. -/
theorem ref_prod (b : Fin 2) (s : Fin 8192) (n : Fin 2048) :
    val_main_v16 (F := Ideal) x0 x1 x4 (ix3 b s n) = prod x0 x1 x4 b s n := by
  have e : val_main_v16 (F := Ideal) x0 x1 x4 (ix3 b s n)
      = ∑ k : Fin 4096, val_main_v10 (F := Ideal) x0 x1 (ix3 b s k) * x4 (ix3 1 k n) := by
    pointwise [val_main_v16, val_main_v15, val_main_v14]
  rw [e]
  refine (Fin.sum_univ_add (a := 2048) (b := 2048) fun k : Fin 4096 =>
    (val_main_v10 (F := Ideal) x0 x1 (ix3 b s k) * x4 (ix3 1 k n) : EReal)).trans ?_
  exact congr (congrArg HAdd.hAdd (Finset.sum_congr rfl fun k _ => congrArg (· * _) (ref_left x0 x1 b s k)))
    (Finset.sum_congr rfl fun k _ => congrArg (· * _) (ref_right x0 x1 b s k))

/-- The plain program's residual stream. -/
theorem ref_res (b : Fin 2) (s : Fin 8192) (n : Fin 2048) :
    val_main_v19 (F := Ideal) x0 x1 x2 x3 x4 (ix3 b s n) = res x0 x1 x2 x3 x4 b s n := by
  unfold res
  rw [← ref_prod]
  pointwise [val_main_v19, val_main_v18, val_main_v17, val_main_v13, val_main_v12, val_main_v11, val_main_cst, val_main_v4, val_main_v1, val_main_v0]

/-- THE RESULT of the plain program. -/
theorem ref_final (r : Fin 16384) (n : Fin 2048) :
    val_main_v48 (F := Ideal) x0 x1 x2 x3 x4 x5 x6 (ix2 r n)
      = final x0 x1 x2 x3 x4 x5 x6 ⟨r.val / 8192, by omega⟩ ⟨r.val % 8192, by omega⟩ n := by
  unfold final
  rw [show res x0 x1 x2 x3 x4 ⟨r.val / 8192, by omega⟩ ⟨r.val % 8192, by omega⟩
    = fun n => val_main_v19 (F := Ideal) x0 x1 x2 x3 x4 (ix3 ⟨r.val / 8192, by omega⟩ ⟨r.val % 8192, by omega⟩ n)
    from funext fun n => (ref_res x0 x1 x2 x3 x4 _ _ n).symm]
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_cst_0, val_main_cst_1, val_main_cst_2, val_main_cst_3, val_main_cst_4, normRow, mean]

end Cert.Out

end
-- ==== Proof.OutValue.lean ====
module

public import proofs.«01_k».proof.Proof.OutRun
public import proofs.«01_k».proof.Proof.OutRef
public import Idealize.ShloMosaic.Lib.Pointwise
public import Idealize.ShloMosaic.Lib.Pipeline.ValueKit

/-! # The output projection: what the kernel computes
The rounded weights the first region leaves, the arrays the second finds, its windows' blocks at a point, the body's payload on
them, and from these the result. -/

@[expose] public section

set_option maxRecDepth 16384

noncomputable section

namespace Cert.Kernel4Ideal.Run

open Idealize.ShloMosaic Idealize.ShloMosaic.TcCoe Idealize.SL.Sem Cert.Kernel4Ideal.Gen Cert.Spec
open Idealize.ShloMosaic.Pipeline (Dat Cfg Window)

variable (m : (ℓ : Loc nD τ sig) → Buf (Elt Ideal) ℓ) (ρ : Dev nD → PrngReg) (c : Dev nD)

/-- The argument arrays at launch. -/
abbrev ya : Vec Ideal S2x8192x2048 .bf16 := m ((c : Thread nD τ).loc main_arg0)
/-- The Mamba-2 group's features at launch. -/
abbrev yb : Vec Ideal S2x8192x2048 .bf16 := m ((c : Thread nD τ).loc main_arg1)
/-- The residual stream at launch. -/
abbrev xs : Vec Ideal S2x8192x2048 .f32 := m ((c : Thread nD τ).loc main_arg2)
/-- The modulation table at launch. -/
abbrev mods : Vec Ideal S2x8x6144 .f32 := m ((c : Thread nD τ).loc main_arg3)
/-- The output projection's weights at launch. -/
abbrev wout : Vec Ideal S2x4096x2048 .f32 := m ((c : Thread nD τ).loc main_arg4)
/-- The norm's gain at launch. -/
abbrev gain : Vec Ideal S2x2048 .f32 := m ((c : Thread nD τ).loc main_arg5)
/-- The norm's bias at launch. -/
abbrev bias : Vec Ideal S2x2048 .f32 := m ((c : Thread nD τ).loc main_arg6)

/-- Offset zero on two axes, as the whole-block lemmas take it, -/
theorem hz2 : (![0, 0] : Fin 2 → ℕ) = fun _ => 0 := by decide
/-- and on three. -/
theorem hz3 : (![0, 0, 0] : Fin 3 → ℕ) = fun _ => 0 := by decide

/-! ## The first region: the weights, their format changed -/

/-- The window reading the weights stands at layer `t / 2`, half `t % 2`; -/
theorem idx0_0 : ∀ t : Fin 4, cc0_transform_0 (grid0.coords t) = ![t.val / 2, t.val % 2, 0] := by decide +kernel
/-- so does the one written. -/
theorem idx0_1 : ∀ t : Fin 4, cc0_transform_1 (grid0.coords t) = ![t.val / 2, t.val % 2, 0] := by decide +kernel

/-- The body changes the format only, which is no change of an extended real. -/
theorem cast_apply (x : Vec Ideal S1x2048x2048 .f32) : out0_1 (F := Ideal) x = x := by
  unfold out0_1
  refine (View.canon_unit_zero hz3 _ _).trans ?_
  refine (congrArg (k0_pay1 (F := Ideal)) (View.ld_unit_zero hz3 _ _)).trans ?_
  funext i
  pointwise [k0_pay1]

/-- A block of the weights' window, read off any contents of its array. -/
theorem read0_0 (g : main_arg4.ty.Contents (Elt Ideal)) (t : Fin cfg0.N) (y : S1x2048x2048.Idx) :
    ((cfg0.win 0).blk t).view.read (Elt Ideal) g y = g ((win0_0.rect t).emb y) := by
  rfl
/-- A block of the written window, read off any contents of its array. -/
theorem read0_1 (g : main_v0.ty.Contents (Elt Ideal)) (t : Fin cfg0.N) (y : S1x2048x2048.Idx) :
    ((cfg0.win 1).blk t).view.read (Elt Ideal) g y = g ((win0_1.rect t).emb y) := by
  rfl

/-- Each point writes the weights' block. -/
theorem flushed0 (t : Fin cfg0.N) : (dat0 (V0 m ρ) c).flushed 1 t = ((cfg0.win 1).blk t).view.read (Elt Ideal) (wout m c) := by
  funext y
  refine Eq.trans ?_ (read0_1 _ t y).symm
  show (dat0 (V0 m ρ) c).after 1 t y = _
  rw [after0_1, cast_apply]
  unfold iblk0
  refine (read0_0 _ t y).trans ?_
  show wout m c _ = wout m c _
  refine congrArg (wout m c) (funext fun a => Fin.ext ?_)
  refine (win0_0.rect_emb_val t y a).trans (Eq.trans ?_ (win0_1.rect_emb_val t y a).symm)
  rw [show win0_0.index t = ![t.val / 2, t.val % 2, 0] from idx0_0 t, show win0_1.index t = ![t.val / 2, t.val % 2, 0] from idx0_1 t]

/-- The four blocks fill the array. -/
theorem cover0 (i : S2x4096x2048.Idx) : ∃ t : Fin cfg0.N, (cfg0.win 1).flush t = true ∧ i ∈ ((cfg0.win 1).blk t).view.set := by
  idx_vars i
  have hN : cfg0.N = 4 := N_0
  have hp : i0.val * 2 + i1.val / 2048 < cfg0.N := by omega
  refine ⟨⟨i0.val * 2 + i1.val / 2048, hp⟩, flush0_1 _, ?_⟩
  show _ ∈ ((View.whole main_v0).slice (win0_1.rect _)).set
  rw [View.set_slice_whole, win0_1.mem_rect_iff]
  intro a
  rw [show win0_1.index ⟨i0.val * 2 + i1.val / 2048, hp⟩ = ![(i0.val * 2 + i1.val / 2048) / 2, (i0.val * 2 + i1.val / 2048) % 2, 0] from idx0_1 ⟨i0.val * 2 + i1.val / 2048, hp⟩]
  match a with
  | ⟨0, _⟩ => show ((i0.val * 2 + i1.val / 2048) / 2) * 1 ≤ i0.val ∧ i0.val < ((i0.val * 2 + i1.val / 2048) / 2) * 1 + 1; omega
  | ⟨1, _⟩ => show ((i0.val * 2 + i1.val / 2048) % 2) * 2048 ≤ i1.val ∧ i1.val < ((i0.val * 2 + i1.val / 2048) % 2) * 2048 + 2048; omega
  | ⟨2, _⟩ => show 0 * 2048 ≤ i2.val ∧ i2.val < 0 * 2048 + 2048; omega

/-- The first region leaves the weights as they were given. -/
theorem final0 : (dat0 (V0 m ρ) c).arrAt 1 cfg0.N = wout m c :=
  (dat0 (V0 m ρ) c).arrAt_eq_of_cover 1 (wout m c) (fun t _ => flushed0 m ρ c t) cover0

/-! ## The arrays the second region finds -/

section Host
variable (W : Valuation τ sig (Elt Ideal))

/-- The mLSTM group's features, as 16384 rows. -/
theorem host_v14 (r : Fin 16384) (k : Fin 2048) : StableHlo.after hostOps1 W main_v14 (ix2 r k)
    = (W main_arg0 : Vec Ideal S2x8192x2048 .bf16) (ix3 ⟨r.val / 8192, by omega⟩ ⟨r.val % 8192, by omega⟩ k) := by
  after_results
  pointwise

/-- The Mamba-2 group's features put back into row-major order, as 16384 rows. -/
theorem host_v13 (r : Fin 16384) (k : Fin 2048) : StableHlo.after hostOps1 W main_v13 (ix2 r k)
    = (W main_arg1 : Vec Ideal S2x8192x2048 .bf16) (ix3 ⟨r.val / 8192, by omega⟩ (Out.back ⟨r.val % 8192, by omega⟩) k) := by
  after_results
  pointwise [Out.back]
  have h2 : r.val % 8192 % 64 = r.val % 64 := by omega
  have h3 : r.val % 8192 / 64 = r.val / 64 % 128 := by omega
  refine congrArg (W main_arg1 : Vec Ideal S2x8192x2048 .bf16) (congr (congr (congrArg ix3 (Fin.ext ?_)) (Fin.ext ?_)) rfl)
  · show (r.val / 8192 * 8192 + r.val % 64 * 128 + r.val / 64 % 128) / 8192 = r.val / 8192; omega
  · show (r.val / 8192 * 8192 + r.val % 64 * 128 + r.val / 64 % 128) % 8192 = r.val % 8192 % 64 * 128 + r.val % 8192 / 64
    rw [h2, h3]; omega

/-- The residual stream, as 16384 rows. -/
theorem host_v15 (r : Fin 16384) (k : Fin 2048) : StableHlo.after hostOps1 W main_v15 (ix2 r k)
    = (W main_arg2 : Vec Ideal S2x8192x2048 .f32) (ix3 ⟨r.val / 8192, by omega⟩ ⟨r.val % 8192, by omega⟩ k) := by
  after_results
  pointwise

/-- The gates. -/
theorem host_v9 (e : Fin 8) (k : Fin 2048) : StableHlo.after hostOps1 W main_v9 (ix3 e 0 k)
    = (W main_arg3 : Vec Ideal S2x8x6144 .f32) (ix3 1 e ⟨4096 + k.val, by omega⟩) := by
  after_results
  pointwise

/-- The norm's gain. -/
theorem host_v20 (k : Fin 2048) : StableHlo.after hostOps1 W main_v20 (ix2 0 k) = (W main_arg5 : Vec Ideal S2x2048 .f32) (ix2 1 k) := by
  after_results
  pointwise

/-- The norm's bias. -/
theorem host_v21 (k : Fin 2048) : StableHlo.after hostOps1 W main_v21 (ix2 0 k) = (W main_arg6 : Vec Ideal S2x2048 .f32) (ix2 1 k) := by
  after_results
  pointwise

end Host

/-- The array of features the second region finds, -/
theorem V2_v14 (r : Fin 16384) (k : Fin 2048) :
    V2 m ρ c main_v14 (ix2 r k) = ya m c (ix3 ⟨r.val / 8192, by omega⟩ ⟨r.val % 8192, by omega⟩ k) :=
  (host_v14 _ r k).trans (congrFun (W1_args m ρ c main_arg0 (by decide)) _)
/-- the other group's, -/
theorem V2_v13 (r : Fin 16384) (k : Fin 2048) :
    V2 m ρ c main_v13 (ix2 r k) = yb m c (ix3 ⟨r.val / 8192, by omega⟩ (Out.back ⟨r.val % 8192, by omega⟩) k) :=
  (host_v13 _ r k).trans (congrFun (W1_args m ρ c main_arg1 (by decide)) _)
/-- the residual stream, -/
theorem V2_v15 (r : Fin 16384) (k : Fin 2048) :
    V2 m ρ c main_v15 (ix2 r k) = xs m c (ix3 ⟨r.val / 8192, by omega⟩ ⟨r.val % 8192, by omega⟩ k) :=
  (host_v15 _ r k).trans (congrFun (W1_args m ρ c main_arg2 (by decide)) _)
/-- the gates, -/
theorem V2_v9 (e : Fin 8) (k : Fin 2048) : V2 m ρ c main_v9 (ix3 e 0 k) = mods m c (ix3 1 e ⟨4096 + k.val, by omega⟩) :=
  (host_v9 _ e k).trans (congrFun (W1_args m ρ c main_arg3 (by decide)) _)
/-- the gain, -/
theorem V2_v20 (k : Fin 2048) : V2 m ρ c main_v20 (ix2 0 k) = gain m c (ix2 1 k) :=
  (host_v20 _ k).trans (congrFun (W1_args m ρ c main_arg5 (by decide)) _)
/-- the bias, -/
theorem V2_v21 (k : Fin 2048) : V2 m ρ c main_v21 (ix2 0 k) = bias m c (ix2 1 k) :=
  (host_v21 _ k).trans (congrFun (W1_args m ρ c main_arg6 (by decide)) _)
/-- and the weights, which the first region left. -/
theorem V2_v0 : V2 m ρ c main_v0 = wout m c :=
  (W2_of m ρ c main_v0 (by decide)).trans ((W1_arr m ρ c 1).trans (final0 m ρ c))

/-! ## The windows' blocks -/

/-- The three windows of rows and the one written stand at block `t`; -/
theorem idx1_0 : ∀ t : Fin 32, cc1_transform_0 (grid1.coords t) = ![t.val, 0] := by decide +kernel
/-- Where the window of the Mamba-2 group's features stands at each point. -/
theorem idx1_1 : ∀ t : Fin 32, cc1_transform_1 (grid1.coords t) = ![t.val, 0] := by decide +kernel
/-- Where the window of the residual stream stands at each point. -/
theorem idx1_2 : ∀ t : Fin 32, cc1_transform_2 (grid1.coords t) = ![t.val, 0] := by decide +kernel
/-- the gates' at the batch's row; -/
theorem idx1_3 : ∀ t : Fin 32, cc1_transform_3 (grid1.coords t) = ![t.val / 16, 0, 0] := by decide +kernel
/-- the weights' at the second layer's two halves; -/
theorem idx1_4 : ∀ t : Fin 32, cc1_transform_4 (grid1.coords t) = ![1, 0, 0] := by decide +kernel
/-- Where the window of the lower half of the weights stands at each point. -/
theorem idx1_5 : ∀ t : Fin 32, cc1_transform_5 (grid1.coords t) = ![1, 1, 0] := by decide +kernel
/-- the gain's and the bias's at the whole array. -/
theorem idx1_6 : ∀ t : Fin 32, cc1_transform_6 (grid1.coords t) = ![0, 0] := by decide +kernel
/-- Where the window of the bias stands at each point. -/
theorem idx1_7 : ∀ t : Fin 32, cc1_transform_7 (grid1.coords t) = ![0, 0] := by decide +kernel
/-- Where the window of the result stands at each point. -/
theorem idx1_8 : ∀ t : Fin 32, cc1_transform_8 (grid1.coords t) = ![t.val, 0] := by decide +kernel

section Blocks
variable (V : (c : Dev nD) → (b : Ref sig .tc) → Buf (Elt Ideal) ((c : Thread nD τ).loc b))

/-- The first features' window holds the 512 rows from `512 · t`, -/
theorem blk1_0 (t : Fin cfg1.N) (r : Fin 512) (k : Fin 2048) (R : Fin 16384) (hR : R.val = t.val * 512 + r.val) :
    iblk1 V c 0 t (ix2 r k) = V c main_v14 (ix2 R k) := by
  unfold iblk1
  rw [View.read_apply]
  refine congrArg (V c main_v14) (funext fun a => Fin.ext ?_)
  refine (win1_0.rect_emb_val t (ix2 r k) a).trans ?_
  fin_cases a <;> simp [show win1_0.index t = ![t.val, 0] from idx1_0 t, hR]
/-- so does the second's, -/
theorem blk1_1 (t : Fin cfg1.N) (r : Fin 512) (k : Fin 2048) (R : Fin 16384) (hR : R.val = t.val * 512 + r.val) :
    iblk1 V c 1 t (ix2 r k) = V c main_v13 (ix2 R k) := by
  unfold iblk1
  rw [View.read_apply]
  refine congrArg (V c main_v13) (funext fun a => Fin.ext ?_)
  refine (win1_1.rect_emb_val t (ix2 r k) a).trans ?_
  fin_cases a <;> simp [show win1_1.index t = ![t.val, 0] from idx1_1 t, hR]
/-- and the residual stream's. -/
theorem blk1_2 (t : Fin cfg1.N) (r : Fin 512) (k : Fin 2048) (R : Fin 16384) (hR : R.val = t.val * 512 + r.val) :
    iblk1 V c 2 t (ix2 r k) = V c main_v15 (ix2 R k) := by
  unfold iblk1
  rw [View.read_apply]
  refine congrArg (V c main_v15) (funext fun a => Fin.ext ?_)
  refine (win1_2.rect_emb_val t (ix2 r k) a).trans ?_
  fin_cases a <;> simp [show win1_2.index t = ![t.val, 0] from idx1_2 t, hR]
/-- The gates' window holds the row of the batch. -/
theorem blk1_3 (t : Fin cfg1.N) (k : Fin 2048) (e : Fin 8) (he : e.val = t.val / 16) :
    iblk1 V c 3 t (ix3 0 0 k) = V c main_v9 (ix3 e 0 k) := by
  unfold iblk1
  rw [View.read_apply]
  refine congrArg (V c main_v9) (funext fun a => Fin.ext ?_)
  refine (win1_3.rect_emb_val t (ix3 0 0 k) a).trans ?_
  fin_cases a <;> simp [show win1_3.index t = ![t.val / 16, 0, 0] from idx1_3 t, he]
/-- A block of the weights' first window, read off any contents of its array, -/
theorem read1_4 (g : main_v0.ty.Contents (Elt Ideal)) (t : Fin cfg1.N) (y : S1x2048x2048.Idx) :
    ((cfg1.win 4).blk t).view.read (Elt Ideal) g y = g ((win1_4.rect t).emb y) := by
  rfl
/-- and of the second. -/
theorem read1_5 (g : main_v0.ty.Contents (Elt Ideal)) (t : Fin cfg1.N) (y : S1x2048x2048.Idx) :
    ((cfg1.win 5).blk t).view.read (Elt Ideal) g y = g ((win1_5.rect t).emb y) := by
  rfl
/-- The weights' first window holds the upper half of the second layer's, -/
theorem blk1_4 (t : Fin cfg1.N) (k n : Fin 2048) : iblk1 V c 4 t (ix3 0 k n) = V c main_v0 (ix3 1 ⟨k.val, by omega⟩ n) := by
  unfold iblk1
  refine (read1_4 _ t _).trans ?_
  refine congrArg (V c main_v0) (funext fun a => Fin.ext ?_)
  refine (win1_4.rect_emb_val t (ix3 0 k n) a).trans ?_
  have e : win1_4.index t = ![1, 0, 0] := idx1_4 t
  match a with
  | ⟨0, _⟩ => show win1_4.index t 0 * 1 + 0 = 1; rw [e]; rfl
  | ⟨1, _⟩ => show win1_4.index t 1 * 2048 + k.val = k.val; rw [e]; simp
  | ⟨2, _⟩ => show win1_4.index t 2 * 2048 + n.val = n.val; rw [e]; simp
/-- and the second the lower half. -/
theorem blk1_5 (t : Fin cfg1.N) (k n : Fin 2048) : iblk1 V c 5 t (ix3 0 k n) = V c main_v0 (ix3 1 ⟨2048 + k.val, by omega⟩ n) := by
  unfold iblk1
  refine (read1_5 _ t _).trans ?_
  refine congrArg (V c main_v0) (funext fun a => Fin.ext ?_)
  refine (win1_5.rect_emb_val t (ix3 0 k n) a).trans ?_
  have e : win1_5.index t = ![1, 1, 0] := idx1_5 t
  match a with
  | ⟨0, _⟩ => show win1_5.index t 0 * 1 + 0 = 1; rw [e]; rfl
  | ⟨1, _⟩ => show win1_5.index t 1 * 2048 + k.val = 2048 + k.val; rw [e]; simp
  | ⟨2, _⟩ => show win1_5.index t 2 * 2048 + n.val = n.val; rw [e]; simp
/-- The gain's window holds the whole array, -/
theorem blk1_6 (t : Fin cfg1.N) (k : Fin 2048) : iblk1 V c 6 t (ix2 0 k) = V c main_v20 (ix2 0 k) := by
  unfold iblk1
  rw [View.read_apply]
  refine congrArg (V c main_v20) (funext fun a => Fin.ext ?_)
  refine (win1_6.rect_emb_val t (ix2 0 k) a).trans ?_
  fin_cases a <;> simp [show win1_6.index t = ![0, 0] from idx1_6 t]
/-- and so does the bias's. -/
theorem blk1_7 (t : Fin cfg1.N) (k : Fin 2048) : iblk1 V c 7 t (ix2 0 k) = V c main_v21 (ix2 0 k) := by
  unfold iblk1
  rw [View.read_apply]
  refine congrArg (V c main_v21) (funext fun a => Fin.ext ?_)
  refine (win1_7.rect_emb_val t (ix2 0 k) a).trans ?_
  fin_cases a <;> simp [show win1_7.index t = ![0, 0] from idx1_7 t]

end Blocks

/-! ## The body's payload -/

/-- The normalised row of the residual stream. -/
theorem pay2 (a : Vec Ideal S512x2048 .bf16) (u : Vec Ideal S1x2048x2048 .bf16) (b : Vec Ideal S512x2048 .bf16)
    (l : Vec Ideal S1x2048x2048 .bf16) (x : Vec Ideal S512x2048 .f32) (g : Vec Ideal S1x1x2048 .f32) (r : Fin 512) (n : Fin 2048) :
    k1_pay2 (F := Ideal) a u b l x g (ix2 r n) = normRow (fun n => Ideal.ofBits .f32 0x3FB504F3#32 * x (ix2 r n)
      + g (ix3 0 0 n) * ((∑ k, a (ix2 r k) * u (ix3 0 k n)) + ∑ k, b (ix2 r k) * l (ix3 0 k n))) n := by
  pointwise [k1_pay2, normRow, mean]

/-- The gain and the bias. -/
theorem pay1 (y : FVec Ideal S512x2048 .f32) (g b : Vec Ideal S1x2048 .f32) (r : Fin 512) (n : Fin 2048) :
    k1_pay1 (F := Ideal) y g b (ix2 r n) = y (ix2 r n) * g (ix2 0 n) + b (ix2 0 n) := by
  pointwise [k1_pay1]

/-- What the body leaves, from the blocks it reads. -/
theorem out_eq (x0 x1 : Vec Ideal S512x2048 .bf16) (x2 : Vec Ideal S512x2048 .f32) (x3 : Vec Ideal S1x1x2048 .f32)
    (x4 x5 : Vec Ideal S1x2048x2048 .bf16) (x6 x7 : Vec Ideal S1x2048 .f32) :
    out1_8 (F := Ideal) x0 x1 x2 x3 x4 x5 x6 x7 = k1_pay1 (k1_pay2 x0 x4 x1 x5 x2 x3) x6 x7 := by
  unfold out1_8
  refine (View.canon_unit_zero hz2 _ _).trans ?_
  rw [show View.ld x0 r1_0 = x0 from View.ld_unit_zero hz2 _ _, show View.ld x1 r1_0 = x1 from View.ld_unit_zero hz2 _ _,
    show View.ld x2 r1_0 = x2 from View.ld_unit_zero hz2 _ _, show View.ld x3 r1_2 = x3 from View.ld_unit_zero hz3 _ _,
    show View.ld x4 r1_1 = x4 from View.ld_unit_zero hz3 _ _, show View.ld x5 r1_1 = x5 from View.ld_unit_zero hz3 _ _,
    show View.ld x6 r1_3 = x6 from View.ld_unit_zero hz2 _ _, show View.ld x7 r1_3 = x7 from View.ld_unit_zero hz2 _ _]

/-! ## The result as a function of the arguments -/

/-- The layer's result, as 16384 rows. -/
def result : Vec Ideal S16384x2048 .f32 := fun i =>
  Out.final (ya m c) (yb m c) (xs m c) (mods m c) (wout m c) (gain m c) (bias m c)
    ⟨(i 0).val / 8192, by have : (i 0).val < 16384 := (i 0).isLt; omega⟩ ⟨(i 0).val % 8192, by omega⟩ (i 1)

/-- The residual stream at point `t`. -/
theorem res_apply (t : Fin cfg1.N) (r : Fin 512) (n : Fin 2048) (R : Fin 16384) (hR : R.val = t.val * 512 + r.val)
    (a b : Vec Ideal S512x2048 .bf16) (x : Vec Ideal S512x2048 .f32) (g : Vec Ideal S1x1x2048 .f32) (u l : Vec Ideal S1x2048x2048 .bf16)
    (ha : iblk1 (V2 m ρ) c 0 t = a) (hb : iblk1 (V2 m ρ) c 1 t = b) (hx : iblk1 (V2 m ρ) c 2 t = x) (hg : iblk1 (V2 m ρ) c 3 t = g)
    (hu : iblk1 (V2 m ρ) c 4 t = u) (hl : iblk1 (V2 m ρ) c 5 t = l) :
    Ideal.ofBits .f32 0x3FB504F3#32 * x (ix2 r n)
      + g (ix3 0 0 n) * ((∑ k, a (ix2 r k) * u (ix3 0 k n)) + ∑ k, b (ix2 r k) * l (ix3 0 k n))
    = Out.res (ya m c) (yb m c) (xs m c) (mods m c) (wout m c) ⟨R.val / 8192, by omega⟩ ⟨R.val % 8192, by omega⟩ n := by
  have ht : t.val < 32 := (show cfg1.N = 32 from N_1) ▸ t.isLt
  subst ha hb hx hg hu hl
  unfold Out.res Out.prod
  have e2 := (blk1_2 c (V2 m ρ) t r n R hR).trans (V2_v15 m ρ c R n)
  have e3 := (blk1_3 c (V2 m ρ) t n ⟨R.val / 8192, by omega⟩ (by simp only []; omega)).trans (V2_v9 m ρ c _ n)
  have e0 := fun k => (blk1_0 c (V2 m ρ) t r k R hR).trans (V2_v14 m ρ c R k)
  have e1 := fun k => (blk1_1 c (V2 m ρ) t r k R hR).trans (V2_v13 m ρ c R k)
  have e4 := fun k => (blk1_4 c (V2 m ρ) t k n).trans (congrFun (V2_v0 m ρ c) _)
  have e5 := fun k => (blk1_5 c (V2 m ρ) t k n).trans (congrFun (V2_v0 m ρ c) _)
  exact congr (congrArg (HAdd.hAdd (α := EReal) (β := EReal) (γ := EReal)) (congrArg (_ * ·) e2))
    (congr (congrArg (HMul.hMul (α := EReal) (β := EReal) (γ := EReal)) e3)
      (congr (congrArg (HAdd.hAdd (α := EReal) (β := EReal) (γ := EReal))
        (Finset.sum_congr rfl fun k _ => congr (congrArg (HMul.hMul (α := EReal) (β := EReal) (γ := EReal)) (e0 k)) (e4 k)))
        (Finset.sum_congr rfl fun k _ => congr (congrArg (HMul.hMul (α := EReal) (β := EReal) (γ := EReal)) (e1 k)) (e5 k))))

/-- What point `t` writes. -/
theorem out_apply (t : Fin cfg1.N) (r : Fin 512) (n : Fin 2048) (R : Fin 16384) (hR : R.val = t.val * 512 + r.val) :
    (dat1 (V2 m ρ) c).after 8 t (ix2 r n) = result m c (ix2 R n) := by
  rw [after1_8, out_eq]
  refine (pay1 _ _ _ r n).trans ?_
  refine congr (congrArg (HAdd.hAdd (α := EReal) (β := EReal) (γ := EReal))
    (congr (congrArg (HMul.hMul (α := EReal) (β := EReal) (γ := EReal)) ((pay2 _ _ _ _ _ _ r n).trans ?_))
      ((blk1_6 c (V2 m ρ) t n).trans (V2_v20 m ρ c n)))) ((blk1_7 c (V2 m ρ) t n).trans (V2_v21 m ρ c n))
  exact congrArg (normRow · n) (funext fun n => res_apply m ρ c t r n R hR _ _ _ _ _ _ rfl rfl rfl rfl rfl rfl)

/-! ## The result written back -/

/-- Each point writes its block of the result. -/
theorem flushed8 (t : Fin cfg1.N) : (dat1 (V2 m ρ) c).flushed 8 t = ((cfg1.win 8).blk t).view.read (Elt Ideal) (result m c) := by
  funext y
  rw [View.read_apply]
  show (dat1 (V2 m ρ) c).after 8 t y = result m c ((win1_8.rect t).emb y)
  idx_vars y
  have ht : t.val < 32 := (show cfg1.N = 32 from N_1) ▸ t.isLt
  have e : (win1_8.rect t).emb (ix2 y0 y1) = ix2 ⟨t.val * 512 + y0.val, by omega⟩ y1 := funext fun a => Fin.ext <| by
    refine (win1_8.rect_emb_val t (ix2 y0 y1) a).trans ?_
    fin_cases a <;> simp [show win1_8.index t = ![t.val, 0] from idx1_8 t]
  rw [e]
  exact out_apply m ρ c t y0 y1 _ rfl

/-- The blocks fill the array. -/
theorem cover8 (i : S16384x2048.Idx) : ∃ t : Fin cfg1.N, (cfg1.win 8).flush t = true ∧ i ∈ ((cfg1.win 8).blk t).view.set := by
  idx_vars i
  have hN : cfg1.N = 32 := N_1
  have hp : i0.val / 512 < cfg1.N := by omega
  refine ⟨⟨i0.val / 512, hp⟩, flush1_8 _, ?_⟩
  show _ ∈ ((View.whole main_v22).slice (win1_8.rect _)).set
  rw [View.set_slice_whole, win1_8.mem_rect_iff]
  intro a
  rw [show win1_8.index ⟨i0.val / 512, hp⟩ = ![i0.val / 512, 0] from idx1_8 ⟨i0.val / 512, hp⟩]
  match a with
  | ⟨0, _⟩ => show (i0.val / 512) * 512 ≤ i0.val ∧ i0.val < (i0.val / 512) * 512 + 512; omega
  | ⟨1, _⟩ => show 0 * 2048 ≤ i1.val ∧ i1.val < 0 * 2048 + 2048; omega

/-- The final array is the result. -/
theorem final8 : (dat1 (V2 m ρ) c).arrAt 8 cfg1.N = result m c :=
  (dat1 (V2 m ρ) c).arrAt_eq_of_cover 8 (result m c) (fun t _ => flushed8 m ρ c t) cover8

/-- The result after the run. -/
theorem results : θ_run defs (onTc (τ := τ) (main (F := Ideal))) ⟨m, fun _ => 0, ρ⟩ fun r => ∀ c : Dev nD,
    r.2.mem ((c : Thread nD τ).loc main_v22) = result m c :=
  (θ_run defs _ _).mono (fun r h c => (h c _ (mem_uc main_v22 (by decide))).trans ((W3_arr m ρ c 8).trans (final8 m ρ c)))
    (run_main m ρ)

end Cert.Kernel4Ideal.Run

end
-- ==== Proof.OutClaim.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.OutValue

/-! # The output projection: the claim
The kernel's result and the plain program's are one function of the arguments. -/

@[expose] public section

set_option maxRecDepth 16384

noncomputable section

namespace Cert.Out

open Idealize.ShloMosaic Idealize.ShloMosaic.TcCoe Idealize.SL.Sem Cert.Reference4Ideal.Read Cert.Kernel4Ideal.Run

/-- The plain program's result at the arguments of the kernel. -/
theorem ref_eq (m : (ℓ : Loc Kernel4Ideal.nD Kernel4Ideal.τ Kernel4Ideal.sig) → Buf (Elt Ideal) ℓ) (c : Dev Kernel4Ideal.nD) :
    val_main_v48 (F := Ideal) (ya m c) (yb m c) (xs m c) (mods m c) (wout m c) (gain m c) (bias m c) = result m c := by
  funext i; idx_vars i; exact ref_final _ _ _ _ _ _ _ i0 i1

/-- From equal arguments the kernel and the plain program end with equal results, and their arguments unchanged. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨result m, ?_, ?_⟩
  · refine (θ_run _ _ _).mono (fun r h c => ?_) (θ_run_and (results m g) (Kernel4Ideal.Gen.unchanged m g))
    exact ⟨h.1 c, h.2 c⟩
  · refine (θ_run _ _ _).mono (fun r h c => ?_) (Cert.Reference4Ideal.Value.run (F := Ideal) m' g')
    obtain ⟨h0, ha⟩ := h c
    obtain ⟨e0, e1, e2, e3, e4, e5, e6⟩ := hargs c
    refine ⟨h0.trans ?_, ha⟩
    rw [val_main_v48_eq, e0, e1, e2, e3, e4, e5, e6]; exact ref_eq m c

/-- The kernel's frame. -/
theorem frame_kernel : Cert.quiescent_Kernel4Ideal (hKernel4Ideal := Cert.Kernel4Ideal.Gen.facts) :=
  fun m g _ => Cert.Kernel4Ideal.Gen.frame m g

/-- The kernel's frame at float words. -/
theorem frame_machine : Cert.quiescent_Kernel4 (hKernel4 := Cert.Kernel4.Gen.facts) :=
  fun m g _ => Cert.Kernel4.Gen.frame m g

/-- The plain program's frame: it has no counter. -/
theorem frame_reference : Cert.quiescent_Reference4Ideal (hReference4Ideal := Cert.Reference4Ideal.Gen.facts) := fun m g _ =>
  (θ_run _ _ _).mono (fun r h => ⟨fun c => (h c).2, sem_eq_zero_of_no_sems (by decide) r.2⟩)
    (Cert.Reference4Ideal.Value.run (F := Ideal) m g)

end Cert.Out

end
-- ==== Proof.AdaRef.lean ====
module

public import proofs.«01_k».proof.Proof.Gen.Reference5Ideal.Read
public import Idealize.ShloMosaic.Lib.Pointwise

/-! # The modulation table: what the plain program computes
Three rows of 2048 numbers (the two conditionings and the context conditioning) go through `v / (1 + e^(-v))` and are
multiplied with each layer's weights; the layer's bias is added. Five rows of zeros fill the table to eight rows. -/

@[expose] public section

set_option maxRecDepth 16384

noncomputable section

namespace Cert.Ada

open Idealize.ShloMosaic Cert.Reference5Ideal Cert.Reference5Ideal.Read

variable (x0 : Vec Ideal S2x2048 .f32) (x1 : Vec Ideal S2048 .f32) (x2 : Vec Ideal S2x2048x6144 .f32)
  (x3 : Vec Ideal S2x6144 .f32)

/-- Row `r` of the three conditionings. -/
def cond (r : Fin 8) (k : Fin 2048) : EReal :=
  if h : r.val < 2 then x0 (ix2 ⟨r.val, h⟩ k) else x1 (ix1 k)

/-- Entry `(l, r, n)` of the table. -/
def entry (l : Fin 2) (r : Fin 8) (n : Fin 6144) : EReal :=
  if r.val < 3 then
    (∑ k : Fin 2048, x2 (ix3 l k n) * (cond x0 x1 r k * Ideal.logistic (cond x0 x1 r k))) + x3 (ix2 l n)
  else 0

/-- The plain program's table. -/
theorem ref_entry (l : Fin 2) (r : Fin 8) (n : Fin 6144) :
    val_main_v40 (F := Ideal) x0 x1 x2 x3 (ix3 l r n) = entry x0 x1 x2 x3 l r n := by
  unfold entry cond
  pointwise [val_main_v40,
    val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_call0_v5, val_main_call0_v4, val_main_call0_cst_0, val_main_call0_v3,
    val_main_call0_v2, val_main_call0_cst, val_main_call0_v1, val_main_call0_v0, val_main_call1_v5, val_main_call1_v4,
    val_main_call1_cst_0, val_main_call1_v3, val_main_call1_v2, val_main_call1_cst, val_main_call1_v1,
    val_main_call1_v0, val_main_call2_v5, val_main_call2_v4, val_main_call2_cst_0, val_main_call2_v3,
    val_main_call2_v2, val_main_call2_cst, val_main_call2_v1, val_main_call2_v0, val_main_call3_v5, val_main_call3_v4,
    val_main_call3_cst_0, val_main_call3_v3, val_main_call3_v2, val_main_call3_cst, val_main_call3_v1,
    val_main_call3_v0]
  have e : ∀ (v : Fin 2048 → EReal) (l : Fin 2),
      (∑ k, v k * Ideal.div 1 (1 + Ideal.exp (-v k)) * x2 (ix3 l k n)) + x3 (ix2 l n)
        = (∑ k, x2 (ix3 l k n) * (v k * Ideal.logistic (v k))) + x3 (ix2 l n) := fun v l =>
    congrArg (· + _) (Finset.sum_congr rfl fun k _ => mul_comm (G := EReal) _ _)
  have hl : l = 0 ∨ l = 1 := by omega
  by_cases h2 : r.val < 2
  · simp only [h2, show r.val < 3 by omega, dif_pos, if_pos]
    rcases hl with rfl | rfl <;> exact e (fun k => x0 (ix2 ⟨r.val, h2⟩ k)) _
  · by_cases h3 : r.val < 3
    · simp only [h2, h3, show r.val - 2 < 1 by omega, dif_pos, dif_neg, if_pos, not_false_iff]
      rcases hl with rfl | rfl <;> exact e (fun k => x1 (ix1 k)) _
    · simp only [h2, h3, show ¬ r.val - 2 < 1 by omega, dif_neg, if_neg, not_false_iff]
      rcases hl with rfl | rfl <;> rfl

end Cert.Ada

end
-- ==== Proof.AdaValue.lean ====
module

public import proofs.«01_k».proof.Proof.Gen.Kernel5.Frame
public import proofs.«01_k».proof.Proof.Gen.Kernel5Ideal.Value
public import proofs.«01_k».proof.Proof.AdaRef
public import Idealize.ShloMosaic.Lib.Pointwise
public import Idealize.ShloMosaic.Lib.Pipeline.ValueKit
public import Idealize.ShloMosaic.Lib.Pipeline.CanonAppend

/-! # The modulation table: what the kernel computes
The arrays the region finds, its windows' blocks at a point, the pieces the body writes, and from these the table. -/

@[expose] public section

set_option maxRecDepth 16384

noncomputable section

namespace Cert.Kernel5Ideal.Run

open Idealize.ShloMosaic Idealize.ShloMosaic.TcCoe Idealize.SL.Sem Cert.Kernel5Ideal.Gen
open Idealize.ShloMosaic.Pipeline (Dat Cfg Window)

/-! ## The body's pieces -/

/-- A sum of 2048 terms, taken eight at a time. -/
theorem sum_tiles (f : Fin 2048 → EReal) : ∑ j, f j = ∑ a : Fin 256, ∑ b : Fin 8, f ⟨a.val * 8 + b.val, by omega⟩ := by
  rw [← Fintype.sum_prod_type']
  refine (Equiv.sum_comp (finProdFinEquiv (m := 256) (n := 8)) f).symm.trans (Finset.sum_congr rfl fun p _ => congrArg f (Fin.ext ?_))
  show p.2.val + 8 * p.1.val = p.1.val * 8 + p.2.val
  omega

/-- One tile of 128 columns of one row: the row's 2048 products, added up, and the bias. -/
theorem tile (s w : Vec Ideal S1x2048x128 .f32) (b : Vec Ideal S1x1x128 .f32) (k : Fin 128) :
    k0_pay5 (F := Ideal) s w b (ix3 0 0 k)
      = (∑ j : Fin 2048, w (ix3 0 j k) * (s (ix3 0 j k) * Ideal.logistic (s (ix3 0 j k)))) + b (ix3 0 0 k) := by
  pointwise [k0_pay5, k0_pay4]
  refine congrArg (· + b (ix3 0 0 k)) ?_
  rw [Finset.sum_comm]
  exact (sum_tiles fun j => w (ix3 0 j k) * (s (ix3 0 j k) * Ideal.logistic (s (ix3 0 j k)))).symm

/-- A row's tile lies inside the block. -/
theorem pc_inb (p : Fin 3 × Fin 8) : ∀ a, (![0, p.1.val, 128 * p.2.val] : Fin 3 → ℕ) a + S1x1x128.size a ≤ S1x8x1024.size a :=
  fun a => by have h1 := p.1.isLt; have h2 := p.2.isLt; fin_cases a <;> simp [S1x1x128, S1x8x1024] <;> omega

/-- The piece of row `r` and tile `q`: its place, and what is written there. -/
def pc (x0 : Vec Ideal S3x2048x128 .f32) (x1 : Vec Ideal S1x2048x1024 .f32) (x2 : Vec Ideal S1x1x1024 .f32) (p : Fin 3 × Fin 8) :
    View.Piece (Elt Ideal) S1x8x1024 .f32 :=
  ⟨Rect.unit (s := S1x8x1024) ![0, p.1.val, 128 * p.2.val] S1x1x128.size (pc_inb p),
    k0_pay5 (F := Ideal)
      (View.ld x0 (Rect.unit (s := S3x2048x128) ![p.1.val, 0, 0] S1x2048x128.size
        (fun a => by have h1 := p.1.isLt; fin_cases a <;> simp [S1x2048x128, S3x2048x128] <;> omega)))
      (View.ld x1 (Rect.unit (s := S1x2048x1024) ![0, 0, 128 * p.2.val] S1x2048x128.size
        (fun a => by have h2 := p.2.isLt; fin_cases a <;> simp [S1x2048x128, S1x2048x1024] <;> omega)))
      (View.ld x2 (Rect.unit (s := S1x1x1024) ![0, 0, 128 * p.2.val] S1x1x128.size
        (fun a => by have h2 := p.2.isLt; fin_cases a <;> simp [S1x1x128, S1x1x1024] <;> omega)))⟩

/-- The pieces in the order of the stores, the last first. -/
def order : List (Fin 3 × Fin 8) :=
  [(2, 7), (2, 6), (2, 5), (2, 4), (2, 3), (2, 2), (2, 1), (2, 0), (1, 7), (1, 6), (1, 5), (1, 4), (1, 3), (1, 2), (1, 1), (1, 0),
    (0, 7), (0, 6), (0, 5), (0, 4), (0, 3), (0, 2), (0, 1), (0, 0)]

/-- Every row and tile is in it. -/
theorem mem_order : ∀ p : Fin 3 × Fin 8, p ∈ order := by decide

/-- The zeros written first. -/
def zeros : View.Piece (Elt Ideal) S1x8x1024 .f32 :=
  ⟨Rect.unit (s := S1x8x1024) ![0, 0, 0] S1x8x1024.size (fun a => by fin_cases a <;> simp), k0_pay3 (F := Ideal)⟩

section Pieces
variable (c : Dev nD) (i : grid0.Coords) (arg2 : Memref sig .tc .vmem S3x2048x128 .f32) (harg2 : arg2.IsWhole)
  (arg3 : Memref sig .tc .vmem S1x2048x1024 .f32) (harg3 : arg3.IsWhole) (arg4 : Memref sig .tc .vmem S1x1x1024 .f32)
  (harg4 : arg4.IsWhole) (arg5 : Memref sig .tc .vmem S1x8x1024 .f32) (harg5 : arg5.IsWhole)
  (x0 : Vec Ideal S3x2048x128 .f32) (x1 : Vec Ideal S1x2048x1024 .f32) (x2 : Vec Ideal S1x1x1024 .f32)

/-- The run's stores are these pieces, at what the whole blocks hold. -/
theorem pieces_read : (kernelRun0_A (F := Ideal) c i arg2 harg2 arg3 harg3 arg4 harg4 arg5 harg5 x0 x1 x2).1
    = order.map (pc (arg2.view.read (Elt Ideal) (harg2.unread x0)) (arg3.view.read (Elt Ideal) (harg3.unread x1))
        (arg4.view.read (Elt Ideal) (harg4.unread x2))) ++ [zeros] := by
  unfold order
  simp only [List.map_cons, List.map_nil, List.cons_append, List.nil_append]
  unfold kernelRun0_A
  dsimp only
  repeat' (first | rfl | (refine congr (congrArg List.cons ?_) ?_))

/-- The run's stores are these pieces. -/
theorem pieces : (kernelRun0_A (F := Ideal) c i arg2 harg2 arg3 harg3 arg4 harg4 arg5 harg5 x0 x1 x2).1
    = order.map (pc x0 x1 x2) ++ [zeros] := by
  rw [pieces_read, harg2.read_unread, harg3.read_unread, harg4.read_unread]

/-- Rows from the third on are in none of the pieces, whatever the list, and keep the zeros. -/
theorem canon_zeros (y : S1x8x1024.Idx) (h : 3 ≤ (y 1).val) :
    ∀ l : List (Fin 3 × Fin 8), View.canon (l.map (pc x0 x1 x2) ++ [zeros]) y = 0
  | [] => by
    refine (congrFun (View.canon_unit_zero (by decide) _ _) y).trans ?_
    idx_vars y
    pointwise [k0_pay3]
  | p :: l => by
    refine (View.canon_cons_of_not_mem _ _ fun hm => ?_).trans (canon_zeros y h l)
    have h1 : _ ∧ (y 1).val < p.1.val + 1 := (Rect.mem_set_unit (inb := pc_inb p)).mp hm 1
    omega

/-- What the pieces hold, as one function of the block's index. -/
def val (y : S1x8x1024.Idx) : EReal :=
  if h : (y 1).val < 3 then
    (∑ j : Fin 2048, x1 (ix3 0 j (y 2)) * (x0 (ix3 ⟨(y 1).val, h⟩ j ⟨(y 2).val % 128, by omega⟩)
      * Ideal.logistic (x0 (ix3 ⟨(y 1).val, h⟩ j ⟨(y 2).val % 128, by omega⟩)))) + x2 (ix3 0 0 (y 2))
  else 0

/-- Each piece holds its part of that function. -/
theorem pc_val (p : Fin 3 × Fin 8) (z : S1x1x128.Idx) :
    (pc x0 x1 x2 p).2 z = val x0 x1 x2 ((pc x0 x1 x2 p).1.emb z) := by
  obtain ⟨r, q⟩ := p
  idx_vars z
  obtain rfl : z0 = 0 := Subsingleton.elim _ _
  obtain rfl : z1 = 0 := Subsingleton.elim _ _
  have e : (pc x0 x1 x2 (r, q)).1.emb (ix3 0 0 z2) = ix3 0 ⟨r.val, by omega⟩ ⟨128 * q.val + z2.val, by omega⟩ :=
    funext fun a => Fin.ext <| by
      refine (ValueKit.rect_emb_unit_val _ _ (pc_inb (r, q)) _ a).trans ?_
      fin_cases a <;> simp
  rw [e]
  refine (tile _ _ _ z2).trans ?_
  have hr : (128 * q.val + z2.val) % 128 = z2.val := by omega
  unfold val
  refine Eq.trans ?_ (dif_pos (show r.val < 3 from r.isLt)).symm
  rw [View.ld_unit, View.ld_unit, View.ld_unit]
  pointwise
  simp only [hr]

/-- What the body leaves. -/
theorem out_eq (y : S1x8x1024.Idx) :
    out0_A_3 (F := Ideal) c i arg2 harg2 arg3 harg3 arg4 harg4 arg5 harg5 x0 x1 x2 y = val x0 x1 x2 y := by
  unfold out0_A_3
  rw [View.read_writes_junk_eq_canon, pieces]
  idx_vars y
  by_cases h : y1.val < 3
  · refine View.canon_append_of_pieces (val x0 x1 x2) [zeros] _ ?_ _ ⟨pc x0 x1 x2 (⟨y1.val, h⟩, ⟨y2.val / 128, by omega⟩),
      List.mem_map_of_mem (mem_order _), ?_⟩
    · intro p hp x
      obtain ⟨q, _, rfl⟩ := List.mem_map.mp hp
      exact pc_val x0 x1 x2 q x
    · refine (Rect.mem_set_unit (inb := pc_inb (⟨y1.val, h⟩, ⟨y2.val / 128, by omega⟩))).mpr fun a => ?_
      match a with
      | ⟨0, _⟩ => show 0 ≤ y0.val ∧ y0.val < 0 + 1; omega
      | ⟨1, _⟩ => show y1.val ≤ y1.val ∧ y1.val < y1.val + 1; omega
      | ⟨2, _⟩ => show 128 * (y2.val / 128) ≤ y2.val ∧ y2.val < 128 * (y2.val / 128) + 128; omega
  · refine (canon_zeros x0 x1 x2 _ (by show 3 ≤ y1.val; omega) order).trans ?_
    exact (show val x0 x1 x2 (ix3 y0 y1 y2) = 0 from dif_neg h).symm

end Pieces

/-! ## The arrays the region finds -/

section Host
variable (W : Valuation τ sig (Elt Ideal))

/-- The conditionings, each number repeated over 128 lanes. -/
theorem host_v3 (r : Fin 3) (k : Fin 2048) (n : Fin 128) : StableHlo.after hostOps0 W main_v3 (ix3 r k n)
    = Ada.cond (W main_arg0 : Vec Ideal S2x2048 .f32) (W main_arg1 : Vec Ideal S2048 .f32) ⟨r.val, by omega⟩ k := by
  after_results
  pointwise [Ada.cond]

/-- The bias. -/
theorem host_v4 (l : Fin 2) (n : Fin 6144) : StableHlo.after hostOps0 W main_v4 (ix3 l 0 n)
    = (W main_arg3 : Vec Ideal S2x6144 .f32) (ix2 l n) := by
  after_results
  pointwise

end Host

/-! ## The windows' blocks -/

/-- The conditionings' window holds the whole array; -/
theorem idx0 : ∀ t : Fin 12, cc0_transform_0 (grid0.coords t) = ![0, 0, 0] := by decide +kernel
/-- the others stand at layer `t / 6`, column block `t % 6`. -/
theorem idx1 : ∀ t : Fin 12, cc0_transform_1 (grid0.coords t) = ![t.val / 6, 0, t.val % 6] := by decide +kernel
/-- Where the bias's window stands at each point. -/
theorem idx2 : ∀ t : Fin 12, cc0_transform_2 (grid0.coords t) = ![t.val / 6, 0, t.val % 6] := by decide +kernel
/-- Where the window of the table stands at each point. -/
theorem idx3 : ∀ t : Fin 12, cc0_transform_3 (grid0.coords t) = ![t.val / 6, 0, t.val % 6] := by decide +kernel

variable (m : (ℓ : Loc nD τ sig) → Buf (Elt Ideal) ℓ) (ρ : Dev nD → PrngReg) (c : Dev nD)

/-- The conditionings at launch. -/
abbrev conds : Vec Ideal S2x2048 .f32 := m ((c : Thread nD τ).loc main_arg0)
/-- The context's conditioning at launch. -/
abbrev ctx : Vec Ideal S2048 .f32 := m ((c : Thread nD τ).loc main_arg1)
/-- The weights at launch. -/
abbrev wada : Vec Ideal S2x2048x6144 .f32 := m ((c : Thread nD τ).loc main_arg2)
/-- The bias at launch. -/
abbrev bada : Vec Ideal S2x6144 .f32 := m ((c : Thread nD τ).loc main_arg3)

/-- The conditionings' block. -/
theorem blk0 (t : Fin cfg0.N) (r : Fin 3) (k : Fin 2048) (n : Fin 128) :
    iblk m c 0 t (ix3 r k n) = Ada.cond (conds m c) (ctx m c) ⟨r.val, by omega⟩ k := by
  unfold iblk
  rw [View.read_apply]
  refine Eq.trans (congrArg (V m c main_v3) (a₂ := ix3 r k n) (funext fun a => Fin.ext ?_)) (host_v3 _ r k n)
  refine (win0_0.rect_emb_val t (ix3 r k n) a).trans ?_
  fin_cases a <;> simp [show win0_0.index t = ![0, 0, 0] from idx0 t]

/-- A block of the weights, read off any contents of their array. -/
theorem read1 (g : main_arg2.ty.Contents (Elt Ideal)) (t : Fin cfg0.N) (y : S1x2048x1024.Idx) :
    ((cfg0.win 1).blk t).view.read (Elt Ideal) g y = g ((win0_1.rect t).emb y) := by
  rfl

/-- The weights' block. -/
theorem blk1 (t : Fin cfg0.N) (k : Fin 2048) (n : Fin 1024) (l : Fin 2) (N : Fin 6144) (hl : l.val = t.val / 6)
    (hN : N.val = t.val % 6 * 1024 + n.val) : iblk m c 1 t (ix3 0 k n) = wada m c (ix3 l k N) := by
  unfold iblk
  refine (read1 _ t _).trans ?_
  refine (congrFun (V_main_arg2 m c) _).trans ?_
  refine congrArg (wada m c) (funext fun a => Fin.ext ?_)
  refine (win0_1.rect_emb_val t (ix3 0 k n) a).trans ?_
  have e : win0_1.index t = ![t.val / 6, 0, t.val % 6] := idx1 t
  match a with
  | ⟨0, _⟩ => show win0_1.index t 0 * 1 + 0 = l.val; rw [e, hl]; simp
  | ⟨1, _⟩ => show win0_1.index t 1 * 2048 + k.val = k.val; rw [e]; simp
  | ⟨2, _⟩ => show win0_1.index t 2 * 1024 + n.val = N.val; rw [e, hN]; simp

/-- The bias's block. -/
theorem blk2 (t : Fin cfg0.N) (n : Fin 1024) (l : Fin 2) (N : Fin 6144) (hl : l.val = t.val / 6)
    (hN : N.val = t.val % 6 * 1024 + n.val) : iblk m c 2 t (ix3 0 0 n) = bada m c (ix2 l N) := by
  unfold iblk
  rw [View.read_apply]
  refine Eq.trans (congrArg (V m c main_v4) (a₂ := ix3 l 0 N) (funext fun a => Fin.ext ?_)) (host_v4 _ l N)
  refine (win0_2.rect_emb_val t (ix3 0 0 n) a).trans ?_
  fin_cases a <;> simp [show win0_2.index t = ![t.val / 6, 0, t.val % 6] from idx2 t, hl, hN]

/-! ## The table as a function of the arguments -/

/-- The table. -/
def table : Vec Ideal S2x8x6144 .f32 := fun i => Ada.entry (conds m c) (ctx m c) (wada m c) (bada m c) (i 0) (i 1) (i 2)

/-- What point `t` leaves. -/
theorem val_eq (t : Fin cfg0.N) (x0 : Vec Ideal S3x2048x128 .f32) (x1 : Vec Ideal S1x2048x1024 .f32) (x2 : Vec Ideal S1x1x1024 .f32)
    (h0 : iblk m c 0 t = x0) (h1 : iblk m c 1 t = x1) (h2 : iblk m c 2 t = x2) (r : Fin 8) (n : Fin 1024)
    (l : Fin 2) (N : Fin 6144) (hl : l.val = t.val / 6) (hN : N.val = t.val % 6 * 1024 + n.val) :
    val x0 x1 x2 (ix3 0 r n) = table m c (ix3 l r N) := by
  subst h0 h1 h2
  show val _ _ _ _ = Ada.entry (conds m c) (ctx m c) (wada m c) (bada m c) l r N
  unfold val Ada.entry
  refine dite_congr rfl (fun h => ?_) fun _ => rfl
  have e0 := fun j => blk0 m c t ⟨r.val, h⟩ j ⟨n.val % 128, by omega⟩
  have e1 := fun j => blk1 m c t j n l N hl hN
  refine congr (congrArg (HAdd.hAdd (α := EReal) (β := EReal) (γ := EReal)) (Finset.sum_congr rfl fun j _ => ?_))
    (blk2 m c t n l N hl hN)
  exact congr (congrArg (HMul.hMul (α := EReal) (β := EReal) (γ := EReal)) (e1 j))
    (congr (congrArg (HMul.hMul (α := EReal) (β := EReal) (γ := EReal)) (e0 j)) (congrArg Ideal.logistic (e0 j)))

/-- Each point writes its block of the table. -/
theorem flushed (t : Fin cfg0.N) : (dats m 0 c).flushed 3 t = ((cfg0.win 3).blk t).view.read (Elt Ideal) (table m c) := by
  funext y
  rw [View.read_apply]
  show (dats m 0 c).after 3 t y = table m c ((win0_3.rect t).emb y)
  rw [after0_3]
  unfold outsAt0
  refine (out_eq c _ _ _ _ _ _ _ _ _ _ _ _ y).trans ?_
  idx_vars y
  obtain rfl : y0 = 0 := Subsingleton.elim _ _
  have ht : t.val < 12 := (show cfg0.N = 12 from N_0) ▸ t.isLt
  have e : (win0_3.rect t).emb (ix3 0 y1 y2) = ix3 ⟨t.val / 6, by omega⟩ y1 ⟨t.val % 6 * 1024 + y2.val, by omega⟩ :=
    funext fun a => Fin.ext <| by
      refine (win0_3.rect_emb_val t (ix3 0 y1 y2) a).trans ?_
      fin_cases a <;> simp [show win0_3.index t = ![t.val / 6, 0, t.val % 6] from idx3 t]
  rw [e]
  exact val_eq m c t _ _ _ rfl rfl rfl y1 y2 _ _ rfl rfl

/-- The twelve blocks fill the table. -/
theorem cover (i : S2x8x6144.Idx) : ∃ t : Fin cfg0.N, (cfg0.win 3).flush t = true ∧ i ∈ ((cfg0.win 3).blk t).view.set := by
  idx_vars i
  have hN : cfg0.N = 12 := N_0
  have hp : i0.val * 6 + i2.val / 1024 < cfg0.N := by omega
  refine ⟨⟨i0.val * 6 + i2.val / 1024, hp⟩, flush0_3 _, ?_⟩
  show _ ∈ ((View.whole main_v5).slice (win0_3.rect _)).set
  rw [View.set_slice_whole, win0_3.mem_rect_iff]
  intro a
  rw [show win0_3.index ⟨i0.val * 6 + i2.val / 1024, hp⟩
    = ![(i0.val * 6 + i2.val / 1024) / 6, 0, (i0.val * 6 + i2.val / 1024) % 6] from idx3 ⟨i0.val * 6 + i2.val / 1024, hp⟩]
  match a with
  | ⟨0, _⟩ => show (i0.val * 6 + i2.val / 1024) / 6 * 1 ≤ i0.val ∧ i0.val < (i0.val * 6 + i2.val / 1024) / 6 * 1 + 1; omega
  | ⟨1, _⟩ => show 0 * 8 ≤ i1.val ∧ i1.val < 0 * 8 + 8; omega
  | ⟨2, _⟩ =>
    show (i0.val * 6 + i2.val / 1024) % 6 * 1024 ≤ i2.val ∧ i2.val < (i0.val * 6 + i2.val / 1024) % 6 * 1024 + 1024; omega

/-- The final array is the table. -/
theorem final : (dats m 0 c).arrAt 3 cfg0.N = table m c :=
  (dats m 0 c).arrAt_eq_of_cover 3 (table m c) (fun t _ => flushed m c t) cover

end Cert.Kernel5Ideal.Run

end
-- ==== Proof.AdaClaim.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.AdaValue

/-! # The modulation table: the claim
The kernel's table and the plain program's are one function of the arguments. -/

@[expose] public section

set_option maxRecDepth 16384

noncomputable section

namespace Cert.Ada

open Idealize.ShloMosaic Idealize.ShloMosaic.TcCoe Idealize.SL.Sem Cert.Reference5Ideal.Read Cert.Kernel5Ideal.Run

/-- The plain program's table at the arguments of the kernel. -/
theorem ref_eq (m : (ℓ : Loc Kernel5Ideal.nD Kernel5Ideal.τ Kernel5Ideal.sig) → Buf (Elt Ideal) ℓ) (c : Dev Kernel5Ideal.nD) :
    val_main_v40 (F := Ideal) (conds m c) (ctx m c) (wada m c) (bada m c) = table m c := by
  funext i; idx_vars i; exact ref_entry _ _ _ _ i0 i1 i2

/-- From equal arguments the kernel and the plain program end with equal tables, and their arguments unchanged. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨table m, ?_, ?_⟩
  · refine (θ_run _ _ _).mono (fun r h c => ?_) (Cert.Kernel5Ideal.Value.run_blocks (F := Ideal) m g)
    obtain ⟨h0, ha⟩ := h c
    exact ⟨h0.trans (final m c), ha⟩
  · refine (θ_run _ _ _).mono (fun r h c => ?_) (Cert.Reference5Ideal.Value.run (F := Ideal) m' g')
    obtain ⟨h0, ha⟩ := h c
    obtain ⟨e0, e1, e2, e3⟩ := hargs c
    refine ⟨h0.trans ?_, ha⟩
    rw [val_main_v40_eq, e0, e1, e2, e3]; exact ref_eq m c

/-- The kernel's frame. -/
theorem frame_kernel : Cert.quiescent_Kernel5Ideal (hKernel5Ideal := Cert.Kernel5Ideal.Gen.facts) :=
  fun m g _ => Cert.Kernel5Ideal.Gen.frame m g

/-- The kernel's frame at float words. -/
theorem frame_machine : Cert.quiescent_Kernel5 (hKernel5 := Cert.Kernel5.Gen.facts) :=
  fun m g _ => Cert.Kernel5.Gen.frame m g

/-- The plain program's frame: it has no counter. -/
theorem frame_reference : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run (F := Ideal) m g)

end Cert.Ada

end
-- ==== Proof.ConvRun.lean ====
module

public import proofs.«01_k».proof.Proof.Gen.Kernel6Ideal.Value
public import Idealize.ShloMosaic.Lib.Pointwise
public import Idealize.ShloMosaic.Lib.Pipeline.ValueKit
public import Idealize.ShloMosaic.Lib.Pipeline.CanonAppend

/-! # The mLSTM group's short convolution: the body's pieces
A point writes its block of the convolved queries and keys as sixteen pieces of 128 columns, eight of queries and eight of
keys. Here is what each piece holds, as a function of the blocks the body reads. -/

@[expose] public section

set_option maxRecDepth 65536

noncomputable section

namespace Cert.Kernel6Ideal.Run

open Idealize.ShloMosaic Idealize.ShloMosaic.TcCoe Idealize.SL.Sem Cert.Kernel6Ideal.Gen

/-- Whether there is a chunk before this point's, as the body decides it; -/
def hasPrev (i : grid0.Coords) : BitVec 1 := Scalar.cmpi .sgt (Scalar.subi 63#32 (BitVec.ofNat 32 (i 1).val)) 0#32
/-- and after it. -/
def hasNext (i : grid0.Coords) : BitVec 1 := Scalar.cmpi .slt (Scalar.subi 63#32 (BitVec.ofNat 32 (i 1).val)) 63#32

/-- The convolution of 128 columns and its activation, from the taps, the bias, the row before, the row after and the chunk. -/
def act (p n : BitVec 1) (w : Vec Ideal S3x128 .f32) (b : Vec Ideal S1x128 .f32) (u d : Vec Ideal S1x1x128 .bf16)
    (x : Vec Ideal S1x128x128 .bf16) : FVec Ideal S128x128 .f32 :=
  mulf (k0_pay29 (F := Ideal) p n w b u d x) (k0_pay30 (F := Ideal) p n w b u d x)

/-- A piece of queries, which are scaled; -/
def tileQ (p n : BitVec 1) (w : Vec Ideal S3x128 .f32) (b : Vec Ideal S1x128 .f32) (u d : Vec Ideal S1x1x128 .bf16)
    (x : Vec Ideal S1x128x128 .bf16) : FVec Ideal S1x128x128 .bf16 :=
  k0_pay72 (F := Ideal) (k0_pay31 (F := Ideal) (k0_pay29 (F := Ideal) p n w b u d x) (k0_pay30 (F := Ideal) p n w b u d x))
/-- and one of keys. -/
def tileK (p n : BitVec 1) (w : Vec Ideal S3x128 .f32) (b : Vec Ideal S1x128 .f32) (u d : Vec Ideal S1x1x128 .bf16)
    (x : Vec Ideal S1x128x128 .bf16) : FVec Ideal S1x128x128 .bf16 :=
  k0_pay73 (F := Ideal) (act p n w b u d x)

/-- The piece of a head's queries or keys: its place, and what is written there. -/
def pc (i : grid0.Coords) (x0 : Vec Ideal S1x128x1024 .bf16) (x1 x2 : Vec Ideal S1x16x1024 .bf16) (x3 : Vec Ideal S1x128x1024 .bf16)
    (x4 x5 : Vec Ideal S1x16x1024 .bf16) (w : Vec Ideal S3x2048 .f32) (b : Vec Ideal S1x2048 .f32) :
    Bool × Fin 8 → View.Piece (Elt Ideal) S1x128x2048 .bf16
  | (false, h) =>
    ⟨Rect.unit (s := S1x128x2048) ![0, 0, 128 * h.val] S1x128x128.size
        (fun a => by have h := h.isLt; fin_cases a <;> simp [S1x128x128, S1x128x2048] <;> omega),
      tileQ (hasPrev i) (hasNext i)
      (View.ld w (Rect.unit (s := S3x2048) ![0, 128 * h.val] S3x128.size
        (fun a => by have h := h.isLt; fin_cases a <;> simp [S3x128, S3x2048] <;> omega)))
      (View.ld b (Rect.unit (s := S1x2048) ![0, 128 * h.val] S1x128.size
        (fun a => by have h := h.isLt; fin_cases a <;> simp [S1x128, S1x2048] <;> omega)))
      (View.ld x1 (Rect.unit (s := S1x16x1024) ![0, 15, 128 * h.val] S1x1x128.size
        (fun a => by have h := h.isLt; fin_cases a <;> simp [S1x1x128, S1x16x1024] <;> omega)))
      (View.ld x2 (Rect.unit (s := S1x16x1024) ![0, 0, 128 * h.val] S1x1x128.size
        (fun a => by have h := h.isLt; fin_cases a <;> simp [S1x1x128, S1x16x1024] <;> omega)))
      (View.ld x0 (Rect.unit (s := S1x128x1024) ![0, 0, 128 * h.val] S1x128x128.size
        (fun a => by have h := h.isLt; fin_cases a <;> simp [S1x128x128, S1x128x1024] <;> omega)))⟩
  | (true, h) =>
    ⟨Rect.unit (s := S1x128x2048) ![0, 0, 1024 + 128 * h.val] S1x128x128.size
        (fun a => by have h := h.isLt; fin_cases a <;> simp [S1x128x128, S1x128x2048] <;> omega),
      tileK (hasPrev i) (hasNext i)
      (View.ld w (Rect.unit (s := S3x2048) ![0, 1024 + 128 * h.val] S3x128.size
        (fun a => by have h := h.isLt; fin_cases a <;> simp [S3x128, S3x2048] <;> omega)))
      (View.ld b (Rect.unit (s := S1x2048) ![0, 1024 + 128 * h.val] S1x128.size
        (fun a => by have h := h.isLt; fin_cases a <;> simp [S1x128, S1x2048] <;> omega)))
      (View.ld x4 (Rect.unit (s := S1x16x1024) ![0, 15, 128 * h.val] S1x1x128.size
        (fun a => by have h := h.isLt; fin_cases a <;> simp [S1x1x128, S1x16x1024] <;> omega)))
      (View.ld x5 (Rect.unit (s := S1x16x1024) ![0, 0, 128 * h.val] S1x1x128.size
        (fun a => by have h := h.isLt; fin_cases a <;> simp [S1x1x128, S1x16x1024] <;> omega)))
      (View.ld x3 (Rect.unit (s := S1x128x1024) ![0, 0, 128 * h.val] S1x128x128.size
        (fun a => by have h := h.isLt; fin_cases a <;> simp [S1x128x128, S1x128x1024] <;> omega)))⟩

/-- The pieces in the order of the stores, the last first. -/
def order : List (Bool × Fin 8) :=
  [(true, 7), (false, 7), (true, 6), (false, 6), (true, 5), (false, 5), (true, 4), (false, 4), (true, 3), (false, 3), (true, 2), (false, 2), (true, 1), (false, 1), (true, 0), (false, 0)]

/-- Every head's queries and keys are in it. -/
theorem mem_order : ∀ p : Bool × Fin 8, p ∈ order := by decide

section Pieces
variable (c : Dev nD) (i : grid0.Coords) (arg2 : Memref sig .tc .vmem S1x128x1024 .bf16) (harg2 : arg2.IsWhole)
  (arg3 : Memref sig .tc .vmem S1x16x1024 .bf16) (harg3 : arg3.IsWhole) (arg4 : Memref sig .tc .vmem S1x16x1024 .bf16) (harg4 : arg4.IsWhole)
  (arg5 : Memref sig .tc .vmem S1x128x1024 .bf16) (harg5 : arg5.IsWhole) (arg6 : Memref sig .tc .vmem S1x16x1024 .bf16) (harg6 : arg6.IsWhole)
  (arg7 : Memref sig .tc .vmem S1x16x1024 .bf16) (harg7 : arg7.IsWhole) (arg8 : Memref sig .tc .vmem S1x128x2048 .bf16) (harg8 : arg8.IsWhole)
  (arg9 : Memref sig .tc .vmem S1x128x128 .f32) (harg9 : arg9.IsWhole) (arg10 : Memref sig .tc .vmem S3x2048 .f32) (harg10 : arg10.IsWhole)
  (arg11 : Memref sig .tc .vmem S1x2048 .f32) (harg11 : arg11.IsWhole) (arg12 : Memref sig .tc .vmem S1x128 .f32) (harg12 : arg12.IsWhole)
  (arg13 : Memref sig .tc .vmem S1x8x128x384 .f32) (harg13 : arg13.IsWhole) (arg14 : Memref sig .tc .vmem S1x1x128 .f32) (harg14 : arg14.IsWhole)
  (arg15 : Memref sig .tc .vmem S1x128x2048 .bf16) (harg15 : arg15.IsWhole) (arg16 : Memref sig .tc .vmem S1x128x2048 .bf16) (harg16 : arg16.IsWhole)
  (arg17 : Memref sig .tc .vmem S1x8x128x384 .f32) (harg17 : arg17.IsWhole) (arg18 : Memref sig .tc .vmem S1x1x128 .f32) (harg18 : arg18.IsWhole)
  (x0 : Vec Ideal S1x128x1024 .bf16) (x1 : Vec Ideal S1x16x1024 .bf16) (x2 : Vec Ideal S1x16x1024 .bf16) (x3 : Vec Ideal S1x128x1024 .bf16)
  (x4 : Vec Ideal S1x16x1024 .bf16) (x5 : Vec Ideal S1x16x1024 .bf16) (x6 : Vec Ideal S1x128x2048 .bf16) (x7 : Vec Ideal S1x128x128 .f32)
  (x8 : Vec Ideal S3x2048 .f32) (x9 : Vec Ideal S1x2048 .f32) (x10 : Vec Ideal S1x128 .f32) (x11 : Vec Ideal S1x8x128x384 .f32)
  (x12 : Vec Ideal S1x1x128 .f32)

/-- The stores of case A are these pieces, at what the whole blocks hold. -/
theorem pieces_read_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12).2.1
    = order.map (pc i (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg10.view.read (Elt Ideal) (harg10.unread x8)) (arg11.view.read (Elt Ideal) (harg11.unread x9))) := by
  unfold order
  simp only [List.map_cons, List.map_nil]
  unfold kernelRun0_A
  dsimp only
  repeat' (first | rfl | (refine congr (congrArg List.cons ?_) ?_))

/-- The stores of case A are these pieces. -/
theorem pieces_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12).2.1
    = order.map (pc i x0 x1 x2 x3 x4 x5 x8 x9) := by
  rw [pieces_read_A, harg2.read_unread, harg3.read_unread, harg4.read_unread, harg5.read_unread, harg6.read_unread, harg7.read_unread, harg10.read_unread, harg11.read_unread]

/-- The stores of case B are these pieces, at what the whole blocks hold. -/
theorem pieces_read_B (hc0 : ¬cond0_0 i) (xo15 : Vec Ideal S1x8x128x384 .f32) (xo16 : Vec Ideal S1x1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo15 xo16).2.1
    = order.map (pc i (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg10.view.read (Elt Ideal) (harg10.unread x8)) (arg11.view.read (Elt Ideal) (harg11.unread x9))) := by
  unfold order
  simp only [List.map_cons, List.map_nil]
  unfold kernelRun0_B
  dsimp only
  repeat' (first | rfl | (refine congr (congrArg List.cons ?_) ?_))

/-- The stores of case B are these pieces. -/
theorem pieces_B (hc0 : ¬cond0_0 i) (xo15 : Vec Ideal S1x8x128x384 .f32) (xo16 : Vec Ideal S1x1x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo15 xo16).2.1
    = order.map (pc i x0 x1 x2 x3 x4 x5 x8 x9) := by
  rw [pieces_read_B, harg2.read_unread, harg3.read_unread, harg4.read_unread, harg5.read_unread, harg6.read_unread, harg7.read_unread, harg10.read_unread, harg11.read_unread]

end Pieces

end Cert.Kernel6Ideal.Run

end
-- ==== Proof.ConvRef.lean ====
module

public import proofs.«01_k».proof.Proof.Gen.Reference6Ideal.Read
public import Idealize.ShloMosaic.Lib.Pointwise

/-! # The mLSTM group's short convolution: what the plain program computes -/

@[expose] public section

set_option maxRecDepth 16384

noncomputable section

namespace Cert.Conv

open Idealize.ShloMosaic Cert.Reference6Ideal Cert.Reference6Ideal.Read

variable (x0 : Vec Ideal S2x8192x8192 .bf16) (x2 : Vec Ideal S2x3x2048 .f32) (x3 : Vec Ideal S2x2048 .f32)

/-- The raw queries and keys with a row of zeros before and after: row `s` of 8194. -/
def row (b : Fin 2) (s : ℕ) (n : Fin 2048) : EReal :=
  if h : 1 ≤ s ∧ s < 8193 then x0 (ix3 b ⟨s - 1, by omega⟩ ⟨n.val, by omega⟩) else 0

/-- The depthwise convolution of three taps, and its bias. -/
def conv (b : Fin 2) (s : Fin 8192) (n : Fin 2048) : EReal :=
  row x0 b s.val n * x2 (ix3 1 0 n) + row x0 b (s.val + 1) n * x2 (ix3 1 1 n) + row x0 b (s.val + 2) n * x2 (ix3 1 2 n) + x3 (ix2 1 n)

/-- The activation: a number times its logistic. -/
def silu (y : EReal) : EReal := y * Ideal.logistic y

/-- The queries, which are scaled, and the keys. -/
def entry (b : Fin 2) (s : Fin 8192) (n : Fin 2048) : EReal :=
  if n.val < 1024 then silu (conv x0 x2 x3 b s n) * Ideal.ofBits .f32 0x3DB504F3#32 else silu (conv x0 x2 x3 b s n)

/-- Queries and keys side by side. -/
theorem ref_cat (b : Fin 2) (s : Fin 8192) (n : Fin 2048) :
    val_main_v6 (F := Ideal) x0 (ix3 b s n) = x0 (ix3 b s ⟨n.val, by omega⟩) := by
  pointwise [val_main_v6, val_main_v1, val_main_v2, val_main_v0]
  split
  · rfl
  · exact congrArg x0 (congrArg (ix3 b s) (Fin.ext (by show 1024 + (n.val - 1024) = n.val; omega)))

/-- With a row of zeros before and after. -/
theorem ref_pad (b : Fin 2) (s : Fin 8194) (n : Fin 2048) :
    val_main_v11 (F := Ideal) x0 (ix3 b s n) = row x0 b s.val n := by
  unfold row
  by_cases h : 1 ≤ s.val ∧ s.val < 8193
  · rw [dif_pos h]
    refine Eq.trans ?_ (ref_cat x0 b ⟨s.val - 1, by omega⟩ n)
    pointwise [val_main_v11]
    exact dif_pos ⟨h.1, by omega⟩
  · rw [dif_neg h]
    pointwise [val_main_v11, val_main_call0_v0, val_main_c]
    refine (dif_neg fun g => h ⟨g.1, by omega⟩).trans ?_
    show ((BitVec.toInt 0#32 : ℝ) : EReal) = 0
    simp

/-- The convolution, its three taps one after the other. -/
theorem ref_conv (b : Fin 2) (s : Fin 8192) (n : Fin 2048) :
    val_main_v34 (F := Ideal) x0 x2 x3 (ix3 b s n) = conv x0 x2 x3 b s n := by
  unfold conv
  rw [← ref_pad x0 b ⟨s.val, by omega⟩ n, ← ref_pad x0 b ⟨s.val + 1, by omega⟩ n, ← ref_pad x0 b ⟨s.val + 2, by omega⟩ n]
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_v10, val_main_v9, val_main_v8, val_main_v7]
  simp only [Nat.add_comm s.val]

/-- The activation. -/
theorem ref_silu (b : Fin 2) (s : Fin 8192) (n : Fin 2048) :
    val_main_v35 (F := Ideal) x0 x2 x3 (ix3 b s n) = silu (conv x0 x2 x3 b s n) := by
  rw [← ref_conv]
  pointwise [val_main_v35, val_main_call1_v0, val_main_call1_v1, val_main_call1_v2, val_main_call1_v3, val_main_call1_v4,
    val_main_call1_v5, val_main_call1_cst, val_main_call1_cst_0, silu, Ideal.logistic]

/-- THE RESULT of the plain program. -/
theorem ref_entry (b : Fin 2) (s : Fin 8192) (n : Fin 2048) :
    val_main_v41 (F := Ideal) x0 x2 x3 (ix3 b s n) = entry x0 x2 x3 b s n := by
  unfold entry
  rw [← ref_silu]
  pointwise [val_main_v41, val_main_v40, val_main_v39, val_main_v38, val_main_v37, val_main_v36, val_main_cst]
  by_cases h : n.val < 1024
  · exact (dif_pos h).trans (if_pos h).symm
  · refine (dif_neg h).trans (Eq.trans ?_ (if_neg h).symm)
    exact congrArg (val_main_v35 (F := Ideal) x0 x2 x3) (congrArg (ix3 b s) (Fin.ext (by show 1024 + (n.val - 1024) = n.val; omega)))

end Cert.Conv

end
-- ==== Proof.ConvTile.lean ====
module

public import proofs.«01_k».proof.Proof.ConvRun
public import proofs.«01_k».proof.Proof.ConvRef

/-! # The mLSTM group's short convolution: what the pieces hold
One piece from the blocks it reads, and all sixteen as one function of the block's index. -/

@[expose] public section

set_option maxRecDepth 16384

noncomputable section

namespace Cert.Kernel6Ideal.Run

open Idealize.ShloMosaic Idealize.ShloMosaic.TcCoe Idealize.SL.Sem Cert.Kernel6Ideal.Gen

/-- A chunk's 128 columns with the row before and the row after, zeros where there is none: row `s` of 130. -/
def trow (p n : BitVec 1) (u d : Vec Ideal S1x1x128 .bf16) (x : Vec Ideal S1x128x128 .bf16) (s : Fin 130) (k : Fin 128) : EReal :=
  if s.val = 0 then (if p = 1#1 then u (ix3 0 0 k) else 0)
  else if h : s.val = 129 then (if n = 1#1 then d (ix3 0 0 k) else 0) else x (ix3 0 ⟨s.val - 1, by omega⟩ k)

/-- A tile's first row, as the body finds it; -/
theorem first_row : ∀ r : Fin 128, IntOp.cmpi CmpIPredicate.eq (BitVec.ofNat 32 r.val) 0#32 = if r.val = 0 then 1#1 else 0#1 := by decide
/-- and its last. -/
theorem last_row : ∀ r : Fin 128, IntOp.cmpi CmpIPredicate.eq (BitVec.ofNat 32 r.val) 127#32 = if r.val = 127 then 1#1 else 0#1 := by decide

/-- The convolution of a tile. -/
theorem conv_tile (p n : BitVec 1) (w : Vec Ideal S3x128 .f32) (b : Vec Ideal S1x128 .f32) (u d : Vec Ideal S1x1x128 .bf16)
    (x : Vec Ideal S1x128x128 .bf16) (r k : Fin 128) : k0_pay29 (F := Ideal) p n w b u d x (ix2 r k)
    = trow p n u d x ⟨r.val, by omega⟩ k * w (ix2 0 k) + trow p n u d x ⟨r.val + 1, by omega⟩ k * w (ix2 1 k)
      + trow p n u d x ⟨r.val + 2, by omega⟩ k * w (ix2 2 k) + b (ix2 0 k) := by
  have e0 : trow p n u d x ⟨r.val, by omega⟩ k
      = Scalar.select (IntOp.cmpi CmpIPredicate.eq (BitVec.ofNat 32 r.val) 0#32) (Scalar.select p (u (ix3 0 0 k)) 0)
          (x (ix3 0 ⟨(r.val + 128 - 1) % 128, by omega⟩ k)) := by
    rw [first_row]
    unfold trow Scalar.select
    by_cases h : r.val = 0
    · simp [h]
    · have h2 : r.val ≠ 129 := by omega
      have h3 : (r.val + 127) % 128 = r.val - 1 := by omega
      simp [h, h2, h3]
  have e1 : trow p n u d x ⟨r.val + 1, by omega⟩ k = x (ix3 0 r k) := by
    unfold trow
    have h2 : r.val ≠ 128 := by omega
    simp [h2]
  have e2 : trow p n u d x ⟨r.val + 2, by omega⟩ k
      = Scalar.select (IntOp.cmpi CmpIPredicate.eq (BitVec.ofNat 32 r.val) 127#32) (Scalar.select n (d (ix3 0 0 k)) 0)
          (x (ix3 0 ⟨(r.val + 128 - 127) % 128, by omega⟩ k)) := by
    rw [last_row]
    unfold trow Scalar.select
    by_cases h : r.val = 127
    · simp [h]
    · have h3 : (r.val + 1) % 128 = r.val + 1 := by omega
      simp [h, h3]
  rw [e0, e1, e2]
  pointwise [k0_pay29]
  simp only [mul_comm]

/-- A piece of queries. -/
theorem tileQ_apply (p n : BitVec 1) (w : Vec Ideal S3x128 .f32) (b : Vec Ideal S1x128 .f32) (u d : Vec Ideal S1x1x128 .bf16)
    (x : Vec Ideal S1x128x128 .bf16) (r k : Fin 128) : tileQ p n w b u d x (ix3 0 r k)
    = Conv.silu (trow p n u d x ⟨r.val, by omega⟩ k * w (ix2 0 k) + trow p n u d x ⟨r.val + 1, by omega⟩ k * w (ix2 1 k)
      + trow p n u d x ⟨r.val + 2, by omega⟩ k * w (ix2 2 k) + b (ix2 0 k)) * Ideal.ofBits .f32 0x3DB504F3#32 := by
  rw [← conv_tile]
  pointwise [tileQ, k0_pay72, k0_pay64, k0_pay31, k0_pay30, Conv.silu]

/-- A piece of keys. -/
theorem tileK_apply (p n : BitVec 1) (w : Vec Ideal S3x128 .f32) (b : Vec Ideal S1x128 .f32) (u d : Vec Ideal S1x1x128 .bf16)
    (x : Vec Ideal S1x128x128 .bf16) (r k : Fin 128) : tileK p n w b u d x (ix3 0 r k)
    = Conv.silu (trow p n u d x ⟨r.val, by omega⟩ k * w (ix2 0 k) + trow p n u d x ⟨r.val + 1, by omega⟩ k * w (ix2 1 k)
      + trow p n u d x ⟨r.val + 2, by omega⟩ k * w (ix2 2 k) + b (ix2 0 k)) := by
  rw [← conv_tile]
  pointwise [tileK, act, k0_pay73, k0_pay68, k0_pay30, Conv.silu]

/-- A chunk's 1024 columns with the row before and the row after, zeros where there is none: row `s` of 130. -/
def brow (p n : BitVec 1) (u d : Vec Ideal S1x16x1024 .bf16) (x : Vec Ideal S1x128x1024 .bf16) (s : Fin 130) (k : Fin 1024) : EReal :=
  if s.val = 0 then (if p = 1#1 then u (ix3 0 15 k) else 0)
  else if h : s.val = 129 then (if n = 1#1 then d (ix3 0 0 k) else 0) else x (ix3 0 ⟨s.val - 1, by omega⟩ k)

/-- A head's columns of them. -/
theorem trow_eq (p n : BitVec 1) (u d : Vec Ideal S1x16x1024 .bf16) (x : Vec Ideal S1x128x1024 .bf16) (h : Fin 8)
    (iu : ∀ a, (![0, 15, 128 * h.val] : Fin 3 → ℕ) a + S1x1x128.size a ≤ S1x16x1024.size a)
    (id : ∀ a, (![0, 0, 128 * h.val] : Fin 3 → ℕ) a + S1x1x128.size a ≤ S1x16x1024.size a)
    (ix : ∀ a, (![0, 0, 128 * h.val] : Fin 3 → ℕ) a + S1x128x128.size a ≤ S1x128x1024.size a) (s : Fin 130) (k : Fin 128)
    (K : Fin 1024) (hK : K.val = 128 * h.val + k.val) :
    trow p n (View.ld u (Rect.unit (s := S1x16x1024) ![0, 15, 128 * h.val] S1x1x128.size iu))
      (View.ld d (Rect.unit (s := S1x16x1024) ![0, 0, 128 * h.val] S1x1x128.size id))
      (View.ld x (Rect.unit (s := S1x128x1024) ![0, 0, 128 * h.val] S1x128x128.size ix)) s k = brow p n u d x s K := by
  unfold trow brow
  rw [View.ld_unit_apply_of u _ _ iu (ix3 0 0 k) (ix3 0 15 K) (fun a => by fin_cases a <;> simp [hK]),
    View.ld_unit_apply_of d _ _ id (ix3 0 0 k) (ix3 0 0 K) (fun a => by fin_cases a <;> simp [hK])]
  refine if_congr Iff.rfl rfl (dite_congr rfl (fun _ => rfl) fun g => ?_)
  exact View.ld_unit_apply_of x _ _ ix (ix3 0 ⟨s.val - 1, by omega⟩ k) (ix3 0 ⟨s.val - 1, by omega⟩ K)
    (fun a => by fin_cases a <;> simp [hK])

/-- The convolution and its activation at one place, from the padded rows, the taps and the bias. -/
def place (f : Fin 130 → EReal) (w : Vec Ideal S3x2048 .f32) (b : Vec Ideal S1x2048 .f32) (r : Fin 128) (n : Fin 2048) : EReal :=
  Conv.silu (f ⟨r.val, by omega⟩ * w (ix2 0 n) + f ⟨r.val + 1, by omega⟩ * w (ix2 1 n) + f ⟨r.val + 2, by omega⟩ * w (ix2 2 n) + b (ix2 0 n))

section Value
variable (i : grid0.Coords) (x0 : Vec Ideal S1x128x1024 .bf16) (x1 x2 : Vec Ideal S1x16x1024 .bf16) (x3 : Vec Ideal S1x128x1024 .bf16)
  (x4 x5 : Vec Ideal S1x16x1024 .bf16) (w : Vec Ideal S3x2048 .f32) (b : Vec Ideal S1x2048 .f32)

/-- What the pieces hold, as one function of the block's index. -/
def val (y : S1x128x2048.Idx) : EReal :=
  if h : (y 2).val < 1024 then
    place (fun s => brow (hasPrev i) (hasNext i) x1 x2 x0 s ⟨(y 2).val, h⟩) w b (y 1) (y 2) * Ideal.ofBits .f32 0x3DB504F3#32
  else place (fun s => brow (hasPrev i) (hasNext i) x4 x5 x3 s ⟨(y 2).val - 1024, by have := (y 2).isLt; simp [S1x128x2048] at this; omega⟩) w b (y 1) (y 2)

/-- The convolution of a tile, as the block has it. -/
theorem place_eq (f : Fin 130 → EReal) (g : Fin 130 → EReal) (hf : f = g) (o : ℕ) (r k : Fin 128) (N : Fin 2048) (hN : N.val = o + k.val)
    (iw : ∀ a, (![0, o] : Fin 2 → ℕ) a + S3x128.size a ≤ S3x2048.size a)
    (ib : ∀ a, (![0, o] : Fin 2 → ℕ) a + S1x128.size a ≤ S1x2048.size a) :
    Conv.silu (f ⟨r.val, by omega⟩ * View.ld w (Rect.unit (s := S3x2048) ![0, o] S3x128.size iw) (ix2 0 k)
      + f ⟨r.val + 1, by omega⟩ * View.ld w (Rect.unit (s := S3x2048) ![0, o] S3x128.size iw) (ix2 1 k)
      + f ⟨r.val + 2, by omega⟩ * View.ld w (Rect.unit (s := S3x2048) ![0, o] S3x128.size iw) (ix2 2 k)
      + View.ld b (Rect.unit (s := S1x2048) ![0, o] S1x128.size ib) (ix2 0 k)) = place g w b r N := by
  subst hf
  rw [View.ld_unit_apply_of w _ _ iw (ix2 0 k) (ix2 0 N) (fun a => by fin_cases a <;> simp [hN]),
    View.ld_unit_apply_of w _ _ iw (ix2 1 k) (ix2 1 N) (fun a => by fin_cases a <;> simp [hN]),
    View.ld_unit_apply_of w _ _ iw (ix2 2 k) (ix2 2 N) (fun a => by fin_cases a <;> simp [hN]),
    View.ld_unit_apply_of b _ _ ib (ix2 0 k) (ix2 0 N) (fun a => by fin_cases a <;> simp [hN])]
  rfl

/-- The first column of a piece. -/
def off : Bool × Fin 8 → ℕ
  | (false, h) => 128 * h.val
  | (true, h) => 1024 + 128 * h.val

/-- A piece lies inside the block. -/
theorem off_inb (p : Bool × Fin 8) : ∀ a, (![0, 0, off p] : Fin 3 → ℕ) a + S1x128x128.size a ≤ S1x128x2048.size a := by
  obtain ⟨_ | _, h⟩ := p <;> intro a <;> have := h.isLt <;> fin_cases a <;> simp [S1x128x128, S1x128x2048, off] <;> omega

/-- The place of a piece. -/
theorem pc_rect (p : Bool × Fin 8) : (pc i x0 x1 x2 x3 x4 x5 w b p).1 = Rect.unit (s := S1x128x2048) ![0, 0, off p] S1x128x128.size (off_inb p) := by
  obtain ⟨_ | _, h⟩ := p <;> rfl

/-- Each piece holds its part of that function. -/
theorem pc_val (p : Bool × Fin 8) (z : (pc i x0 x1 x2 x3 x4 x5 w b p).1.shape.Idx) :
    (pc i x0 x1 x2 x3 x4 x5 w b p).2 z = val i x0 x1 x2 x3 x4 x5 w b ((pc i x0 x1 x2 x3 x4 x5 w b p).1.emb z) := by
  obtain ⟨_ | _, h⟩ := p
  · change S1x128x128.Idx at z
    idx_vars z
    obtain rfl : z0 = 0 := Subsingleton.elim _ _
    have e : (pc i x0 x1 x2 x3 x4 x5 w b (false, h)).1.emb (ix3 0 z1 z2) = ix3 0 z1 ⟨128 * h.val + z2.val, by omega⟩ :=
      funext fun a => Fin.ext <| by
        refine (ValueKit.rect_emb_unit_val _ _ (off_inb (false, h)) _ a).trans ?_
        fin_cases a <;> simp [off]
    rw [e]
    refine (tileQ_apply _ _ _ _ _ _ _ z1 z2).trans (Eq.trans ?_ (dif_pos (show 128 * h.val + z2.val < 1024 by omega)).symm)
    refine congrArg (· * Ideal.ofBits .f32 0x3DB504F3#32) ?_
    exact place_eq w b _ _ (funext fun s => trow_eq _ _ _ _ _ h _ _ _ s z2 _ rfl) _ z1 z2 _ rfl _ _
  · change S1x128x128.Idx at z
    idx_vars z
    obtain rfl : z0 = 0 := Subsingleton.elim _ _
    have e : (pc i x0 x1 x2 x3 x4 x5 w b (true, h)).1.emb (ix3 0 z1 z2) = ix3 0 z1 ⟨1024 + 128 * h.val + z2.val, by omega⟩ :=
      funext fun a => Fin.ext <| by
        refine (ValueKit.rect_emb_unit_val _ _ (off_inb (true, h)) _ a).trans ?_
        fin_cases a <;> simp [off]
    rw [e]
    refine (tileK_apply _ _ _ _ _ _ _ z1 z2).trans (Eq.trans ?_ (dif_neg (show ¬ 1024 + 128 * h.val + z2.val < 1024 by omega)).symm)
    exact place_eq w b _ _ (funext fun s => trow_eq _ _ _ _ _ h _ _ _ s z2 _
      (by show 1024 + 128 * h.val + z2.val - 1024 = _; omega)) _ z1 z2 _ rfl _ _

/-- The sixteen pieces together hold it. -/
theorem canon_eq (y : S1x128x2048.Idx) :
    View.canon (order.map (pc i x0 x1 x2 x3 x4 x5 w b)) y = val i x0 x1 x2 x3 x4 x5 w b y := by
  idx_vars y
  have hy : y2.val < 2048 := y2.isLt
  obtain ⟨p, h1, h2⟩ : ∃ p : Bool × Fin 8, off p ≤ y2.val ∧ y2.val < off p + 128 := by
    by_cases h : y2.val < 1024
    · exact ⟨(false, ⟨y2.val / 128, by omega⟩), by simp only [off]; omega, by simp only [off]; omega⟩
    · exact ⟨(true, ⟨(y2.val - 1024) / 128, by omega⟩), by simp only [off]; omega, by simp only [off]; omega⟩
  rw [← List.append_nil (order.map _)]
  refine View.canon_append_of_pieces (val i x0 x1 x2 x3 x4 x5 w b) [] _ ?_ _ ⟨pc i x0 x1 x2 x3 x4 x5 w b p,
    List.mem_map_of_mem (mem_order _), ?_⟩
  · intro q hq x
    obtain ⟨q, _, rfl⟩ := List.mem_map.mp hq
    exact pc_val i x0 x1 x2 x3 x4 x5 w b q x
  · rw [pc_rect]
    refine (Rect.mem_set_unit (inb := off_inb p)).mpr fun a => ?_
    match a with
    | ⟨0, _⟩ => show 0 ≤ y0.val ∧ y0.val < 0 + 1; omega
    | ⟨1, _⟩ => show 0 ≤ y1.val ∧ y1.val < 0 + 128; omega
    | ⟨2, _⟩ => exact ⟨h1, h2⟩

end Value

section Out
variable (c : Dev nD) (i : grid0.Coords) (arg2 : Memref sig .tc .vmem S1x128x1024 .bf16) (harg2 : arg2.IsWhole)
  (arg3 : Memref sig .tc .vmem S1x16x1024 .bf16) (harg3 : arg3.IsWhole) (arg4 : Memref sig .tc .vmem S1x16x1024 .bf16) (harg4 : arg4.IsWhole)
  (arg5 : Memref sig .tc .vmem S1x128x1024 .bf16) (harg5 : arg5.IsWhole) (arg6 : Memref sig .tc .vmem S1x16x1024 .bf16) (harg6 : arg6.IsWhole)
  (arg7 : Memref sig .tc .vmem S1x16x1024 .bf16) (harg7 : arg7.IsWhole) (arg8 : Memref sig .tc .vmem S1x128x2048 .bf16) (harg8 : arg8.IsWhole)
  (arg9 : Memref sig .tc .vmem S1x128x128 .f32) (harg9 : arg9.IsWhole) (arg10 : Memref sig .tc .vmem S3x2048 .f32) (harg10 : arg10.IsWhole)
  (arg11 : Memref sig .tc .vmem S1x2048 .f32) (harg11 : arg11.IsWhole) (arg12 : Memref sig .tc .vmem S1x128 .f32) (harg12 : arg12.IsWhole)
  (arg13 : Memref sig .tc .vmem S1x8x128x384 .f32) (harg13 : arg13.IsWhole) (arg14 : Memref sig .tc .vmem S1x1x128 .f32) (harg14 : arg14.IsWhole)
  (arg15 : Memref sig .tc .vmem S1x128x2048 .bf16) (harg15 : arg15.IsWhole) (arg16 : Memref sig .tc .vmem S1x128x2048 .bf16) (harg16 : arg16.IsWhole)
  (arg17 : Memref sig .tc .vmem S1x8x128x384 .f32) (harg17 : arg17.IsWhole) (arg18 : Memref sig .tc .vmem S1x1x128 .f32) (harg18 : arg18.IsWhole)
  (x0 : Vec Ideal S1x128x1024 .bf16) (x1 : Vec Ideal S1x16x1024 .bf16) (x2 : Vec Ideal S1x16x1024 .bf16) (x3 : Vec Ideal S1x128x1024 .bf16)
  (x4 : Vec Ideal S1x16x1024 .bf16) (x5 : Vec Ideal S1x16x1024 .bf16) (x6 : Vec Ideal S1x128x2048 .bf16) (x7 : Vec Ideal S1x128x128 .f32)
  (x8 : Vec Ideal S3x2048 .f32) (x9 : Vec Ideal S1x2048 .f32) (x10 : Vec Ideal S1x128 .f32) (x11 : Vec Ideal S1x8x128x384 .f32)
  (x12 : Vec Ideal S1x1x128 .f32)

/-- What the body leaves in case A. -/
theorem out_A (hc0 : cond0_0 i) (y : S1x128x2048.Idx) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 y
    = val i x0 x1 x2 x3 x4 x5 x8 x9 y := by
  unfold out0_A_14
  rw [View.read_writes_junk_eq_canon, pieces_A]
  exact canon_eq i x0 x1 x2 x3 x4 x5 x8 x9 y

/-- What the body leaves in case B. -/
theorem out_B (hc0 : ¬cond0_0 i) (xo15 : Vec Ideal S1x8x128x384 .f32) (xo16 : Vec Ideal S1x1x128 .f32) (y : S1x128x2048.Idx) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xo15 xo16 y
    = val i x0 x1 x2 x3 x4 x5 x8 x9 y := by
  unfold out0_B_14
  rw [View.read_writes_junk_eq_canon, pieces_B]
  exact canon_eq i x0 x1 x2 x3 x4 x5 x8 x9 y

end Out

end Cert.Kernel6Ideal.Run

end
-- ==== Proof.ConvValue.lean ====
module

public import proofs.«01_k».proof.Proof.ConvTile

/-! # The mLSTM group's short convolution: the convolved queries and keys
What the grid leaves in the array of queries and keys, as a function of the arguments. -/

@[expose] public section

set_option maxRecDepth 16384

noncomputable section

namespace Cert.Kernel6Ideal.Run

open Idealize.ShloMosaic Idealize.ShloMosaic.TcCoe Idealize.SL.Sem Cert.Kernel6Ideal.Gen

/-! ## The arrays the region finds -/

section Host
variable (W : Valuation τ sig (Elt Ideal))

/-- The taps of the backward layer. -/
theorem host_v6 (k : Fin 3) (n : Fin 2048) : StableHlo.after hostOps0 W main_v6 (ix2 k n)
    = (W main_arg2 : Vec Ideal S2x3x2048 .f32) (ix3 1 k n) := by
  after_results
  pointwise

/-- The bias of the backward layer. -/
theorem host_v9 (n : Fin 2048) : StableHlo.after hostOps0 W main_v9 (ix2 0 n)
    = (W main_arg3 : Vec Ideal S2x2048 .f32) (ix2 1 n) := by
  after_results
  pointwise

end Host

/-! ## The windows' blocks -/

/-- Where the window of the queries' chunk (window 0) stands at each point. -/
theorem idx0 : ∀ t : Fin 128, cc0_transform_0 (grid0.coords t) = ![t.val / 64, 63 - t.val % 64, 0] := by decide +kernel
/-- Where the window of the rows before it (window 1) stands at each point. -/
theorem idx1 : ∀ t : Fin 128, cc0_transform_1 (grid0.coords t) = ![t.val / 64, (63 - t.val % 64) * 8 - 1, 0] := by decide +kernel
/-- Where the window of the rows after it (window 2) stands at each point. -/
theorem idx2 : ∀ t : Fin 128, cc0_transform_2 (grid0.coords t) = ![t.val / 64, min ((64 - t.val % 64) * 8) 511, 0] := by decide +kernel
/-- Where the window of the keys' chunk (window 3) stands at each point. -/
theorem idx3 : ∀ t : Fin 128, cc0_transform_3 (grid0.coords t) = ![t.val / 64, 63 - t.val % 64, 1] := by decide +kernel
/-- Where the window of the rows before it (window 4) stands at each point. -/
theorem idx4 : ∀ t : Fin 128, cc0_transform_4 (grid0.coords t) = ![t.val / 64, (63 - t.val % 64) * 8 - 1, 1] := by decide +kernel
/-- Where the window of the rows after it (window 5) stands at each point. -/
theorem idx5 : ∀ t : Fin 128, cc0_transform_5 (grid0.coords t) = ![t.val / 64, min ((64 - t.val % 64) * 8) 511, 1] := by decide +kernel
/-- Where the window of the taps (window 8) stands at each point. -/
theorem idx8 : ∀ t : Fin 128, cc0_transform_8 (grid0.coords t) = ![0, 0] := by decide +kernel
/-- Where the window of the bias (window 9) stands at each point. -/
theorem idx9 : ∀ t : Fin 128, cc0_transform_9 (grid0.coords t) = ![0, 0] := by decide +kernel
/-- Where the window of the result (window 14) stands at each point. -/
theorem idx14 : ∀ t : Fin 128, cc0_transform_14 (grid0.coords t) = ![t.val / 64, 63 - t.val % 64, 0] := by decide +kernel
/-- There is a chunk before this one in all but the last points of a batch. -/
theorem hasPrev_iff : ∀ t : Fin 128, hasPrev (grid0.coords t) = 1#1 ↔ t.val % 64 < 63 := by decide +kernel
/-- There is a chunk after this one in all but the first points of a batch. -/
theorem hasNext_iff : ∀ t : Fin 128, hasNext (grid0.coords t) = 1#1 ↔ 0 < t.val % 64 := by decide +kernel

variable (m : (ℓ : Loc nD τ sig) → Buf (Elt Ideal) ℓ) (c : Dev nD)

/-- The projected columns at launch. -/
abbrev parg : Vec Ideal S2x8192x8192 .bf16 := m ((c : Thread nD τ).loc main_arg0)
/-- The taps at launch. -/
abbrev warg : Vec Ideal S2x3x2048 .f32 := m ((c : Thread nD τ).loc main_arg2)
/-- The biases at launch. -/
abbrev barg : Vec Ideal S2x2048 .f32 := m ((c : Thread nD τ).loc main_arg3)

/-- A block of window 0, read off any contents of the array. -/
theorem read0 (g : main_arg0.ty.Contents (Elt Ideal)) (t : Fin cfg0.N) (y : S1x128x1024.Idx) :
    ((cfg0.win 0).blk t).view.read (Elt Ideal) g y = g ((win0_0.rect t).emb y) := by
  rfl

/-- The block of window 0: the queries' chunk. -/
theorem blk0 (t : Fin cfg0.N) (r : Fin 128) (k : Fin 1024) (B : Fin 2) (S N : Fin 8192) (hB : B.val = t.val / 64)
    (hS : S.val = (63 - t.val % 64) * 128 + r.val) (hN : N.val = 0 * 1024 + k.val) : iblk m c 0 t (ix3 0 r k) = parg m c (ix3 B S N) := by
  unfold iblk
  refine (read0 _ t _).trans ?_
  refine (congrFun (V_main_arg0 m c) _).trans ?_
  refine congrArg (parg m c) (funext fun a => Fin.ext ?_)
  refine (win0_0.rect_emb_val t (ix3 0 r k) a).trans ?_
  have e : win0_0.index t = ![t.val / 64, 63 - t.val % 64, 0] := idx0 t
  match a with
  | ⟨0, _⟩ => show win0_0.index t 0 * 1 + 0 = B.val; rw [e, hB]; simp
  | ⟨1, _⟩ => show win0_0.index t 1 * 128 + r.val = S.val; rw [e, hS]; rfl
  | ⟨2, _⟩ => show win0_0.index t 2 * 1024 + k.val = N.val; rw [e, hN]; rfl

/-- A block of window 1, read off any contents of the array. -/
theorem read1 (g : main_arg0.ty.Contents (Elt Ideal)) (t : Fin cfg0.N) (y : S1x16x1024.Idx) :
    ((cfg0.win 1).blk t).view.read (Elt Ideal) g y = g ((win0_1.rect t).emb y) := by
  rfl

/-- The block of window 1: the rows before it. -/
theorem blk1 (t : Fin cfg0.N) (r : Fin 16) (k : Fin 1024) (B : Fin 2) (S N : Fin 8192) (hB : B.val = t.val / 64)
    (hS : S.val = ((63 - t.val % 64) * 8 - 1) * 16 + r.val) (hN : N.val = 0 * 1024 + k.val) : iblk m c 1 t (ix3 0 r k) = parg m c (ix3 B S N) := by
  unfold iblk
  refine (read1 _ t _).trans ?_
  refine (congrFun (V_main_arg0 m c) _).trans ?_
  refine congrArg (parg m c) (funext fun a => Fin.ext ?_)
  refine (win0_1.rect_emb_val t (ix3 0 r k) a).trans ?_
  have e : win0_1.index t = ![t.val / 64, (63 - t.val % 64) * 8 - 1, 0] := idx1 t
  match a with
  | ⟨0, _⟩ => show win0_1.index t 0 * 1 + 0 = B.val; rw [e, hB]; simp
  | ⟨1, _⟩ => show win0_1.index t 1 * 16 + r.val = S.val; rw [e, hS]; rfl
  | ⟨2, _⟩ => show win0_1.index t 2 * 1024 + k.val = N.val; rw [e, hN]; rfl

/-- A block of window 2, read off any contents of the array. -/
theorem read2 (g : main_arg0.ty.Contents (Elt Ideal)) (t : Fin cfg0.N) (y : S1x16x1024.Idx) :
    ((cfg0.win 2).blk t).view.read (Elt Ideal) g y = g ((win0_2.rect t).emb y) := by
  rfl

/-- The block of window 2: the rows after it. -/
theorem blk2 (t : Fin cfg0.N) (r : Fin 16) (k : Fin 1024) (B : Fin 2) (S N : Fin 8192) (hB : B.val = t.val / 64)
    (hS : S.val = min ((64 - t.val % 64) * 8) 511 * 16 + r.val) (hN : N.val = 0 * 1024 + k.val) : iblk m c 2 t (ix3 0 r k) = parg m c (ix3 B S N) := by
  unfold iblk
  refine (read2 _ t _).trans ?_
  refine (congrFun (V_main_arg0 m c) _).trans ?_
  refine congrArg (parg m c) (funext fun a => Fin.ext ?_)
  refine (win0_2.rect_emb_val t (ix3 0 r k) a).trans ?_
  have e : win0_2.index t = ![t.val / 64, min ((64 - t.val % 64) * 8) 511, 0] := idx2 t
  match a with
  | ⟨0, _⟩ => show win0_2.index t 0 * 1 + 0 = B.val; rw [e, hB]; simp
  | ⟨1, _⟩ => show win0_2.index t 1 * 16 + r.val = S.val; rw [e, hS]; rfl
  | ⟨2, _⟩ => show win0_2.index t 2 * 1024 + k.val = N.val; rw [e, hN]; rfl

/-- A block of window 3, read off any contents of the array. -/
theorem read3 (g : main_arg0.ty.Contents (Elt Ideal)) (t : Fin cfg0.N) (y : S1x128x1024.Idx) :
    ((cfg0.win 3).blk t).view.read (Elt Ideal) g y = g ((win0_3.rect t).emb y) := by
  rfl

/-- The block of window 3: the keys' chunk. -/
theorem blk3 (t : Fin cfg0.N) (r : Fin 128) (k : Fin 1024) (B : Fin 2) (S N : Fin 8192) (hB : B.val = t.val / 64)
    (hS : S.val = (63 - t.val % 64) * 128 + r.val) (hN : N.val = 1 * 1024 + k.val) : iblk m c 3 t (ix3 0 r k) = parg m c (ix3 B S N) := by
  unfold iblk
  refine (read3 _ t _).trans ?_
  refine (congrFun (V_main_arg0 m c) _).trans ?_
  refine congrArg (parg m c) (funext fun a => Fin.ext ?_)
  refine (win0_3.rect_emb_val t (ix3 0 r k) a).trans ?_
  have e : win0_3.index t = ![t.val / 64, 63 - t.val % 64, 1] := idx3 t
  match a with
  | ⟨0, _⟩ => show win0_3.index t 0 * 1 + 0 = B.val; rw [e, hB]; simp
  | ⟨1, _⟩ => show win0_3.index t 1 * 128 + r.val = S.val; rw [e, hS]; rfl
  | ⟨2, _⟩ => show win0_3.index t 2 * 1024 + k.val = N.val; rw [e, hN]; rfl

/-- A block of window 4, read off any contents of the array. -/
theorem read4 (g : main_arg0.ty.Contents (Elt Ideal)) (t : Fin cfg0.N) (y : S1x16x1024.Idx) :
    ((cfg0.win 4).blk t).view.read (Elt Ideal) g y = g ((win0_4.rect t).emb y) := by
  rfl

/-- The block of window 4: the rows before it. -/
theorem blk4 (t : Fin cfg0.N) (r : Fin 16) (k : Fin 1024) (B : Fin 2) (S N : Fin 8192) (hB : B.val = t.val / 64)
    (hS : S.val = ((63 - t.val % 64) * 8 - 1) * 16 + r.val) (hN : N.val = 1 * 1024 + k.val) : iblk m c 4 t (ix3 0 r k) = parg m c (ix3 B S N) := by
  unfold iblk
  refine (read4 _ t _).trans ?_
  refine (congrFun (V_main_arg0 m c) _).trans ?_
  refine congrArg (parg m c) (funext fun a => Fin.ext ?_)
  refine (win0_4.rect_emb_val t (ix3 0 r k) a).trans ?_
  have e : win0_4.index t = ![t.val / 64, (63 - t.val % 64) * 8 - 1, 1] := idx4 t
  match a with
  | ⟨0, _⟩ => show win0_4.index t 0 * 1 + 0 = B.val; rw [e, hB]; simp
  | ⟨1, _⟩ => show win0_4.index t 1 * 16 + r.val = S.val; rw [e, hS]; rfl
  | ⟨2, _⟩ => show win0_4.index t 2 * 1024 + k.val = N.val; rw [e, hN]; rfl

/-- A block of window 5, read off any contents of the array. -/
theorem read5 (g : main_arg0.ty.Contents (Elt Ideal)) (t : Fin cfg0.N) (y : S1x16x1024.Idx) :
    ((cfg0.win 5).blk t).view.read (Elt Ideal) g y = g ((win0_5.rect t).emb y) := by
  rfl

/-- The block of window 5: the rows after it. -/
theorem blk5 (t : Fin cfg0.N) (r : Fin 16) (k : Fin 1024) (B : Fin 2) (S N : Fin 8192) (hB : B.val = t.val / 64)
    (hS : S.val = min ((64 - t.val % 64) * 8) 511 * 16 + r.val) (hN : N.val = 1 * 1024 + k.val) : iblk m c 5 t (ix3 0 r k) = parg m c (ix3 B S N) := by
  unfold iblk
  refine (read5 _ t _).trans ?_
  refine (congrFun (V_main_arg0 m c) _).trans ?_
  refine congrArg (parg m c) (funext fun a => Fin.ext ?_)
  refine (win0_5.rect_emb_val t (ix3 0 r k) a).trans ?_
  have e : win0_5.index t = ![t.val / 64, min ((64 - t.val % 64) * 8) 511, 1] := idx5 t
  match a with
  | ⟨0, _⟩ => show win0_5.index t 0 * 1 + 0 = B.val; rw [e, hB]; simp
  | ⟨1, _⟩ => show win0_5.index t 1 * 16 + r.val = S.val; rw [e, hS]; rfl
  | ⟨2, _⟩ => show win0_5.index t 2 * 1024 + k.val = N.val; rw [e, hN]; rfl

/-- The taps' block. -/
theorem blk8 (t : Fin cfg0.N) (k : Fin 3) (n : Fin 2048) : iblk m c 8 t (ix2 k n) = warg m c (ix3 1 k n) := by
  unfold iblk
  rw [View.read_apply]
  refine Eq.trans (congrArg (V m c main_v6) (a₂ := ix2 k n) (funext fun a => Fin.ext ?_)) (host_v6 _ k n)
  refine (win0_8.rect_emb_val t (ix2 k n) a).trans ?_
  fin_cases a <;> simp [show win0_8.index t = ![0, 0] from idx8 t]

/-- The bias's block. -/
theorem blk9 (t : Fin cfg0.N) (n : Fin 2048) : iblk m c 9 t (ix2 0 n) = barg m c (ix2 1 n) := by
  unfold iblk
  rw [View.read_apply]
  refine Eq.trans (congrArg (V m c main_v9) (a₂ := ix2 0 n) (funext fun a => Fin.ext ?_)) (host_v9 _ n)
  refine (win0_9.rect_emb_val t (ix2 0 n) a).trans ?_
  fin_cases a <;> simp [show win0_9.index t = ![0, 0] from idx9 t]

/-! ## The chunk's rows are the array's -/

/-- A chunk's padded rows are rows of the padded array, whatever the three blocks, when they hold the array's rows. -/
theorem brow_row (t : Fin 128) (u d : Vec Ideal S1x16x1024 .bf16) (x : Vec Ideal S1x128x1024 .bf16) (P : Vec Ideal S2x8192x8192 .bf16)
    (k : Fin 1024) (B : Fin 2) (n : Fin 2048)
    (hu : ∀ S : Fin 8192, S.val = ((63 - t.val % 64) * 8 - 1) * 16 + 15 → u (ix3 0 15 k) = P (ix3 B S ⟨n.val, by omega⟩))
    (hd : ∀ S : Fin 8192, S.val = min ((64 - t.val % 64) * 8) 511 * 16 + 0 → d (ix3 0 0 k) = P (ix3 B S ⟨n.val, by omega⟩))
    (hx : ∀ (r : Fin 128) (S : Fin 8192), S.val = (63 - t.val % 64) * 128 + r.val → x (ix3 0 r k) = P (ix3 B S ⟨n.val, by omega⟩))
    (s : Fin 130) :
    brow (hasPrev (grid0.coords t)) (hasNext (grid0.coords t)) u d x s k = Conv.row P B ((63 - t.val % 64) * 128 + s.val) n := by
  have ht := t.isLt
  have hs := s.isLt
  unfold brow Conv.row
  by_cases h0 : s.val = 0
  · rw [if_pos h0]
    by_cases h : t.val % 64 < 63
    · rw [if_pos ((hasPrev_iff t).mpr h), dif_pos (by omega)]
      exact hu _ (by show (63 - t.val % 64) * 128 + s.val - 1 = _; omega)
    · rw [if_neg (fun g => h ((hasPrev_iff t).mp g)), dif_neg (by omega)]
  · rw [if_neg h0]
    by_cases h1 : s.val = 129
    · rw [dif_pos h1]
      by_cases h : 0 < t.val % 64
      · rw [if_pos ((hasNext_iff t).mpr h), dif_pos (by omega)]
        exact hd _ (by show (63 - t.val % 64) * 128 + s.val - 1 = _; omega)
      · rw [if_neg (fun g => h ((hasNext_iff t).mp g)), dif_neg (by omega)]
    · rw [dif_neg h1, dif_pos (by omega)]
      exact hx _ _ (by show (63 - t.val % 64) * 128 + s.val - 1 = (63 - t.val % 64) * 128 + (s.val - 1); omega)

/-! ## The result as a function of the arguments -/

/-- The convolved queries and keys. -/
def result : Vec Ideal S2x8192x2048 .bf16 := fun i => Conv.entry (parg m c) (warg m c) (barg m c) (i 0) (i 1) (i 2)

/-- The convolution and its activation at one place of a chunk, from the array. -/
theorem place_conv (t : Fin cfg0.N) (f : Fin 130 → EReal) (w : Vec Ideal S3x2048 .f32) (b : Vec Ideal S1x2048 .f32) (r : Fin 128) (n : Fin 2048)
    (B : Fin 2) (S : Fin 8192) (hS : S.val = (63 - t.val % 64) * 128 + r.val)
    (hf : ∀ s : Fin 130, f s = Conv.row (parg m c) B ((63 - t.val % 64) * 128 + s.val) n)
    (hw : iblk m c 8 t = w) (hb : iblk m c 9 t = b) :
    place f w b r n = Conv.silu (Conv.conv (parg m c) (warg m c) (barg m c) B S n) := by
  subst hw hb
  unfold place Conv.conv
  rw [hf, hf, hf, hS]
  have e0 := blk8 m c t 0 n
  have e1 := blk8 m c t 1 n
  have e2 := blk8 m c t 2 n
  have e3 := blk9 m c t n
  exact congrArg Conv.silu (congr (congrArg (HAdd.hAdd (α := EReal) (β := EReal) (γ := EReal))
    (congr (congrArg (HAdd.hAdd (α := EReal) (β := EReal) (γ := EReal))
      (congr (congrArg (HAdd.hAdd (α := EReal) (β := EReal) (γ := EReal))
        (congrArg (HMul.hMul (α := EReal) (β := EReal) (γ := EReal) _) e0))
        (congrArg (HMul.hMul (α := EReal) (β := EReal) (γ := EReal) _) e1)))
      (congrArg (HMul.hMul (α := EReal) (β := EReal) (γ := EReal) _) e2))) e3)

/-- What point `t` leaves. -/
theorem val_eq (t : Fin cfg0.N) (x0 : Vec Ideal S1x128x1024 .bf16) (x1 x2 : Vec Ideal S1x16x1024 .bf16) (x3 : Vec Ideal S1x128x1024 .bf16)
    (x4 x5 : Vec Ideal S1x16x1024 .bf16) (w : Vec Ideal S3x2048 .f32) (b : Vec Ideal S1x2048 .f32)
    (h0 : iblk m c 0 t = x0) (h1 : iblk m c 1 t = x1) (h2 : iblk m c 2 t = x2) (h3 : iblk m c 3 t = x3) (h4 : iblk m c 4 t = x4)
    (h5 : iblk m c 5 t = x5) (hw : iblk m c 8 t = w) (hb : iblk m c 9 t = b) (r : Fin 128) (n : Fin 2048)
    (B : Fin 2) (S : Fin 8192) (hB : B.val = t.val / 64) (hS : S.val = (63 - t.val % 64) * 128 + r.val) :
    val (grid0.coords t) x0 x1 x2 x3 x4 x5 w b (ix3 0 r n) = result m c (ix3 B S n) := by
  subst h0 h1 h2 h3 h4 h5
  show val _ _ _ _ _ _ _ _ _ _ = Conv.entry (parg m c) (warg m c) (barg m c) B S n
  unfold val Conv.entry
  by_cases h : n.val < 1024
  · refine (dif_pos h).trans (Eq.trans ?_ (if_pos h).symm)
    refine congrArg (HMul.hMul (α := EReal) (β := EReal) (γ := EReal) · _) ?_
    refine place_conv m c t _ w b r n B S hS (fun s => ?_) hw hb
    exact brow_row t _ _ _ (parg m c) ⟨n.val, h⟩ B n (fun S hS => blk1 m c t 15 _ B S _ hB hS (by simp))
      (fun S hS => blk2 m c t 0 _ B S _ hB hS (by simp)) (fun r S hS => blk0 m c t r _ B S _ hB hS (by simp)) s
  · refine (dif_neg h).trans (Eq.trans ?_ (if_neg h).symm)
    refine place_conv m c t _ w b r n B S hS (fun s => ?_) hw hb
    have hn : n.val = 1 * 1024 + (n.val - 1024) := by omega
    exact brow_row t _ _ _ (parg m c) ⟨n.val - 1024, by omega⟩ B n (fun S hS => blk4 m c t 15 _ B S _ hB hS hn)
      (fun S hS => blk5 m c t 0 _ B S _ hB hS hn) (fun r S hS => blk3 m c t r _ B S _ hB hS hn) s

/-- The second of four. -/
theorem second {α β γ δ : Type} {o : α × β × γ × δ} {p : α} {q : β} {r : γ} {s : δ} (h : o = (p, q, r, s)) : o.2.1 = q :=
  h ▸ rfl

/-- What the body leaves at point `t`, in either case. -/
theorem out_val (t : Fin cfg0.N) (y : S1x128x2048.Idx) : (outsAt0 m c t.val t.isLt).2.1 y
    = val (grid0.coords t) (iblk m c 0 t) (iblk m c 1 t) (iblk m c 2 t) (iblk m c 3 t) (iblk m c 4 t) (iblk m c 5 t)
        (iblk m c 8 t) (iblk m c 9 t) y := by
  by_cases h0 : t.val % 64 = 0
  · exact (congrFun (second (outsAt0_A m c t h0)) y).trans (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((hcond0_0 t).mpr h0) y)
  · exact (congrFun (second (outsAt0_B m c t h0)) y).trans (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((hcond0_0 t).mp h))
      (outsAt0 m c (t.val - 1) (Nat.lt_of_le_of_lt (Nat.sub_le _ _) t.isLt)).2.2.1
      (outsAt0 m c (t.val - 1) (Nat.lt_of_le_of_lt (Nat.sub_le _ _) t.isLt)).2.2.2 y)

/-- Each point writes its block of the result. -/
theorem flushed (t : Fin cfg0.N) : (dats m 0 c).flushed 14 t = ((cfg0.win 14).blk t).view.read (Elt Ideal) (result m c) := by
  funext y
  rw [View.read_apply]
  show (dats m 0 c).after 14 t y = result m c ((win0_14.rect t).emb y)
  rw [after0_14]
  refine (out_val m c t y).trans ?_
  idx_vars y
  obtain rfl : y0 = 0 := Subsingleton.elim _ _
  have ht : t.val < 128 := (show cfg0.N = 128 from N_0) ▸ t.isLt
  have e : (win0_14.rect t).emb (ix3 0 y1 y2) = ix3 ⟨t.val / 64, by omega⟩ ⟨(63 - t.val % 64) * 128 + y1.val, by omega⟩ y2 :=
    funext fun a => Fin.ext <| by
      refine (win0_14.rect_emb_val t (ix3 0 y1 y2) a).trans ?_
      fin_cases a <;> simp [show win0_14.index t = ![t.val / 64, 63 - t.val % 64, 0] from idx14 t]
  rw [e]
  exact val_eq m c t _ _ _ _ _ _ _ _ rfl rfl rfl rfl rfl rfl rfl rfl y1 y2 _ _ rfl rfl

/-- The blocks fill the result. -/
theorem cover (i : S2x8192x2048.Idx) : ∃ t : Fin cfg0.N, (cfg0.win 14).flush t = true ∧ i ∈ ((cfg0.win 14).blk t).view.set := by
  idx_vars i
  have hN : cfg0.N = 128 := N_0
  have h1 : i1.val < 8192 := i1.isLt
  obtain ⟨t, ht⟩ : ∃ t : Fin cfg0.N, t.val = i0.val * 64 + (63 - i1.val / 128) := ⟨⟨i0.val * 64 + (63 - i1.val / 128), by omega⟩, rfl⟩
  refine ⟨t, flush0_14 _, ?_⟩
  show _ ∈ ((View.whole main_v10_1).slice (win0_14.rect _)).set
  rw [View.set_slice_whole, win0_14.mem_rect_iff]
  intro a
  rw [show win0_14.index t = ![t.val / 64, 63 - t.val % 64, 0] from idx14 t]
  match a with
  | ⟨0, _⟩ => show t.val / 64 * 1 ≤ i0.val ∧ i0.val < t.val / 64 * 1 + 1; omega
  | ⟨1, _⟩ => show (63 - t.val % 64) * 128 ≤ i1.val ∧ i1.val < (63 - t.val % 64) * 128 + 128; omega
  | ⟨2, _⟩ => show 0 * 2048 ≤ i2.val ∧ i2.val < 0 * 2048 + 2048; omega

/-- The final array is the result. -/
theorem final : (dats m 0 c).arrAt 14 cfg0.N = result m c :=
  (dats m 0 c).arrAt_eq_of_cover 14 (result m c) (fun t _ => flushed m c t) cover

end Cert.Kernel6Ideal.Run

end
-- ==== Proof.ConvClaim.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.ConvValue

/-! # The mLSTM group's backward scan: the claim
Of this call's results the convolved queries and keys are claimed: the kernel's and the plain program's are one function
of the arguments. -/

@[expose] public section

set_option maxRecDepth 16384

noncomputable section

namespace Cert.Conv

open Idealize.ShloMosaic Idealize.ShloMosaic.TcCoe Idealize.SL.Sem Cert.Reference6Ideal.Read Cert.Kernel6Ideal.Run

/-- The plain program's queries and keys at the arguments of the kernel. -/
theorem ref_eq (m : (ℓ : Loc Kernel6Ideal.nD Kernel6Ideal.τ Kernel6Ideal.sig) → Buf (Elt Ideal) ℓ) (c : Dev Kernel6Ideal.nD) :
    val_main_v41 (F := Ideal) (parg m c) (warg m c) (barg m c) = result m c := by
  funext i; idx_vars i; exact ref_entry _ _ _ i0 i1 i2

/-- From equal arguments the kernel and the plain program end with equal queries and keys, and their arguments unchanged. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨result m, ?_, ?_⟩
  · refine (θ_run _ _ _).mono (fun r h c => ?_) (Cert.Kernel6Ideal.Value.run_blocks (F := Ideal) m g)
    obtain ⟨_, h0, _, _, ha⟩ := h c
    exact ⟨h0.trans (final m c), ha⟩
  · refine (θ_run _ _ _).mono (fun r h c => ?_) (Cert.Reference6Ideal.Value.run (F := Ideal) m' g')
    obtain ⟨h0, ha⟩ := h c
    obtain ⟨e0, _, e2, e3, _⟩ := hargs c
    refine ⟨h0.trans ?_, ha⟩
    rw [val_main_v41_eq, e0, e2, e3]; exact ref_eq m c

/-- The frame over the extended reals. -/
theorem frame_kernel : Cert.quiescent_Kernel6Ideal (hKernel6Ideal := Cert.Kernel6Ideal.Gen.facts) :=
  fun m g _ => Cert.Kernel6Ideal.Gen.frame m g

/-- The frame at float words. -/
theorem frame_machine : Cert.quiescent_Kernel6 (hKernel6 := Cert.Kernel6.Gen.facts) :=
  fun m g _ => Cert.Kernel6.Gen.frame m g

/-- The plain program's frame: it has no counter. -/
theorem frame_reference : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Value.run (F := Ideal) m g)

end Cert.Conv

end
-- ==== Proof.XbcRun.lean ====
module

public import proofs.«01_k».proof.Proof.Gen.Kernel8Ideal.Value
public import Idealize.ShloMosaic.Lib.Pointwise
public import Idealize.ShloMosaic.Lib.Pipeline.ValueKit
public import Idealize.ShloMosaic.Lib.Pipeline.CanonAppend

/-! # The Mamba-2 group's short convolution: the stores of the body
The kernel keeps the convolved columns for the other direction: 24 pieces of 128 rows and 512 columns, listed here once, for the four
chunks of a block, the three windows of 1024 columns and the two halves of each, as functions of the blocks the body finds. -/

@[expose] public section

set_option maxRecDepth 65536
set_option maxHeartbeats 4000000

noncomputable section

namespace Cert.Kernel8Ideal.Run

open Idealize.ShloMosaic Idealize.ShloMosaic.TcCoe Idealize.SL.Sem Cert.Kernel8Ideal.Gen

/-- Whether there is a block before this point's, as the body decides it; -/
def hasPrev (i : grid0.Coords) : BitVec 1 := Scalar.cmpi .sgt (Scalar.subi 15#32 (BitVec.ofNat 32 (i 1).val)) 0#32
/-- and after it. -/
def hasNext (i : grid0.Coords) : BitVec 1 := Scalar.cmpi .slt (Scalar.subi 15#32 (BitVec.ofNat 32 (i 1).val)) 15#32

/-- A piece, from the taps, the bias, the row before, the row after and the chunk. -/
def tile (w : Vec Ideal S3x512 .f32) (b : Vec Ideal S1x512 .f32) (u d : FVec Ideal S1x512 .f32) (x : Vec Ideal S1x128x512 .bf16) :
    FVec Ideal S1x128x512 .bf16 :=
  k0_pay37 (F := Ideal) (k0_pay29 (F := Ideal) (k0_pay23 (F := Ideal) w) (k0_pay24 (F := Ideal) b) u d (k0_pay27 (F := Ideal) x)
    (iota .tc S128x512 32 [0] iota_S128x512_d0_w32) k0_pay28 1#32)

/-- The row before chunk `sc` of a block: the last of the block before, or a row of this block. -/
def uRow (p : BitVec 1) (x : Vec Ideal S1x512x1024 .bf16) (u : Vec Ideal S1x16x1024 .bf16) (sc : Fin 4) (e : Fin 2) : FVec Ideal S1x512 .f32 :=
  if sc.val = 0 then k0_pay26 (F := Ideal) p (View.ld u (Rect.unit (s := S1x16x1024) ![0, 15, 512 * e.val] S1x1x512.size
      (fun a => by have h3 := e.isLt; fin_cases a <;> simp [S1x1x512, S1x16x1024] <;> omega)))
  else k0_pay25 (F := Ideal) (View.ld x (Rect.unit (s := S1x512x1024) ![0, 128 * sc.val - 1, 512 * e.val] S1x1x512.size
      (fun a => by have h1 := sc.isLt; have h3 := e.isLt; fin_cases a <;> simp [S1x1x512, S1x512x1024] <;> omega)))

/-- The row after it: a row of this block, or the first of the block after. -/
def dRow (n : BitVec 1) (x : Vec Ideal S1x512x1024 .bf16) (d : Vec Ideal S1x16x1024 .bf16) (sc : Fin 4) (e : Fin 2) : FVec Ideal S1x512 .f32 :=
  if sc.val = 3 then k0_pay26 (F := Ideal) n (View.ld d (Rect.unit (s := S1x16x1024) ![0, 0, 512 * e.val] S1x1x512.size
      (fun a => by have h3 := e.isLt; fin_cases a <;> simp [S1x1x512, S1x16x1024] <;> omega)))
  else k0_pay25 (F := Ideal) (View.ld x (Rect.unit (s := S1x512x1024) ![0, (128 * sc.val + 128) % 512, 512 * e.val] S1x1x512.size
      (fun a => by have h1 := sc.isLt; have h3 := e.isLt; fin_cases a <;> simp [S1x1x512, S1x512x1024] <;> omega)))

/-- A chunk's half of a window: its place, and what is written there. -/
def piece (i : grid0.Coords) (x : Vec Ideal S1x512x1024 .bf16) (u d : Vec Ideal S1x16x1024 .bf16) (w : Vec Ideal S3x3072 .f32)
    (b : Vec Ideal S1x3072 .f32) (sc : Fin 4) (g : Fin 3) (e : Fin 2) : View.Piece (Elt Ideal) S1x512x3072 .bf16 :=
  ⟨Rect.unit (s := S1x512x3072) ![0, 128 * sc.val, 1024 * g.val + 512 * e.val] S1x128x512.size
      (fun a => by have h1 := sc.isLt; have h2 := g.isLt; have h3 := e.isLt; fin_cases a <;> simp [S1x128x512, S1x512x3072] <;> omega),
    tile (View.ld w (Rect.unit (s := S3x3072) ![0, 1024 * g.val + 512 * e.val] S3x512.size
      (fun a => by have h1 := sc.isLt; have h2 := g.isLt; have h3 := e.isLt; fin_cases a <;> simp [S3x512, S3x3072] <;> omega)))
    (View.ld b (Rect.unit (s := S1x3072) ![0, 1024 * g.val + 512 * e.val] S1x512.size
      (fun a => by have h1 := sc.isLt; have h2 := g.isLt; have h3 := e.isLt; fin_cases a <;> simp [S1x512, S1x3072] <;> omega)))
    (uRow (hasPrev i) x u sc e) (dRow (hasNext i) x d sc e)
    (View.ld x (Rect.unit (s := S1x512x1024) ![0, 128 * sc.val, 512 * e.val] S1x128x512.size
      (fun a => by have h1 := sc.isLt; have h3 := e.isLt; fin_cases a <;> simp [S1x128x512, S1x512x1024] <;> omega)))⟩

/-- The piece of a chunk, a window and a half. -/
def pc (i : grid0.Coords) (x0 : Vec Ideal S1x512x1024 .bf16) (x1 x2 : Vec Ideal S1x16x1024 .bf16) (x3 : Vec Ideal S1x512x1024 .bf16)
    (x4 x5 : Vec Ideal S1x16x1024 .bf16) (x6 : Vec Ideal S1x512x1024 .bf16) (x7 x8 : Vec Ideal S1x16x1024 .bf16)
    (w : Vec Ideal S3x3072 .f32) (b : Vec Ideal S1x3072 .f32) (p : Fin 4 × Fin 3 × Fin 2) : View.Piece (Elt Ideal) S1x512x3072 .bf16 :=
  piece i (![x0, x3, x6] p.2.1) (![x1, x4, x7] p.2.1) (![x2, x5, x8] p.2.1) w b p.1 p.2.1 p.2.2

/-- The pieces in the order of the stores, the last first. -/
def order : List (Fin 4 × Fin 3 × Fin 2) :=
  [(0, 1, 1), (0, 1, 0), (0, 0, 1), (0, 0, 0), (0, 2, 1), (0, 2, 0), (1, 1, 1), (1, 1, 0), (1, 0, 1), (1, 0, 0), (1, 2, 1), (1, 2, 0),
    (2, 1, 1), (2, 1, 0), (2, 0, 1), (2, 0, 0), (2, 2, 1), (2, 2, 0), (3, 1, 1), (3, 1, 0), (3, 0, 1), (3, 0, 0), (3, 2, 1), (3, 2, 0)]

/-- Every chunk, window and half is in it. -/
theorem mem_order : ∀ p : Fin 4 × Fin 3 × Fin 2, p ∈ order := by decide

section Pieces
variable (c : Dev nD) (i : grid0.Coords) (arg2 : Memref sig .tc .vmem S1x512x1024 .bf16) (harg2 : arg2.IsWhole)
  (arg3 : Memref sig .tc .vmem S1x16x1024 .bf16) (harg3 : arg3.IsWhole) (arg4 : Memref sig .tc .vmem S1x16x1024 .bf16)
  (harg4 : arg4.IsWhole) (arg5 : Memref sig .tc .vmem S1x512x1024 .bf16) (harg5 : arg5.IsWhole)
  (arg6 : Memref sig .tc .vmem S1x16x1024 .bf16) (harg6 : arg6.IsWhole) (arg7 : Memref sig .tc .vmem S1x16x1024 .bf16)
  (harg7 : arg7.IsWhole) (arg8 : Memref sig .tc .vmem S1x512x1024 .bf16) (harg8 : arg8.IsWhole)
  (arg9 : Memref sig .tc .vmem S1x16x1024 .bf16) (harg9 : arg9.IsWhole) (arg10 : Memref sig .tc .vmem S1x16x1024 .bf16)
  (harg10 : arg10.IsWhole) (arg11 : Memref sig .tc .vmem S1x512x128 .f32) (harg11 : arg11.IsWhole)
  (arg12 : Memref sig .tc .vmem S3x3072 .f32) (harg12 : arg12.IsWhole) (arg13 : Memref sig .tc .vmem S1x3072 .f32) (harg13 : arg13.IsWhole)
  (arg14 : Memref sig .tc .vmem S1x128 .f32) (harg14 : arg14.IsWhole) (arg15 : Memref sig .tc .vmem S1x128 .f32) (harg15 : arg15.IsWhole)
  (arg16 : Memref sig .tc .vmem S1x4x128x512 .f32) (harg16 : arg16.IsWhole) (arg17 : Memref sig .tc .vmem S1x512x2048 .bf16)
  (harg17 : arg17.IsWhole) (arg18 : Memref sig .tc .vmem S1x512x3072 .bf16) (harg18 : arg18.IsWhole)
  (arg19 : Memref sig .tc .vmem S1x4x128x512 .f32) (harg19 : arg19.IsWhole) (x0 : Vec Ideal S1x512x1024 .bf16)
  (x1 : Vec Ideal S1x16x1024 .bf16) (x2 : Vec Ideal S1x16x1024 .bf16) (x3 : Vec Ideal S1x512x1024 .bf16) (x4 : Vec Ideal S1x16x1024 .bf16)
  (x5 : Vec Ideal S1x16x1024 .bf16) (x6 : Vec Ideal S1x512x1024 .bf16) (x7 : Vec Ideal S1x16x1024 .bf16) (x8 : Vec Ideal S1x16x1024 .bf16)
  (x9 : Vec Ideal S1x512x128 .f32) (x10 : Vec Ideal S3x3072 .f32) (x11 : Vec Ideal S1x3072 .f32) (x12 : Vec Ideal S1x128 .f32)
  (x13 : Vec Ideal S1x128 .f32) (x14 : Vec Ideal S1x4x128x512 .f32)

/-- The stores of case A are these pieces, at what the whole blocks hold. -/
theorem pieces_read_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1
    = order.map (pc i (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg12.view.read (Elt Ideal) (harg12.unread x10)) (arg13.view.read (Elt Ideal) (harg13.unread x11))) := by
  unfold order
  simp only [List.map_cons, List.map_nil]
  unfold kernelRun0_A
  dsimp only
  repeat' (first | rfl | (refine congr (congrArg List.cons ?_) ?_))

/-- The stores of case A are these pieces. -/
theorem pieces_A (hc0 : cond0_0 i) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1
    = order.map (pc i x0 x1 x2 x3 x4 x5 x6 x7 x8 x10 x11) := by
  rw [pieces_read_A, harg2.read_unread, harg3.read_unread, harg4.read_unread, harg5.read_unread, harg6.read_unread, harg7.read_unread, harg8.read_unread, harg9.read_unread, harg10.read_unread, harg12.read_unread, harg13.read_unread]

/-- The stores of case B are these pieces, at what the whole blocks hold. -/
theorem pieces_read_B (hc0 : ¬cond0_0 i) (xo17 : Vec Ideal S1x4x128x512 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17).2.1
    = order.map (pc i (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg12.view.read (Elt Ideal) (harg12.unread x10)) (arg13.view.read (Elt Ideal) (harg13.unread x11))) := by
  unfold order
  simp only [List.map_cons, List.map_nil]
  unfold kernelRun0_B
  dsimp only
  repeat' (first | rfl | (refine congr (congrArg List.cons ?_) ?_))

/-- The stores of case B are these pieces. -/
theorem pieces_B (hc0 : ¬cond0_0 i) (xo17 : Vec Ideal S1x4x128x512 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17).2.1
    = order.map (pc i x0 x1 x2 x3 x4 x5 x6 x7 x8 x10 x11) := by
  rw [pieces_read_B, harg2.read_unread, harg3.read_unread, harg4.read_unread, harg5.read_unread, harg6.read_unread, harg7.read_unread, harg8.read_unread, harg9.read_unread, harg10.read_unread, harg12.read_unread, harg13.read_unread]

end Pieces

end Cert.Kernel8Ideal.Run

end
-- ==== Proof.XbcTile.lean ====
module

public import proofs.«01_k».proof.Proof.XbcRun
public import proofs.«01_k».proof.Proof.ConvRef

/-! # The Mamba-2 group's short convolution: what the pieces hold
One piece from the blocks it reads, and all 24 as one function of the block's index. -/

@[expose] public section

set_option maxRecDepth 16384

noncomputable section

namespace Cert.Kernel8Ideal.Run

open Idealize.ShloMosaic Idealize.ShloMosaic.TcCoe Idealize.SL.Sem Cert.Kernel8Ideal.Gen

/-- A chunk's 512 columns with the row before and the row after: row `s` of 130. -/
def trow (u d : FVec Ideal S1x512 .f32) (x : Vec Ideal S1x128x512 .bf16) (s : Fin 130) (k : Fin 512) : EReal :=
  if s.val = 0 then u (ix2 0 k) else if h : s.val = 129 then d (ix2 0 k) else x (ix3 0 ⟨s.val - 1, by omega⟩ k)

/-- A chunk's first row, as the body finds it; -/
theorem first_row : ∀ r : Fin 128, IntOp.cmpi CmpIPredicate.eq (BitVec.ofNat 32 r.val) 0#32 = if r.val = 0 then 1#1 else 0#1 := by decide
/-- and its last. -/
theorem last_row : ∀ r : Fin 128, IntOp.cmpi CmpIPredicate.eq (BitVec.ofNat 32 r.val) 127#32 = if r.val = 127 then 1#1 else 0#1 := by decide

/-- A piece: the convolution and its activation. -/
theorem tile_apply (w : Vec Ideal S3x512 .f32) (b : Vec Ideal S1x512 .f32) (u d : FVec Ideal S1x512 .f32)
    (x : Vec Ideal S1x128x512 .bf16) (r : Fin 128) (k : Fin 512) : tile w b u d x (ix3 0 r k)
    = Conv.silu (trow u d x ⟨r.val, by omega⟩ k * w (ix2 0 k) + trow u d x ⟨r.val + 1, by omega⟩ k * w (ix2 1 k)
      + trow u d x ⟨r.val + 2, by omega⟩ k * w (ix2 2 k) + b (ix2 0 k)) := by
  have e0 : trow u d x ⟨r.val, by omega⟩ k
      = Scalar.select (IntOp.cmpi CmpIPredicate.eq (BitVec.ofNat 32 r.val) 0#32) (u (ix2 0 k))
          (x (ix3 0 ⟨(r.val + 128 - 1) % 128, by omega⟩ k)) := by
    rw [first_row]
    unfold trow Scalar.select
    by_cases h : r.val = 0
    · simp [h]
    · have h2 : r.val ≠ 129 := by omega
      have h3 : (r.val + 127) % 128 = r.val - 1 := by omega
      simp [h, h2, h3]
  have e1 : trow u d x ⟨r.val + 1, by omega⟩ k = x (ix3 0 r k) := by
    unfold trow
    have h2 : r.val ≠ 128 := by omega
    simp [h2]
  have e2 : trow u d x ⟨r.val + 2, by omega⟩ k
      = Scalar.select (IntOp.cmpi CmpIPredicate.eq (BitVec.ofNat 32 r.val) 127#32) (d (ix2 0 k))
          (x (ix3 0 ⟨(r.val + 128 - 127) % 128, by omega⟩ k)) := by
    rw [last_row]
    unfold trow Scalar.select
    by_cases h : r.val = 127
    · simp [h]
    · have h3 : (r.val + 1) % 128 = r.val + 1 := by omega
      simp [h, h3]
  rw [e0, e1, e2, mul_comm _ (w (ix2 0 k)), mul_comm _ (w (ix2 1 k)), mul_comm _ (w (ix2 2 k))]
  pointwise [tile, k0_pay37, k0_pay29, k0_pay28, k0_pay27, k0_pay24, k0_pay23, Conv.silu]

/-- A block's 1024 columns with the row before and the row after, zeros where there is none: row `s` of 514. -/
def brow (p n : BitVec 1) (x : Vec Ideal S1x512x1024 .bf16) (u d : Vec Ideal S1x16x1024 .bf16) (s : Fin 514) (k : Fin 1024) : EReal :=
  if s.val = 0 then (if p = 1#1 then u (ix3 0 15 k) else 0)
  else if h : s.val = 513 then (if n = 1#1 then d (ix3 0 0 k) else 0) else x (ix3 0 ⟨s.val - 1, by omega⟩ k)

/-- The row before a chunk. -/
theorem uRow_eq (p n : BitVec 1) (x : Vec Ideal S1x512x1024 .bf16) (u d : Vec Ideal S1x16x1024 .bf16) (sc : Fin 4) (e : Fin 2) (k : Fin 512)
    (K : Fin 1024) (hK : K.val = 512 * e.val + k.val) : uRow p x u sc e (ix2 0 k) = brow p n x u d ⟨128 * sc.val, by omega⟩ K := by
  unfold uRow brow
  by_cases h : sc.val = 0
  · rw [if_pos h, if_pos (show 128 * sc.val = 0 by omega)]
    refine Eq.trans ?_ (congrArg (fun v => if p = 1#1 then v else 0)
      (View.ld_unit_apply_of u ![0, 15, 512 * e.val] S1x1x512.size (fun a => by have h3 := e.isLt; fin_cases a <;> simp [S1x1x512, S1x16x1024] <;> omega)
        (ix3 0 0 k) (ix3 0 15 K) (fun a => by fin_cases a <;> simp [hK])))
    pointwise [k0_pay26]
    rfl
  · rw [if_neg h, if_neg (show ¬ 128 * sc.val = 0 by omega), dif_neg (show ¬ 128 * sc.val = 513 by omega)]
    refine Eq.trans ?_ (View.ld_unit_apply_of x ![0, 128 * sc.val - 1, 512 * e.val] S1x1x512.size
      (fun a => by have h1 := sc.isLt; have h3 := e.isLt; fin_cases a <;> simp [S1x1x512, S1x512x1024] <;> omega)
        (ix3 0 0 k) (ix3 0 ⟨128 * sc.val - 1, by omega⟩ K) (fun a => by fin_cases a <;> simp [hK]))
    pointwise [k0_pay25]

/-- The row after a chunk. -/
theorem dRow_eq (p n : BitVec 1) (x : Vec Ideal S1x512x1024 .bf16) (u d : Vec Ideal S1x16x1024 .bf16) (sc : Fin 4) (e : Fin 2) (k : Fin 512)
    (K : Fin 1024) (hK : K.val = 512 * e.val + k.val) : dRow n x d sc e (ix2 0 k) = brow p n x u d ⟨128 * sc.val + 129, by omega⟩ K := by
  unfold dRow brow
  rw [if_neg (show ¬ 128 * sc.val + 129 = 0 by omega)]
  by_cases h : sc.val = 3
  · rw [if_pos h, dif_pos (show 128 * sc.val + 129 = 513 by omega)]
    refine Eq.trans ?_ (congrArg (fun v => if n = 1#1 then v else 0)
      (View.ld_unit_apply_of d ![0, 0, 512 * e.val] S1x1x512.size (fun a => by have h3 := e.isLt; fin_cases a <;> simp [S1x1x512, S1x16x1024] <;> omega)
        (ix3 0 0 k) (ix3 0 0 K) (fun a => by fin_cases a <;> simp [hK])))
    pointwise [k0_pay26]
    rfl
  · have hm : (128 * sc.val + 128) % 512 = 128 * sc.val + 128 := by omega
    rw [if_neg h, dif_neg (show ¬ 128 * sc.val + 129 = 513 by omega)]
    refine Eq.trans ?_ (View.ld_unit_apply_of x ![0, (128 * sc.val + 128) % 512, 512 * e.val] S1x1x512.size
      (fun a => by have h1 := sc.isLt; have h3 := e.isLt; fin_cases a <;> simp [S1x1x512, S1x512x1024] <;> omega)
        (ix3 0 0 k) (ix3 0 ⟨128 * sc.val + 129 - 1, by omega⟩ K) (fun a => by fin_cases a <;> simp [hK, hm]))
    pointwise [k0_pay25]

/-- A chunk's rows are the block's. -/
theorem trow_eq (p n : BitVec 1) (x : Vec Ideal S1x512x1024 .bf16) (u d : Vec Ideal S1x16x1024 .bf16) (sc : Fin 4) (e : Fin 2)
    (ix : ∀ a, (![0, 128 * sc.val, 512 * e.val] : Fin 3 → ℕ) a + S1x128x512.size a ≤ S1x512x1024.size a) (s : Fin 130) (k : Fin 512)
    (K : Fin 1024) (hK : K.val = 512 * e.val + k.val) :
    trow (uRow p x u sc e) (dRow n x d sc e) (View.ld x (Rect.unit (s := S1x512x1024) ![0, 128 * sc.val, 512 * e.val] S1x128x512.size ix)) s k
      = brow p n x u d ⟨128 * sc.val + s.val, by omega⟩ K := by
  unfold trow
  by_cases h : s.val = 0
  · rw [if_pos h, uRow_eq p n x u d sc e k K hK]
    exact congrArg (brow p n x u d · K) (Fin.ext (by show 128 * sc.val = 128 * sc.val + s.val; omega))
  · rw [if_neg h]
    by_cases h1 : s.val = 129
    · rw [dif_pos h1, dRow_eq p n x u d sc e k K hK]
      exact congrArg (brow p n x u d · K) (Fin.ext (by show 128 * sc.val + 129 = 128 * sc.val + s.val; omega))
    · rw [dif_neg h1]
      unfold brow
      rw [if_neg (show ¬ 128 * sc.val + s.val = 0 by omega), dif_neg (show ¬ 128 * sc.val + s.val = 513 by omega)]
      exact View.ld_unit_apply_of x _ _ ix (ix3 0 ⟨s.val - 1, by omega⟩ k) (ix3 0 ⟨128 * sc.val + s.val - 1, by omega⟩ K)
        (fun a => by
          match a with
          | ⟨0, _⟩ => rfl
          | ⟨1, _⟩ => show 128 * sc.val + s.val - 1 = 128 * sc.val + (s.val - 1); omega
          | ⟨2, _⟩ => exact hK)

/-- The convolution and its activation at one place, from the padded rows, the taps and the bias. -/
def place (f : ℕ → EReal) (w : Vec Ideal S3x3072 .f32) (b : Vec Ideal S1x3072 .f32) (r : ℕ) (n : Fin 3072) : EReal :=
  Conv.silu (f r * w (ix2 0 n) + f (r + 1) * w (ix2 1 n) + f (r + 2) * w (ix2 2 n) + b (ix2 0 n))

section Value
variable (i : grid0.Coords) (x0 : Vec Ideal S1x512x1024 .bf16) (x1 x2 : Vec Ideal S1x16x1024 .bf16) (x3 : Vec Ideal S1x512x1024 .bf16)
  (x4 x5 : Vec Ideal S1x16x1024 .bf16) (x6 : Vec Ideal S1x512x1024 .bf16) (x7 x8 : Vec Ideal S1x16x1024 .bf16)
  (w : Vec Ideal S3x3072 .f32) (b : Vec Ideal S1x3072 .f32)

/-- The padded rows of a window's block, at any number. -/
def wrow (g : Fin 3) (k : Fin 1024) (s : ℕ) : EReal :=
  if h : s < 514 then brow (hasPrev i) (hasNext i) (![x0, x3, x6] g) (![x1, x4, x7] g) (![x2, x5, x8] g) ⟨s, h⟩ k else 0

/-- x0 x1 x2 x3 x4 x5 x6 x7 x8 w bhat the pieces hold, as one function of the block's index. -/
def val (y : S1x512x3072.Idx) : EReal :=
  place (wrow i x0 x1 x2 x3 x4 x5 x6 x7 x8 ⟨(y 2).val / 1024, by have := (y 2).isLt; simp [S1x512x3072] at this; omega⟩
    ⟨(y 2).val % 1024, by omega⟩) w b (y 1).val (y 2)

/-- A piece lies inside the block. -/
theorem piece_inb (p : Fin 4 × Fin 3 × Fin 2) : ∀ a, (![0, 128 * p.1.val, 1024 * p.2.1.val + 512 * p.2.2.val] : Fin 3 → ℕ) a + S1x128x512.size a
    ≤ S1x512x3072.size a := by
  obtain ⟨sc, g, e⟩ := p
  have h1 := sc.isLt
  have h2 := g.isLt
  have h3 := e.isLt
  intro a
  fin_cases a <;> simp [S1x128x512, S1x512x3072] <;> omega

/-- The place of a piece. -/
theorem pc_rect (p : Fin 4 × Fin 3 × Fin 2) : (pc i x0 x1 x2 x3 x4 x5 x6 x7 x8 w b p).1
    = Rect.unit (s := S1x512x3072) ![0, 128 * p.1.val, 1024 * p.2.1.val + 512 * p.2.2.val] S1x128x512.size (piece_inb p) := rfl

/-- Each piece holds its part of that function. -/
theorem pc_val (p : Fin 4 × Fin 3 × Fin 2) (z : (pc i x0 x1 x2 x3 x4 x5 x6 x7 x8 w b p).1.shape.Idx) :
    (pc i x0 x1 x2 x3 x4 x5 x6 x7 x8 w b p).2 z = val i x0 x1 x2 x3 x4 x5 x6 x7 x8 w b ((pc i x0 x1 x2 x3 x4 x5 x6 x7 x8 w b p).1.emb z) := by
  obtain ⟨sc, g, e⟩ := p
  change S1x128x512.Idx at z
  idx_vars z
  obtain rfl : z0 = 0 := Subsingleton.elim _ _
  have em : (pc i x0 x1 x2 x3 x4 x5 x6 x7 x8 w b (sc, g, e)).1.emb (ix3 0 z1 z2)
      = ix3 0 ⟨128 * sc.val + z1.val, by omega⟩ ⟨1024 * g.val + 512 * e.val + z2.val, by omega⟩ :=
    funext fun a => Fin.ext <| by
      refine (ValueKit.rect_emb_unit_val _ _ (piece_inb (sc, g, e)) _ a).trans ?_
      fin_cases a <;> simp
  rw [em]
  refine (tile_apply _ _ _ _ _ z1 z2).trans ?_
  show _ = place _ w b (128 * sc.val + z1.val) ⟨1024 * g.val + 512 * e.val + z2.val, _⟩
  have eg : (⟨(1024 * g.val + 512 * e.val + z2.val) / 1024, by omega⟩ : Fin 3) = g := Fin.ext (by simp only []; omega)
  have ek : (1024 * g.val + 512 * e.val + z2.val) % 1024 = 512 * e.val + z2.val := by omega
  have er : ∀ s : Fin 130, wrow i x0 x1 x2 x3 x4 x5 x6 x7 x8 ⟨(1024 * g.val + 512 * e.val + z2.val) / 1024, by omega⟩
      ⟨(1024 * g.val + 512 * e.val + z2.val) % 1024, by omega⟩ (128 * sc.val + s.val)
      = brow (hasPrev i) (hasNext i) (![x0, x3, x6] g) (![x1, x4, x7] g) (![x2, x5, x8] g) ⟨128 * sc.val + s.val, by omega⟩
        ⟨(1024 * g.val + 512 * e.val + z2.val) % 1024, by omega⟩ := by
    intro s
    rw [eg]
    exact dif_pos (by omega)
  unfold place
  refine congrArg Conv.silu ?_
  have t := fun s : Fin 130 => (trow_eq (hasPrev i) (hasNext i) (![x0, x3, x6] g) (![x1, x4, x7] g) (![x2, x5, x8] g) sc e
    (fun a => by have h1 := sc.isLt; have h3 := e.isLt; fin_cases a <;> simp [S1x128x512, S1x512x1024] <;> omega) s z2
    ⟨(1024 * g.val + 512 * e.val + z2.val) % 1024, by omega⟩ ek).trans (er s).symm
  have hw := fun (j : Fin 3) => View.ld_unit_apply_of w ![0, 1024 * g.val + 512 * e.val] S3x512.size
    (fun a => by have h2 := g.isLt; have h3 := e.isLt; fin_cases a <;> simp [S3x512, S3x3072] <;> omega)
    (ix2 j z2) (ix2 j ⟨1024 * g.val + 512 * e.val + z2.val, by omega⟩) (fun a => by fin_cases a <;> simp)
  have hb := View.ld_unit_apply_of b ![0, 1024 * g.val + 512 * e.val] S1x512.size
    (fun a => by have h2 := g.isLt; have h3 := e.isLt; fin_cases a <;> simp [S1x512, S1x3072] <;> omega)
    (ix2 0 z2) (ix2 0 ⟨1024 * g.val + 512 * e.val + z2.val, by omega⟩) (fun a => by fin_cases a <;> simp)
  exact congr (congrArg (HAdd.hAdd (α := EReal) (β := EReal) (γ := EReal))
    (congr (congrArg (HAdd.hAdd (α := EReal) (β := EReal) (γ := EReal))
      (congr (congrArg (HAdd.hAdd (α := EReal) (β := EReal) (γ := EReal))
        (congr (congrArg (HMul.hMul (α := EReal) (β := EReal) (γ := EReal)) (t ⟨z1.val, by omega⟩)) (hw 0)))
        (congr (congrArg (HMul.hMul (α := EReal) (β := EReal) (γ := EReal)) (t ⟨z1.val + 1, by omega⟩)) (hw 1))))
      (congr (congrArg (HMul.hMul (α := EReal) (β := EReal) (γ := EReal)) (t ⟨z1.val + 2, by omega⟩)) (hw 2)))) hb

/-- The 24 pieces together hold it. -/
theorem canon_eq (y : S1x512x3072.Idx) : View.canon (order.map (pc i x0 x1 x2 x3 x4 x5 x6 x7 x8 w b)) y = val i x0 x1 x2 x3 x4 x5 x6 x7 x8 w b y := by
  idx_vars y
  have h1 : y1.val < 512 := y1.isLt
  have h2 : y2.val < 3072 := y2.isLt
  rw [← List.append_nil (order.map _)]
  refine View.canon_append_of_pieces (val i x0 x1 x2 x3 x4 x5 x6 x7 x8 w b) [] _ ?_ _
    ⟨pc i x0 x1 x2 x3 x4 x5 x6 x7 x8 w b (⟨y1.val / 128, by omega⟩, ⟨y2.val / 1024, by omega⟩, ⟨y2.val % 1024 / 512, by omega⟩), List.mem_map_of_mem (mem_order _), ?_⟩
  · intro q hq x
    obtain ⟨q, _, rfl⟩ := List.mem_map.mp hq
    exact pc_val i x0 x1 x2 x3 x4 x5 x6 x7 x8 w b q x
  · rw [pc_rect]
    refine (Rect.mem_set_unit (inb := piece_inb _)).mpr fun a => ?_
    match a with
    | ⟨0, _⟩ => show 0 ≤ y0.val ∧ y0.val < 0 + 1; omega
    | ⟨1, _⟩ => show 128 * (y1.val / 128) ≤ y1.val ∧ y1.val < 128 * (y1.val / 128) + 128; omega
    | ⟨2, _⟩ =>
      show 1024 * (y2.val / 1024) + 512 * (y2.val % 1024 / 512) ≤ y2.val
        ∧ y2.val < 1024 * (y2.val / 1024) + 512 * (y2.val % 1024 / 512) + 512
      omega

end Value

section Out
variable (c : Dev nD) (i : grid0.Coords) (arg2 : Memref sig .tc .vmem S1x512x1024 .bf16) (harg2 : arg2.IsWhole)
  (arg3 : Memref sig .tc .vmem S1x16x1024 .bf16) (harg3 : arg3.IsWhole) (arg4 : Memref sig .tc .vmem S1x16x1024 .bf16)
  (harg4 : arg4.IsWhole) (arg5 : Memref sig .tc .vmem S1x512x1024 .bf16) (harg5 : arg5.IsWhole)
  (arg6 : Memref sig .tc .vmem S1x16x1024 .bf16) (harg6 : arg6.IsWhole) (arg7 : Memref sig .tc .vmem S1x16x1024 .bf16)
  (harg7 : arg7.IsWhole) (arg8 : Memref sig .tc .vmem S1x512x1024 .bf16) (harg8 : arg8.IsWhole)
  (arg9 : Memref sig .tc .vmem S1x16x1024 .bf16) (harg9 : arg9.IsWhole) (arg10 : Memref sig .tc .vmem S1x16x1024 .bf16)
  (harg10 : arg10.IsWhole) (arg11 : Memref sig .tc .vmem S1x512x128 .f32) (harg11 : arg11.IsWhole)
  (arg12 : Memref sig .tc .vmem S3x3072 .f32) (harg12 : arg12.IsWhole) (arg13 : Memref sig .tc .vmem S1x3072 .f32) (harg13 : arg13.IsWhole)
  (arg14 : Memref sig .tc .vmem S1x128 .f32) (harg14 : arg14.IsWhole) (arg15 : Memref sig .tc .vmem S1x128 .f32) (harg15 : arg15.IsWhole)
  (arg16 : Memref sig .tc .vmem S1x4x128x512 .f32) (harg16 : arg16.IsWhole) (arg17 : Memref sig .tc .vmem S1x512x2048 .bf16)
  (harg17 : arg17.IsWhole) (arg18 : Memref sig .tc .vmem S1x512x3072 .bf16) (harg18 : arg18.IsWhole)
  (arg19 : Memref sig .tc .vmem S1x4x128x512 .f32) (harg19 : arg19.IsWhole) (x0 : Vec Ideal S1x512x1024 .bf16)
  (x1 : Vec Ideal S1x16x1024 .bf16) (x2 : Vec Ideal S1x16x1024 .bf16) (x3 : Vec Ideal S1x512x1024 .bf16) (x4 : Vec Ideal S1x16x1024 .bf16)
  (x5 : Vec Ideal S1x16x1024 .bf16) (x6 : Vec Ideal S1x512x1024 .bf16) (x7 : Vec Ideal S1x16x1024 .bf16) (x8 : Vec Ideal S1x16x1024 .bf16)
  (x9 : Vec Ideal S1x512x128 .f32) (x10 : Vec Ideal S3x3072 .f32) (x11 : Vec Ideal S1x3072 .f32) (x12 : Vec Ideal S1x128 .f32)
  (x13 : Vec Ideal S1x128 .f32) (x14 : Vec Ideal S1x4x128x512 .f32)

/-- What the body leaves in case A. -/
theorem out_A (hc0 : cond0_0 i) (y : S1x512x3072.Idx) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 y
    = val i x0 x1 x2 x3 x4 x5 x6 x7 x8 x10 x11 y := by
  unfold out0_A_16
  rw [View.read_writes_junk_eq_canon, pieces_A]
  exact canon_eq i x0 x1 x2 x3 x4 x5 x6 x7 x8 x10 x11 y

/-- What the body leaves in case B. -/
theorem out_B (hc0 : ¬cond0_0 i) (xo17 : Vec Ideal S1x4x128x512 .f32) (y : S1x512x3072.Idx) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 y
    = val i x0 x1 x2 x3 x4 x5 x6 x7 x8 x10 x11 y := by
  unfold out0_B_16
  rw [View.read_writes_junk_eq_canon, pieces_B]
  exact canon_eq i x0 x1 x2 x3 x4 x5 x6 x7 x8 x10 x11 y

end Out

end Cert.Kernel8Ideal.Run

end
-- ==== Proof.XbcRef.lean ====
module

public import proofs.«01_k».proof.Proof.Gen.Reference8Ideal.Read
public import proofs.«01_k».proof.Proof.ConvRef

/-! # The Mamba-2 group's short convolution: what the plain program computes
Entry by entry: three taps over the neighbouring tokens, a bias, the activation. -/

@[expose] public section

set_option maxRecDepth 16384

noncomputable section

namespace Cert.Xbc

open Idealize.ShloMosaic Cert.Reference8Ideal Cert.Reference8Ideal.Read
open Cert.Conv (silu)

variable (x0 : Vec Ideal S2x8192x5120 .bf16) (x2 : Vec Ideal S2x3x3072 .f32) (x3 : Vec Ideal S2x3072 .f32)

/-- The raw columns with a row of zeros before and after: row `s` of 8194. -/
def row (b : Fin 2) (s : ℕ) (n : Fin 3072) : EReal :=
  if h : 1 ≤ s ∧ s < 8193 then x0 (ix3 b ⟨s - 1, by omega⟩ ⟨n.val, by omega⟩) else 0

/-- The depthwise convolution of three taps, and its bias. -/
def conv (b : Fin 2) (s : Fin 8192) (n : Fin 3072) : EReal :=
  row x0 b s.val n * x2 (ix3 1 0 n) + row x0 b (s.val + 1) n * x2 (ix3 1 1 n) + row x0 b (s.val + 2) n * x2 (ix3 1 2 n) + x3 (ix2 1 n)

/-- With a row of zeros before and after. -/
theorem ref_pad (b : Fin 2) (s : Fin 8194) (n : Fin 3072) :
    val_main_v7 (F := Ideal) x0 (ix3 b s n) = row x0 b s.val n := by
  unfold row
  by_cases h : 1 ≤ s.val ∧ s.val < 8193
  · rw [dif_pos h]
    pointwise [val_main_v7, val_main_v1, val_main_v0]
    exact dif_pos ⟨h.1, by omega⟩
  · rw [dif_neg h]
    pointwise [val_main_v7, val_main_call0_v0, val_main_c]
    refine (dif_neg fun g => h ⟨g.1, by omega⟩).trans ?_
    show ((BitVec.toInt 0#32 : ℝ) : EReal) = 0
    simp

/-- The convolution, its three taps one after the other. -/
theorem ref_conv (b : Fin 2) (s : Fin 8192) (n : Fin 3072) :
    val_main_v30 (F := Ideal) x0 x2 x3 (ix3 b s n) = conv x0 x2 x3 b s n := by
  unfold conv
  rw [← ref_pad x0 b ⟨s.val, by omega⟩ n, ← ref_pad x0 b ⟨s.val + 1, by omega⟩ n, ← ref_pad x0 b ⟨s.val + 2, by omega⟩ n]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v4, val_main_v3]
  simp only [Nat.add_comm s.val]

/-- The activation. -/
theorem ref_entry (b : Fin 2) (s : Fin 8192) (n : Fin 3072) :
    val_main_v32 (F := Ideal) x0 x2 x3 (ix3 b s n) = silu (conv x0 x2 x3 b s n) := by
  rw [← ref_conv]
  pointwise [val_main_v32, val_main_v31, val_main_call1_v0, val_main_call1_v1, val_main_call1_v2, val_main_call1_v3, val_main_call1_v4,
    val_main_call1_v5, val_main_call1_cst, val_main_call1_cst_0, silu, Ideal.logistic]

end Cert.Xbc

end
-- ==== Proof.XbcValue.lean ====
module

public import proofs.«01_k».proof.Proof.XbcTile
public import proofs.«01_k».proof.Proof.XbcRef

/-! # The Mamba-2 group's short convolution: the convolved columns
What the grid leaves in the array of convolved columns, as a function of the arguments. -/

@[expose] public section

set_option maxRecDepth 16384

noncomputable section

namespace Cert.Kernel8Ideal.Run

open Idealize.ShloMosaic Idealize.ShloMosaic.TcCoe Idealize.SL.Sem Cert.Kernel8Ideal.Gen

/-! ## The arrays the region finds -/

section Host
variable (W : Valuation τ sig (Elt Ideal))

/-- The taps of the backward layer. -/
theorem host_v17 (k : Fin 3) (n : Fin 3072) : StableHlo.after hostOps0 W main_v17 (ix2 k n)
    = (W main_arg2 : Vec Ideal S2x3x3072 .f32) (ix3 1 k n) := by
  after_results
  pointwise

/-- The bias of the backward layer. -/
theorem host_v20 (n : Fin 3072) : StableHlo.after hostOps0 W main_v20 (ix2 0 n)
    = (W main_arg3 : Vec Ideal S2x3072 .f32) (ix2 1 n) := by
  after_results
  pointwise

end Host

/-! ## The windows' blocks -/

/-- Where the window of the first thousand columns' chunk (window 0) stands at each point. -/
theorem idx0 : ∀ t : Fin 32, cc0_transform_0 (grid0.coords t) = ![t.val / 16, 15 - t.val % 16, 0] := by decide +kernel

/-- Where the window of the rows before it (window 1) stands at each point. -/
theorem idx1 : ∀ t : Fin 32, cc0_transform_1 (grid0.coords t) = ![t.val / 16, (15 - t.val % 16) * 32 - 1, 0] := by decide +kernel

/-- Where the window of the rows after it (window 2) stands at each point. -/
theorem idx2 : ∀ t : Fin 32, cc0_transform_2 (grid0.coords t) = ![t.val / 16, min ((16 - t.val % 16) * 32) 511, 0] := by decide +kernel

/-- Where the window of the second thousand columns' chunk (window 3) stands at each point. -/
theorem idx3 : ∀ t : Fin 32, cc0_transform_3 (grid0.coords t) = ![t.val / 16, 15 - t.val % 16, 1] := by decide +kernel

/-- Where the window of the rows before it (window 4) stands at each point. -/
theorem idx4 : ∀ t : Fin 32, cc0_transform_4 (grid0.coords t) = ![t.val / 16, (15 - t.val % 16) * 32 - 1, 1] := by decide +kernel

/-- Where the window of the rows after it (window 5) stands at each point. -/
theorem idx5 : ∀ t : Fin 32, cc0_transform_5 (grid0.coords t) = ![t.val / 16, min ((16 - t.val % 16) * 32) 511, 1] := by decide +kernel

/-- Where the window of the third thousand columns' chunk (window 6) stands at each point. -/
theorem idx6 : ∀ t : Fin 32, cc0_transform_6 (grid0.coords t) = ![t.val / 16, 15 - t.val % 16, 2] := by decide +kernel

/-- Where the window of the rows before it (window 7) stands at each point. -/
theorem idx7 : ∀ t : Fin 32, cc0_transform_7 (grid0.coords t) = ![t.val / 16, (15 - t.val % 16) * 32 - 1, 2] := by decide +kernel

/-- Where the window of the rows after it (window 8) stands at each point. -/
theorem idx8 : ∀ t : Fin 32, cc0_transform_8 (grid0.coords t) = ![t.val / 16, min ((16 - t.val % 16) * 32) 511, 2] := by decide +kernel

/-- Where the window of the taps (window 10) stands at each point. -/
theorem idx10 : ∀ t : Fin 32, cc0_transform_10 (grid0.coords t) = ![0, 0] := by decide +kernel
/-- Where the window of the bias (window 11) stands at each point. -/
theorem idx11 : ∀ t : Fin 32, cc0_transform_11 (grid0.coords t) = ![0, 0] := by decide +kernel
/-- Where the window of the result (window 16) stands at each point. -/
theorem idx16 : ∀ t : Fin 32, cc0_transform_16 (grid0.coords t) = ![t.val / 16, 15 - t.val % 16, 0] := by decide +kernel

/-- There is a chunk before this one in all but the last points of a batch. -/
theorem hasPrev_iff : ∀ t : Fin 32, hasPrev (grid0.coords t) = 1#1 ↔ t.val % 16 < 15 := by decide +kernel
/-- There is a chunk after this one in all but the first points of a batch. -/
theorem hasNext_iff : ∀ t : Fin 32, hasNext (grid0.coords t) = 1#1 ↔ 0 < t.val % 16 := by decide +kernel

variable (m : (ℓ : Loc nD τ sig) → Buf (Elt Ideal) ℓ) (c : Dev nD)

/-- The projected columns at launch. -/
abbrev parg : Vec Ideal S2x8192x5120 .bf16 := m ((c : Thread nD τ).loc main_arg0)
/-- The taps at launch. -/
abbrev warg : Vec Ideal S2x3x3072 .f32 := m ((c : Thread nD τ).loc main_arg2)
/-- The biases at launch. -/
abbrev barg : Vec Ideal S2x3072 .f32 := m ((c : Thread nD τ).loc main_arg3)

/-- A block of window 0, read off any contents of the array. -/
theorem read0 (g : main_arg0.ty.Contents (Elt Ideal)) (t : Fin cfg0.N) (y : S1x512x1024.Idx) :
    ((cfg0.win 0).blk t).view.read (Elt Ideal) g y = g ((win0_0.rect t).emb y) := by
  rfl

/-- The block of window 0: the first thousand columns' chunk. -/
theorem blk0 (t : Fin cfg0.N) (r : Fin 512) (k : Fin 1024) (B : Fin 2) (S : Fin 8192) (N : Fin 5120) (hB : B.val = t.val / 16)
    (hS : S.val = (15 - t.val % 16) * 512 + r.val) (hN : N.val = 0 * 1024 + k.val) : iblk m c 0 t (ix3 0 r k) = parg m c (ix3 B S N) := by
  unfold iblk
  refine (read0 _ t _).trans ?_
  refine (congrFun (V_main_arg0 m c) _).trans ?_
  refine congrArg (parg m c) (funext fun a => Fin.ext ?_)
  refine (win0_0.rect_emb_val t (ix3 0 r k) a).trans ?_
  have e : win0_0.index t = ![t.val / 16, 15 - t.val % 16, 0] := idx0 t
  match a with
  | ⟨0, _⟩ => show win0_0.index t 0 * 1 + 0 = B.val; rw [e, hB]; simp
  | ⟨1, _⟩ => show win0_0.index t 1 * 512 + r.val = S.val; rw [e, hS]; rfl
  | ⟨2, _⟩ => show win0_0.index t 2 * 1024 + k.val = N.val; rw [e, hN]; rfl

/-- A block of window 1, read off any contents of the array. -/
theorem read1 (g : main_arg0.ty.Contents (Elt Ideal)) (t : Fin cfg0.N) (y : S1x16x1024.Idx) :
    ((cfg0.win 1).blk t).view.read (Elt Ideal) g y = g ((win0_1.rect t).emb y) := by
  rfl

/-- The block of window 1: the rows before it. -/
theorem blk1 (t : Fin cfg0.N) (r : Fin 16) (k : Fin 1024) (B : Fin 2) (S : Fin 8192) (N : Fin 5120) (hB : B.val = t.val / 16)
    (hS : S.val = ((15 - t.val % 16) * 32 - 1) * 16 + r.val) (hN : N.val = 0 * 1024 + k.val) : iblk m c 1 t (ix3 0 r k) = parg m c (ix3 B S N) := by
  unfold iblk
  refine (read1 _ t _).trans ?_
  refine (congrFun (V_main_arg0 m c) _).trans ?_
  refine congrArg (parg m c) (funext fun a => Fin.ext ?_)
  refine (win0_1.rect_emb_val t (ix3 0 r k) a).trans ?_
  have e : win0_1.index t = ![t.val / 16, (15 - t.val % 16) * 32 - 1, 0] := idx1 t
  match a with
  | ⟨0, _⟩ => show win0_1.index t 0 * 1 + 0 = B.val; rw [e, hB]; simp
  | ⟨1, _⟩ => show win0_1.index t 1 * 16 + r.val = S.val; rw [e, hS]; rfl
  | ⟨2, _⟩ => show win0_1.index t 2 * 1024 + k.val = N.val; rw [e, hN]; rfl

/-- A block of window 2, read off any contents of the array. -/
theorem read2 (g : main_arg0.ty.Contents (Elt Ideal)) (t : Fin cfg0.N) (y : S1x16x1024.Idx) :
    ((cfg0.win 2).blk t).view.read (Elt Ideal) g y = g ((win0_2.rect t).emb y) := by
  rfl

/-- The block of window 2: the rows after it. -/
theorem blk2 (t : Fin cfg0.N) (r : Fin 16) (k : Fin 1024) (B : Fin 2) (S : Fin 8192) (N : Fin 5120) (hB : B.val = t.val / 16)
    (hS : S.val = min ((16 - t.val % 16) * 32) 511 * 16 + r.val) (hN : N.val = 0 * 1024 + k.val) : iblk m c 2 t (ix3 0 r k) = parg m c (ix3 B S N) := by
  unfold iblk
  refine (read2 _ t _).trans ?_
  refine (congrFun (V_main_arg0 m c) _).trans ?_
  refine congrArg (parg m c) (funext fun a => Fin.ext ?_)
  refine (win0_2.rect_emb_val t (ix3 0 r k) a).trans ?_
  have e : win0_2.index t = ![t.val / 16, min ((16 - t.val % 16) * 32) 511, 0] := idx2 t
  match a with
  | ⟨0, _⟩ => show win0_2.index t 0 * 1 + 0 = B.val; rw [e, hB]; simp
  | ⟨1, _⟩ => show win0_2.index t 1 * 16 + r.val = S.val; rw [e, hS]; rfl
  | ⟨2, _⟩ => show win0_2.index t 2 * 1024 + k.val = N.val; rw [e, hN]; rfl

/-- A block of window 3, read off any contents of the array. -/
theorem read3 (g : main_arg0.ty.Contents (Elt Ideal)) (t : Fin cfg0.N) (y : S1x512x1024.Idx) :
    ((cfg0.win 3).blk t).view.read (Elt Ideal) g y = g ((win0_3.rect t).emb y) := by
  rfl

/-- The block of window 3: the second thousand columns' chunk. -/
theorem blk3 (t : Fin cfg0.N) (r : Fin 512) (k : Fin 1024) (B : Fin 2) (S : Fin 8192) (N : Fin 5120) (hB : B.val = t.val / 16)
    (hS : S.val = (15 - t.val % 16) * 512 + r.val) (hN : N.val = 1 * 1024 + k.val) : iblk m c 3 t (ix3 0 r k) = parg m c (ix3 B S N) := by
  unfold iblk
  refine (read3 _ t _).trans ?_
  refine (congrFun (V_main_arg0 m c) _).trans ?_
  refine congrArg (parg m c) (funext fun a => Fin.ext ?_)
  refine (win0_3.rect_emb_val t (ix3 0 r k) a).trans ?_
  have e : win0_3.index t = ![t.val / 16, 15 - t.val % 16, 1] := idx3 t
  match a with
  | ⟨0, _⟩ => show win0_3.index t 0 * 1 + 0 = B.val; rw [e, hB]; simp
  | ⟨1, _⟩ => show win0_3.index t 1 * 512 + r.val = S.val; rw [e, hS]; rfl
  | ⟨2, _⟩ => show win0_3.index t 2 * 1024 + k.val = N.val; rw [e, hN]; rfl

/-- A block of window 4, read off any contents of the array. -/
theorem read4 (g : main_arg0.ty.Contents (Elt Ideal)) (t : Fin cfg0.N) (y : S1x16x1024.Idx) :
    ((cfg0.win 4).blk t).view.read (Elt Ideal) g y = g ((win0_4.rect t).emb y) := by
  rfl

/-- The block of window 4: the rows before it. -/
theorem blk4 (t : Fin cfg0.N) (r : Fin 16) (k : Fin 1024) (B : Fin 2) (S : Fin 8192) (N : Fin 5120) (hB : B.val = t.val / 16)
    (hS : S.val = ((15 - t.val % 16) * 32 - 1) * 16 + r.val) (hN : N.val = 1 * 1024 + k.val) : iblk m c 4 t (ix3 0 r k) = parg m c (ix3 B S N) := by
  unfold iblk
  refine (read4 _ t _).trans ?_
  refine (congrFun (V_main_arg0 m c) _).trans ?_
  refine congrArg (parg m c) (funext fun a => Fin.ext ?_)
  refine (win0_4.rect_emb_val t (ix3 0 r k) a).trans ?_
  have e : win0_4.index t = ![t.val / 16, (15 - t.val % 16) * 32 - 1, 1] := idx4 t
  match a with
  | ⟨0, _⟩ => show win0_4.index t 0 * 1 + 0 = B.val; rw [e, hB]; simp
  | ⟨1, _⟩ => show win0_4.index t 1 * 16 + r.val = S.val; rw [e, hS]; rfl
  | ⟨2, _⟩ => show win0_4.index t 2 * 1024 + k.val = N.val; rw [e, hN]; rfl

/-- A block of window 5, read off any contents of the array. -/
theorem read5 (g : main_arg0.ty.Contents (Elt Ideal)) (t : Fin cfg0.N) (y : S1x16x1024.Idx) :
    ((cfg0.win 5).blk t).view.read (Elt Ideal) g y = g ((win0_5.rect t).emb y) := by
  rfl

/-- The block of window 5: the rows after it. -/
theorem blk5 (t : Fin cfg0.N) (r : Fin 16) (k : Fin 1024) (B : Fin 2) (S : Fin 8192) (N : Fin 5120) (hB : B.val = t.val / 16)
    (hS : S.val = min ((16 - t.val % 16) * 32) 511 * 16 + r.val) (hN : N.val = 1 * 1024 + k.val) : iblk m c 5 t (ix3 0 r k) = parg m c (ix3 B S N) := by
  unfold iblk
  refine (read5 _ t _).trans ?_
  refine (congrFun (V_main_arg0 m c) _).trans ?_
  refine congrArg (parg m c) (funext fun a => Fin.ext ?_)
  refine (win0_5.rect_emb_val t (ix3 0 r k) a).trans ?_
  have e : win0_5.index t = ![t.val / 16, min ((16 - t.val % 16) * 32) 511, 1] := idx5 t
  match a with
  | ⟨0, _⟩ => show win0_5.index t 0 * 1 + 0 = B.val; rw [e, hB]; simp
  | ⟨1, _⟩ => show win0_5.index t 1 * 16 + r.val = S.val; rw [e, hS]; rfl
  | ⟨2, _⟩ => show win0_5.index t 2 * 1024 + k.val = N.val; rw [e, hN]; rfl

/-- A block of window 6, read off any contents of the array. -/
theorem read6 (g : main_arg0.ty.Contents (Elt Ideal)) (t : Fin cfg0.N) (y : S1x512x1024.Idx) :
    ((cfg0.win 6).blk t).view.read (Elt Ideal) g y = g ((win0_6.rect t).emb y) := by
  rfl

/-- The block of window 6: the third thousand columns' chunk. -/
theorem blk6 (t : Fin cfg0.N) (r : Fin 512) (k : Fin 1024) (B : Fin 2) (S : Fin 8192) (N : Fin 5120) (hB : B.val = t.val / 16)
    (hS : S.val = (15 - t.val % 16) * 512 + r.val) (hN : N.val = 2 * 1024 + k.val) : iblk m c 6 t (ix3 0 r k) = parg m c (ix3 B S N) := by
  unfold iblk
  refine (read6 _ t _).trans ?_
  refine (congrFun (V_main_arg0 m c) _).trans ?_
  refine congrArg (parg m c) (funext fun a => Fin.ext ?_)
  refine (win0_6.rect_emb_val t (ix3 0 r k) a).trans ?_
  have e : win0_6.index t = ![t.val / 16, 15 - t.val % 16, 2] := idx6 t
  match a with
  | ⟨0, _⟩ => show win0_6.index t 0 * 1 + 0 = B.val; rw [e, hB]; simp
  | ⟨1, _⟩ => show win0_6.index t 1 * 512 + r.val = S.val; rw [e, hS]; rfl
  | ⟨2, _⟩ => show win0_6.index t 2 * 1024 + k.val = N.val; rw [e, hN]; rfl

/-- A block of window 7, read off any contents of the array. -/
theorem read7 (g : main_arg0.ty.Contents (Elt Ideal)) (t : Fin cfg0.N) (y : S1x16x1024.Idx) :
    ((cfg0.win 7).blk t).view.read (Elt Ideal) g y = g ((win0_7.rect t).emb y) := by
  rfl

/-- The block of window 7: the rows before it. -/
theorem blk7 (t : Fin cfg0.N) (r : Fin 16) (k : Fin 1024) (B : Fin 2) (S : Fin 8192) (N : Fin 5120) (hB : B.val = t.val / 16)
    (hS : S.val = ((15 - t.val % 16) * 32 - 1) * 16 + r.val) (hN : N.val = 2 * 1024 + k.val) : iblk m c 7 t (ix3 0 r k) = parg m c (ix3 B S N) := by
  unfold iblk
  refine (read7 _ t _).trans ?_
  refine (congrFun (V_main_arg0 m c) _).trans ?_
  refine congrArg (parg m c) (funext fun a => Fin.ext ?_)
  refine (win0_7.rect_emb_val t (ix3 0 r k) a).trans ?_
  have e : win0_7.index t = ![t.val / 16, (15 - t.val % 16) * 32 - 1, 2] := idx7 t
  match a with
  | ⟨0, _⟩ => show win0_7.index t 0 * 1 + 0 = B.val; rw [e, hB]; simp
  | ⟨1, _⟩ => show win0_7.index t 1 * 16 + r.val = S.val; rw [e, hS]; rfl
  | ⟨2, _⟩ => show win0_7.index t 2 * 1024 + k.val = N.val; rw [e, hN]; rfl

/-- A block of window 8, read off any contents of the array. -/
theorem read8 (g : main_arg0.ty.Contents (Elt Ideal)) (t : Fin cfg0.N) (y : S1x16x1024.Idx) :
    ((cfg0.win 8).blk t).view.read (Elt Ideal) g y = g ((win0_8.rect t).emb y) := by
  rfl

/-- The block of window 8: the rows after it. -/
theorem blk8 (t : Fin cfg0.N) (r : Fin 16) (k : Fin 1024) (B : Fin 2) (S : Fin 8192) (N : Fin 5120) (hB : B.val = t.val / 16)
    (hS : S.val = min ((16 - t.val % 16) * 32) 511 * 16 + r.val) (hN : N.val = 2 * 1024 + k.val) : iblk m c 8 t (ix3 0 r k) = parg m c (ix3 B S N) := by
  unfold iblk
  refine (read8 _ t _).trans ?_
  refine (congrFun (V_main_arg0 m c) _).trans ?_
  refine congrArg (parg m c) (funext fun a => Fin.ext ?_)
  refine (win0_8.rect_emb_val t (ix3 0 r k) a).trans ?_
  have e : win0_8.index t = ![t.val / 16, min ((16 - t.val % 16) * 32) 511, 2] := idx8 t
  match a with
  | ⟨0, _⟩ => show win0_8.index t 0 * 1 + 0 = B.val; rw [e, hB]; simp
  | ⟨1, _⟩ => show win0_8.index t 1 * 16 + r.val = S.val; rw [e, hS]; rfl
  | ⟨2, _⟩ => show win0_8.index t 2 * 1024 + k.val = N.val; rw [e, hN]; rfl

/-- The taps' block. -/
theorem blk10 (t : Fin cfg0.N) (k : Fin 3) (n : Fin 3072) : iblk m c 10 t (ix2 k n) = warg m c (ix3 1 k n) := by
  unfold iblk
  rw [View.read_apply]
  refine Eq.trans (congrArg (V m c main_v17) (a₂ := ix2 k n) (funext fun a => Fin.ext ?_)) (host_v17 _ k n)
  refine (win0_10.rect_emb_val t (ix2 k n) a).trans ?_
  fin_cases a <;> simp [show win0_10.index t = ![0, 0] from idx10 t]

/-- The bias's block. -/
theorem blk11 (t : Fin cfg0.N) (n : Fin 3072) : iblk m c 11 t (ix2 0 n) = barg m c (ix2 1 n) := by
  unfold iblk
  rw [View.read_apply]
  refine Eq.trans (congrArg (V m c main_v20) (a₂ := ix2 0 n) (funext fun a => Fin.ext ?_)) (host_v20 _ n)
  refine (win0_11.rect_emb_val t (ix2 0 n) a).trans ?_
  fin_cases a <;> simp [show win0_11.index t = ![0, 0] from idx11 t]

/-! ## The chunk's rows are the array's -/

/-- A chunk's padded rows are rows of the padded array, whatever the three blocks, when they hold the array's rows. -/
theorem brow_row (t : Fin 32) (u d : Vec Ideal S1x16x1024 .bf16) (x : Vec Ideal S1x512x1024 .bf16) (P : Vec Ideal S2x8192x5120 .bf16)
    (k : Fin 1024) (B : Fin 2) (n : Fin 3072)
    (hu : ∀ S : Fin 8192, S.val = ((15 - t.val % 16) * 32 - 1) * 16 + 15 → u (ix3 0 15 k) = P (ix3 B S ⟨n.val, by omega⟩))
    (hd : ∀ S : Fin 8192, S.val = min ((16 - t.val % 16) * 32) 511 * 16 + 0 → d (ix3 0 0 k) = P (ix3 B S ⟨n.val, by omega⟩))
    (hx : ∀ (r : Fin 512) (S : Fin 8192), S.val = (15 - t.val % 16) * 512 + r.val → x (ix3 0 r k) = P (ix3 B S ⟨n.val, by omega⟩))
    (s : Fin 514) :
    brow (hasPrev (grid0.coords t)) (hasNext (grid0.coords t)) x u d s k = Xbc.row P B ((15 - t.val % 16) * 512 + s.val) n := by
  have ht := t.isLt
  have hs := s.isLt
  unfold brow Xbc.row
  by_cases h0 : s.val = 0
  · rw [if_pos h0]
    by_cases h : t.val % 16 < 15
    · rw [if_pos ((hasPrev_iff t).mpr h), dif_pos (by omega)]
      exact hu _ (by show (15 - t.val % 16) * 512 + s.val - 1 = _; omega)
    · rw [if_neg (fun g => h ((hasPrev_iff t).mp g)), dif_neg (by omega)]
  · rw [if_neg h0]
    by_cases h1 : s.val = 513
    · rw [dif_pos h1]
      by_cases h : 0 < t.val % 16
      · rw [if_pos ((hasNext_iff t).mpr h), dif_pos (by omega)]
        exact hd _ (by show (15 - t.val % 16) * 512 + s.val - 1 = _; omega)
      · rw [if_neg (fun g => h ((hasNext_iff t).mp g)), dif_neg (by omega)]
    · rw [dif_neg h1, dif_pos (by omega)]
      exact hx _ _ (by show (15 - t.val % 16) * 512 + s.val - 1 = (15 - t.val % 16) * 512 + (s.val - 1); omega)

/-! ## The result as a function of the arguments -/

/-- The convolved columns. -/
def result : Vec Ideal S2x8192x3072 .bf16 := fun i => Cert.Conv.silu (Xbc.conv (parg m c) (warg m c) (barg m c) (i 0) (i 1) (i 2))

/-- The convolution and its activation at one place of a block, from the array. -/
theorem place_conv (t : Fin cfg0.N) (f : ℕ → EReal) (w : Vec Ideal S3x3072 .f32) (b : Vec Ideal S1x3072 .f32) (r : Fin 512) (n : Fin 3072)
    (B : Fin 2) (S : Fin 8192) (hS : S.val = (15 - t.val % 16) * 512 + r.val)
    (hf : ∀ s : Fin 514, f s.val = Xbc.row (parg m c) B ((15 - t.val % 16) * 512 + s.val) n)
    (hw : iblk m c 10 t = w) (hb : iblk m c 11 t = b) :
    place f w b r.val n = Cert.Conv.silu (Xbc.conv (parg m c) (warg m c) (barg m c) B S n) := by
  subst hw hb
  unfold place Xbc.conv
  have f0 := hf ⟨r.val, by omega⟩
  have f1 := hf ⟨r.val + 1, by omega⟩
  have f2 := hf ⟨r.val + 2, by omega⟩
  simp only [] at f0 f1 f2
  rw [f0, f1, f2, hS]
  have e0 := blk10 m c t 0 n
  have e1 := blk10 m c t 1 n
  have e2 := blk10 m c t 2 n
  have e3 := blk11 m c t n
  exact congrArg Cert.Conv.silu (congr (congrArg (HAdd.hAdd (α := EReal) (β := EReal) (γ := EReal))
    (congr (congrArg (HAdd.hAdd (α := EReal) (β := EReal) (γ := EReal))
      (congr (congrArg (HAdd.hAdd (α := EReal) (β := EReal) (γ := EReal))
        (congrArg (HMul.hMul (α := EReal) (β := EReal) (γ := EReal) _) e0))
        (congrArg (HMul.hMul (α := EReal) (β := EReal) (γ := EReal) _) e1)))
      (congrArg (HMul.hMul (α := EReal) (β := EReal) (γ := EReal) _) e2))) e3)

/-- A window's padded rows are rows of the padded array. -/
theorem wrow_row (t : Fin cfg0.N) (x0 : Vec Ideal S1x512x1024 .bf16) (x1 x2 : Vec Ideal S1x16x1024 .bf16) (x3 : Vec Ideal S1x512x1024 .bf16)
    (x4 x5 : Vec Ideal S1x16x1024 .bf16) (x6 : Vec Ideal S1x512x1024 .bf16) (x7 x8 : Vec Ideal S1x16x1024 .bf16)
    (h0 : iblk m c 0 t = x0) (h1 : iblk m c 1 t = x1) (h2 : iblk m c 2 t = x2) (h3 : iblk m c 3 t = x3) (h4 : iblk m c 4 t = x4) (h5 : iblk m c 5 t = x5) (h6 : iblk m c 6 t = x6) (h7 : iblk m c 7 t = x7) (h8 : iblk m c 8 t = x8) (g : Fin 3) (k : Fin 1024) (n : Fin 3072)
    (hn : n.val = g.val * 1024 + k.val) (B : Fin 2) (hB : B.val = t.val / 16) (s : Fin 514) :
    wrow (grid0.coords t) x0 x1 x2 x3 x4 x5 x6 x7 x8 g k s.val = Xbc.row (parg m c) B ((15 - t.val % 16) * 512 + s.val) n := by
  unfold wrow
  rw [dif_pos s.isLt]
  obtain ⟨g, hg⟩ := g
  obtain rfl | rfl | rfl : g = 0 ∨ g = 1 ∨ g = 2 := by omega
  · show brow _ _ x0 x1 x2 s k = _
    exact brow_row t x1 x2 x0 (parg m c) k B n
      (fun S hS => (congrFun h1 (ix3 0 15 k)).symm.trans (blk1 m c t 15 k B S _ hB hS hn))
      (fun S hS => (congrFun h2 (ix3 0 0 k)).symm.trans (blk2 m c t 0 k B S _ hB hS hn))
      (fun r S hS => (congrFun h0 (ix3 0 r k)).symm.trans (blk0 m c t r k B S _ hB hS hn)) s
  · show brow _ _ x3 x4 x5 s k = _
    exact brow_row t x4 x5 x3 (parg m c) k B n
      (fun S hS => (congrFun h4 (ix3 0 15 k)).symm.trans (blk4 m c t 15 k B S _ hB hS hn))
      (fun S hS => (congrFun h5 (ix3 0 0 k)).symm.trans (blk5 m c t 0 k B S _ hB hS hn))
      (fun r S hS => (congrFun h3 (ix3 0 r k)).symm.trans (blk3 m c t r k B S _ hB hS hn)) s
  · show brow _ _ x6 x7 x8 s k = _
    exact brow_row t x7 x8 x6 (parg m c) k B n
      (fun S hS => (congrFun h7 (ix3 0 15 k)).symm.trans (blk7 m c t 15 k B S _ hB hS hn))
      (fun S hS => (congrFun h8 (ix3 0 0 k)).symm.trans (blk8 m c t 0 k B S _ hB hS hn))
      (fun r S hS => (congrFun h6 (ix3 0 r k)).symm.trans (blk6 m c t r k B S _ hB hS hn)) s

/-- What point `t` leaves. -/
theorem val_eq (t : Fin cfg0.N) (x0 : Vec Ideal S1x512x1024 .bf16) (x1 x2 : Vec Ideal S1x16x1024 .bf16) (x3 : Vec Ideal S1x512x1024 .bf16)
    (x4 x5 : Vec Ideal S1x16x1024 .bf16) (x6 : Vec Ideal S1x512x1024 .bf16) (x7 x8 : Vec Ideal S1x16x1024 .bf16)
    (w : Vec Ideal S3x3072 .f32) (b : Vec Ideal S1x3072 .f32)
    (h0 : iblk m c 0 t = x0) (h1 : iblk m c 1 t = x1) (h2 : iblk m c 2 t = x2) (h3 : iblk m c 3 t = x3) (h4 : iblk m c 4 t = x4) (h5 : iblk m c 5 t = x5) (h6 : iblk m c 6 t = x6) (h7 : iblk m c 7 t = x7) (h8 : iblk m c 8 t = x8)
    (hw : iblk m c 10 t = w) (hb : iblk m c 11 t = b) (r : Fin 512) (n : Fin 3072)
    (B : Fin 2) (S : Fin 8192) (hB : B.val = t.val / 16) (hS : S.val = (15 - t.val % 16) * 512 + r.val) :
    val (grid0.coords t) x0 x1 x2 x3 x4 x5 x6 x7 x8 w b (ix3 0 r n) = result m c (ix3 B S n) := by
  refine place_conv m c t _ w b r n B S hS (fun s => ?_) hw hb
  exact wrow_row m c t x0 x1 x2 x3 x4 x5 x6 x7 x8 h0 h1 h2 h3 h4 h5 h6 h7 h8 _ _ n
    (by show n.val = n.val / 1024 * 1024 + n.val % 1024; omega) B hB s

/-- The second of three. -/
theorem second {α β γ : Type} {o : α × β × γ} {p : α} {q : β} {r : γ} (h : o = (p, q, r)) : o.2.1 = q :=
  h ▸ rfl

/-- What the body leaves at point `t`, in either case. -/
theorem out_val (t : Fin cfg0.N) (y : S1x512x3072.Idx) : (outsAt0 m c t.val t.isLt).2.1 y
    = val (grid0.coords t) (iblk m c 0 t) (iblk m c 1 t) (iblk m c 2 t) (iblk m c 3 t) (iblk m c 4 t) (iblk m c 5 t) (iblk m c 6 t) (iblk m c 7 t) (iblk m c 8 t) (iblk m c 10 t) (iblk m c 11 t) y := by
  by_cases h0 : t.val % 16 = 0
  · exact (congrFun (second (outsAt0_A m c t h0)) y).trans (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) y)
  · exact (congrFun (second (outsAt0_B m c t h0)) y).trans (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (fun h => h0 ((hcond0_0 t).mp h))
      (outsAt0 m c (t.val - 1) (Nat.lt_of_le_of_lt (Nat.sub_le _ _) t.isLt)).2.2 y)

/-- Each point writes its block of the result. -/
theorem flushed (t : Fin cfg0.N) : (dats m 0 c).flushed 16 t = ((cfg0.win 16).blk t).view.read (Elt Ideal) (result m c) := by
  funext y
  rw [View.read_apply]
  show (dats m 0 c).after 16 t y = result m c ((win0_16.rect t).emb y)
  rw [after0_16]
  refine (out_val m c t y).trans ?_
  idx_vars y
  obtain rfl : y0 = 0 := Subsingleton.elim _ _
  have ht : t.val < 32 := (show cfg0.N = 32 from N_0) ▸ t.isLt
  have e : (win0_16.rect t).emb (ix3 0 y1 y2) = ix3 ⟨t.val / 16, by omega⟩ ⟨(15 - t.val % 16) * 512 + y1.val, by omega⟩ y2 :=
    funext fun a => Fin.ext <| by
      refine (win0_16.rect_emb_val t (ix3 0 y1 y2) a).trans ?_
      fin_cases a <;> simp [show win0_16.index t = ![t.val / 16, 15 - t.val % 16, 0] from idx16 t]
  rw [e]
  exact val_eq m c t _ _ _ _ _ _ _ _ _ _ _ rfl rfl rfl rfl rfl rfl rfl rfl rfl rfl rfl y1 y2 _ _ rfl rfl

/-- The blocks fill the result. -/
theorem cover (i : S2x8192x3072.Idx) : ∃ t : Fin cfg0.N, (cfg0.win 16).flush t = true ∧ i ∈ ((cfg0.win 16).blk t).view.set := by
  idx_vars i
  have hN : cfg0.N = 32 := N_0
  have h1 : i1.val < 8192 := i1.isLt
  obtain ⟨t, ht⟩ : ∃ t : Fin cfg0.N, t.val = i0.val * 16 + (15 - i1.val / 512) := ⟨⟨i0.val * 16 + (15 - i1.val / 512), by omega⟩, rfl⟩
  refine ⟨t, flush0_16 _, ?_⟩
  show _ ∈ ((View.whole main_v21_1).slice (win0_16.rect _)).set
  rw [View.set_slice_whole, win0_16.mem_rect_iff]
  intro a
  rw [show win0_16.index t = ![t.val / 16, 15 - t.val % 16, 0] from idx16 t]
  match a with
  | ⟨0, _⟩ => show t.val / 16 * 1 ≤ i0.val ∧ i0.val < t.val / 16 * 1 + 1; omega
  | ⟨1, _⟩ => show (15 - t.val % 16) * 512 ≤ i1.val ∧ i1.val < (15 - t.val % 16) * 512 + 512; omega
  | ⟨2, _⟩ => show 0 * 3072 ≤ i2.val ∧ i2.val < 0 * 3072 + 3072; omega

/-- The final array is the result. -/
theorem final : (dats m 0 c).arrAt 16 cfg0.N = result m c :=
  (dats m 0 c).arrAt_eq_of_cover 16 (result m c) (fun t _ => flushed m c t) cover

end Cert.Kernel8Ideal.Run

end
-- ==== Proof.XbcClaim.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.XbcValue

/-! # The Mamba-2 group's backward scan: the claim
Of this call's results the convolved columns are claimed: the kernel's and the plain program's are one function
of the arguments. -/

@[expose] public section

set_option maxRecDepth 16384

noncomputable section

namespace Cert.Xbc

open Idealize.ShloMosaic Idealize.ShloMosaic.TcCoe Idealize.SL.Sem Cert.Reference8Ideal.Read Cert.Kernel8Ideal.Run

/-- The plain program's columns at the arguments of the kernel. -/
theorem ref_eq (m : (ℓ : Loc Kernel8Ideal.nD Kernel8Ideal.τ Kernel8Ideal.sig) → Buf (Elt Ideal) ℓ) (c : Dev Kernel8Ideal.nD) :
    val_main_v32 (F := Ideal) (parg m c) (warg m c) (barg m c) = result m c := by
  funext i; idx_vars i; exact ref_entry _ _ _ i0 i1 i2

/-- From equal arguments the kernel and the plain program end with equal columns, and their arguments unchanged. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨result m, ?_, ?_⟩
  · refine (θ_run _ _ _).mono (fun r h c => ?_) (Cert.Kernel8Ideal.Value.run_blocks (F := Ideal) m g)
    obtain ⟨_, h0, _, ha⟩ := h c
    exact ⟨h0.trans (final m c), ha⟩
  · refine (θ_run _ _ _).mono (fun r h c => ?_) (Cert.Reference8Ideal.Value.run (F := Ideal) m' g')
    obtain ⟨h0, ha⟩ := h c
    obtain ⟨e0, _, e2, e3, _⟩ := hargs c
    refine ⟨h0.trans ?_, ha⟩
    rw [val_main_v32_eq, e0, e2, e3]; exact ref_eq m c

/-- The frame over the extended reals. -/
theorem frame_kernel : Cert.quiescent_Kernel8Ideal (hKernel8Ideal := Cert.Kernel8Ideal.Gen.facts) :=
  fun m g _ => Cert.Kernel8Ideal.Gen.frame m g

/-- The frame at float words. -/
theorem frame_machine : Cert.quiescent_Kernel8 (hKernel8 := Cert.Kernel8.Gen.facts) :=
  fun m g _ => Cert.Kernel8.Gen.frame m g

/-- The plain program's frame: it has no counter. -/
theorem frame_reference : Cert.quiescent_Reference8Ideal (hReference8Ideal := Cert.Reference8Ideal.Gen.facts) := fun m g _ =>
  (θ_run _ _ _).mono (fun r h => ⟨fun c => (h c).2, sem_eq_zero_of_no_sems (by decide) r.2⟩)
    (Cert.Reference8Ideal.Value.run (F := Ideal) m g)

end Cert.Xbc

end
-- ==== Proof.ScanClaim.lean ====
module

public import proofs.«01_k».proof.Defs
public import proofs.«01_k».proof.Proof.Gen.Kernel7.Frame
public import proofs.«01_k».proof.Proof.Gen.Kernel7Ideal.Frame
public import proofs.«01_k».proof.Proof.Gen.Kernel9.Frame
public import proofs.«01_k».proof.Proof.Gen.Kernel9Ideal.Frame

/-! # The other scans: their frames
Of these two calls only the frame is claimed, at float words and over the extended reals. -/

@[expose] public section

noncomputable section

namespace Cert.Scan

open Idealize.ShloMosaic Idealize.ShloMosaic.TcCoe Idealize.SL.Sem

/-- The mLSTM group's forward scan: the frame at float words. -/
theorem frame_machine7 : Cert.quiescent_Kernel7 (hKernel7 := Cert.Kernel7.Gen.facts) :=
  fun m g _ => Cert.Kernel7.Gen.frame m g

/-- The mLSTM group's forward scan: the frame over the extended reals. -/
theorem frame_kernel7 : Cert.quiescent_Kernel7Ideal (hKernel7Ideal := Cert.Kernel7Ideal.Gen.facts) :=
  fun m g _ => Cert.Kernel7Ideal.Gen.frame m g

/-- The Mamba-2 group's forward scan: the frame at float words. -/
theorem frame_machine9 : Cert.quiescent_Kernel9 (hKernel9 := Cert.Kernel9.Gen.facts) :=
  fun m g _ => Cert.Kernel9.Gen.frame m g

/-- The Mamba-2 group's forward scan: the frame over the extended reals. -/
theorem frame_kernel9 : Cert.quiescent_Kernel9Ideal (hKernel9Ideal := Cert.Kernel9Ideal.Gen.facts) :=
  fun m g _ => Cert.Kernel9Ideal.Gen.frame m g

end Cert.Scan

end
-- ==== Proof.lean ====
module

public import proofs.«01_k».proof.Defs
public import proofs.«01_k».proof.Proof.CtxClaim
public import proofs.«01_k».proof.Proof.LatClaim
public import proofs.«01_k».proof.Proof.SsdClaim
public import proofs.«01_k».proof.Proof.OutClaim
public import proofs.«01_k».proof.Proof.AdaClaim
public import proofs.«01_k».proof.Proof.ConvClaim
public import proofs.«01_k».proof.Proof.XbcClaim
public import proofs.«01_k».proof.Proof.ScanClaim

@[expose] public section

noncomputable section

namespace Cert.Proof

/-- All claims of the certificate. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel8.Gen.facts, Cert.Kernel8Ideal.Gen.facts, Cert.Reference8Ideal.Gen.facts,
   Cert.Kernel7.Gen.facts, Cert.Kernel7Ideal.Gen.facts, Cert.Kernel9.Gen.facts, Cert.Kernel9Ideal.Gen.facts,
   Cert.Ctx.frame_machine, Cert.Ctx.frame_kernel, Cert.Ctx.frame_reference,
   Cert.Lat.frame_machine, Cert.Lat.frame_kernel, Cert.Lat.frame_reference,
   Cert.Ssd.frame_machine, Cert.Ssd.frame_kernel, Cert.Ssd.frame_reference,
   Cert.Out.frame_machine, Cert.Out.frame_kernel, Cert.Out.frame_reference,
   Cert.Ada.frame_machine, Cert.Ada.frame_kernel, Cert.Ada.frame_reference,
   Cert.Conv.frame_machine, Cert.Conv.frame_kernel, Cert.Conv.frame_reference,
   Cert.Xbc.frame_machine, Cert.Xbc.frame_kernel, Cert.Xbc.frame_reference,
   Cert.Scan.frame_machine7, Cert.Scan.frame_kernel7, Cert.Scan.frame_machine9, Cert.Scan.frame_kernel9,
   trivial, Cert.Ctx.algebraic, trivial, Cert.Lat.algebraic, trivial, Cert.Ssd.algebraic, trivial, Cert.Out.algebraic,
   trivial, Cert.Ada.algebraic, trivial, Cert.Conv.algebraic, trivial, Cert.Xbc.algebraic, trivial, trivial⟩

end Cert.Proof

end
